-- ==== Defs.lean ====
def Pre_Kernel (m : (ℓ : Loc Cert.Kernel.nD Cert.Kernel.τ Cert.Kernel.sig) → Buf (Elt Bits) ℓ) : Prop :=
  True

def Pre_Experts [hPre_tiles_in_range : Cert.Pre_tiles_in_range.Facts] (m : (ℓ : Loc Cert.Experts.nD Cert.Experts.τ Cert.Experts.sig) → Buf (Elt Bits) ℓ) : Prop :=
  ∀ c : Dev Cert.Experts.nD,
    (Cert.Pre_tiles_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7)) (m ((c.tc : Thread Cert.Experts.nD Cert.Experts.τ).loc Cert.Experts.main_arg8))) = (fun _ => 1#1)

def Pre_ExpertsIdeal [hPre_tiles_in_range : Cert.Pre_tiles_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7)) (m ((c.tc : Thread Cert.ExpertsIdeal.nD Cert.ExpertsIdeal.τ).loc Cert.ExpertsIdeal.main_arg8))) = (fun _ => 1#1)

def Pre_HierIdeal (m : (ℓ : Loc Cert.HierIdeal.nD Cert.HierIdeal.τ Cert.HierIdeal.sig) → Buf (Elt Ideal) ℓ) : Prop :=
  True

def Pre_HierIdeal_tiles_in_range [hPre_tiles_in_range : Cert.Pre_tiles_in_range.Facts] (m : (ℓ : Loc Cert.HierIdeal.nD Cert.HierIdeal.τ Cert.HierIdeal.sig) → Buf (Elt Ideal) ℓ) : Prop :=
  ∀ c : Dev Cert.HierIdeal.nD,
    (Cert.Pre_tiles_in_range.fn (F := Ideal) (m ((c.tc : Thread Cert.HierIdeal.nD Cert.HierIdeal.τ).loc Cert.HierIdeal.main_arg0)) (m ((c.tc : Thread Cert.HierIdeal.nD Cert.HierIdeal.τ).loc Cert.HierIdeal.main_arg1)) (m ((c.tc : Thread Cert.HierIdeal.nD Cert.HierIdeal.τ).loc Cert.HierIdeal.main_arg2)) (m ((c.tc : Thread Cert.HierIdeal.nD Cert.HierIdeal.τ).loc Cert.HierIdeal.main_arg3)) (m ((c.tc : Thread Cert.HierIdeal.nD Cert.HierIdeal.τ).loc Cert.HierIdeal.main_arg4)) (m ((c.tc : Thread Cert.HierIdeal.nD Cert.HierIdeal.τ).loc Cert.HierIdeal.main_arg5)) (m ((c.tc : Thread Cert.HierIdeal.nD Cert.HierIdeal.τ).loc Cert.HierIdeal.main_arg6)) (m ((c.tc : Thread Cert.HierIdeal.nD Cert.HierIdeal.τ).loc Cert.HierIdeal.main_arg7)) (m ((c.tc : Thread Cert.HierIdeal.nD Cert.HierIdeal.τ).loc Cert.HierIdeal.main_arg8))) = (fun _ => 1#1)

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_StateIn (m : (ℓ : Loc Cert.StateIn.nD Cert.StateIn.τ Cert.StateIn.sig) → Buf (Elt Bits) ℓ) : Prop :=
  True

def Pre_StateInIdeal (m : (ℓ : Loc Cert.StateInIdeal.nD Cert.StateInIdeal.τ Cert.StateInIdeal.sig) → Buf (Elt Ideal) ℓ) : Prop :=
  True

def Pre_StateInRefIdeal (m : (ℓ : Loc Cert.StateInRefIdeal.nD Cert.StateInRefIdeal.τ Cert.StateInRefIdeal.sig) → Buf (Elt Ideal) ℓ) : Prop :=
  True

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Experts [hExperts : Cert.Experts.Facts] [hPre_tiles_in_range : Cert.Pre_tiles_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7)
      ∧ r.2.mem ((c.tc : Thread Cert.Experts.nD Cert.Experts.τ).loc Cert.Experts.main_arg8) = m ((c.tc : Thread Cert.Experts.nD Cert.Experts.τ).loc Cert.Experts.main_arg8))
      ∧ r.2.sem = fun _ => 0)

def quiescent_ExpertsIdeal [hExpertsIdeal : Cert.ExpertsIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
      ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ r.2.sem = fun _ => 0)

def quiescent_HierIdeal [hHierIdeal : Cert.HierIdeal.Facts] : Prop :=
  ∀ (m : (ℓ : Loc Cert.HierIdeal.nD Cert.HierIdeal.τ Cert.HierIdeal.sig) → Buf (Elt Ideal) ℓ) (g : Dev Cert.HierIdeal.nD → PrngReg), Pre_HierIdeal m →
    θ_run (Cert.HierIdeal.defs (F := Ideal)) (onTc (τ := Cert.HierIdeal.τ) (Cert.HierIdeal.main (F := Ideal))) ⟨m, fun _ => 0, g⟩ (fun r => (∀ c : Dev Cert.HierIdeal.nD,
      r.2.mem ((c.tc : Thread Cert.HierIdeal.nD Cert.HierIdeal.τ).loc Cert.HierIdeal.main_arg0) = m ((c.tc : Thread Cert.HierIdeal.nD Cert.HierIdeal.τ).loc Cert.HierIdeal.main_arg0)
      ∧ r.2.mem ((c.tc : Thread Cert.HierIdeal.nD Cert.HierIdeal.τ).loc Cert.HierIdeal.main_arg1) = m ((c.tc : Thread Cert.HierIdeal.nD Cert.HierIdeal.τ).loc Cert.HierIdeal.main_arg1)
      ∧ r.2.mem ((c.tc : Thread Cert.HierIdeal.nD Cert.HierIdeal.τ).loc Cert.HierIdeal.main_arg2) = m ((c.tc : Thread Cert.HierIdeal.nD Cert.HierIdeal.τ).loc Cert.HierIdeal.main_arg2)
      ∧ r.2.mem ((c.tc : Thread Cert.HierIdeal.nD Cert.HierIdeal.τ).loc Cert.HierIdeal.main_arg3) = m ((c.tc : Thread Cert.HierIdeal.nD Cert.HierIdeal.τ).loc Cert.HierIdeal.main_arg3)
      ∧ r.2.mem ((c.tc : Thread Cert.HierIdeal.nD Cert.HierIdeal.τ).loc Cert.HierIdeal.main_arg4) = m ((c.tc : Thread Cert.HierIdeal.nD Cert.HierIdeal.τ).loc Cert.HierIdeal.main_arg4)
      ∧ r.2.mem ((c.tc : Thread Cert.HierIdeal.nD Cert.HierIdeal.τ).loc Cert.HierIdeal.main_arg5) = m ((c.tc : Thread Cert.HierIdeal.nD Cert.HierIdeal.τ).loc Cert.HierIdeal.main_arg5)
      ∧ r.2.mem ((c.tc : Thread Cert.HierIdeal.nD Cert.HierIdeal.τ).loc Cert.HierIdeal.main_arg6) = m ((c.tc : Thread Cert.HierIdeal.nD Cert.HierIdeal.τ).loc Cert.HierIdeal.main_arg6)
      ∧ r.2.mem ((c.tc : Thread Cert.HierIdeal.nD Cert.HierIdeal.τ).loc Cert.HierIdeal.main_arg7) = m ((c.tc : Thread Cert.HierIdeal.nD Cert.HierIdeal.τ).loc Cert.HierIdeal.main_arg7)
      ∧ r.2.mem ((c.tc : Thread Cert.HierIdeal.nD Cert.HierIdeal.τ).loc Cert.HierIdeal.main_arg8) = m ((c.tc : Thread Cert.HierIdeal.nD Cert.HierIdeal.τ).loc Cert.HierIdeal.main_arg8))
      ∧ r.2.sem = fun _ => 0)

def quiescent_HierIdeal_pre_tiles_in_range [hHierIdeal : Cert.HierIdeal.Facts] [hPre_tiles_in_range : Cert.Pre_tiles_in_range.Facts] : Prop :=
  ∀ (m : (ℓ : Loc Cert.HierIdeal.nD Cert.HierIdeal.τ Cert.HierIdeal.sig) → Buf (Elt Ideal) ℓ) (g : Dev Cert.HierIdeal.nD → PrngReg), Pre_HierIdeal_tiles_in_range m →
    θ_run (Cert.HierIdeal.defs (F := Ideal)) (onTc (τ := Cert.HierIdeal.τ) (Cert.HierIdeal.main (F := Ideal))) ⟨m, fun _ => 0, g⟩ (fun r => (∀ c : Dev Cert.HierIdeal.nD,
      r.2.mem ((c.tc : Thread Cert.HierIdeal.nD Cert.HierIdeal.τ).loc Cert.HierIdeal.main_arg0) = m ((c.tc : Thread Cert.HierIdeal.nD Cert.HierIdeal.τ).loc Cert.HierIdeal.main_arg0)
      ∧ r.2.mem ((c.tc : Thread Cert.HierIdeal.nD Cert.HierIdeal.τ).loc Cert.HierIdeal.main_arg1) = m ((c.tc : Thread Cert.HierIdeal.nD Cert.HierIdeal.τ).loc Cert.HierIdeal.main_arg1)
      ∧ r.2.mem ((c.tc : Thread Cert.HierIdeal.nD Cert.HierIdeal.τ).loc Cert.HierIdeal.main_arg2) = m ((c.tc : Thread Cert.HierIdeal.nD Cert.HierIdeal.τ).loc Cert.HierIdeal.main_arg2)
      ∧ r.2.mem ((c.tc : Thread Cert.HierIdeal.nD Cert.HierIdeal.τ).loc Cert.HierIdeal.main_arg3) = m ((c.tc : Thread Cert.HierIdeal.nD Cert.HierIdeal.τ).loc Cert.HierIdeal.main_arg3)
      ∧ r.2.mem ((c.tc : Thread Cert.HierIdeal.nD Cert.HierIdeal.τ).loc Cert.HierIdeal.main_arg4) = m ((c.tc : Thread Cert.HierIdeal.nD Cert.HierIdeal.τ).loc Cert.HierIdeal.main_arg4)
      ∧ r.2.mem ((c.tc : Thread Cert.HierIdeal.nD Cert.HierIdeal.τ).loc Cert.HierIdeal.main_arg5) = m ((c.tc : Thread Cert.HierIdeal.nD Cert.HierIdeal.τ).loc Cert.HierIdeal.main_arg5)
      ∧ r.2.mem ((c.tc : Thread Cert.HierIdeal.nD Cert.HierIdeal.τ).loc Cert.HierIdeal.main_arg6) = m ((c.tc : Thread Cert.HierIdeal.nD Cert.HierIdeal.τ).loc Cert.HierIdeal.main_arg6)
      ∧ r.2.mem ((c.tc : Thread Cert.HierIdeal.nD Cert.HierIdeal.τ).loc Cert.HierIdeal.main_arg7) = m ((c.tc : Thread Cert.HierIdeal.nD Cert.HierIdeal.τ).loc Cert.HierIdeal.main_arg7)
      ∧ r.2.mem ((c.tc : Thread Cert.HierIdeal.nD Cert.HierIdeal.τ).loc Cert.HierIdeal.main_arg8) = m ((c.tc : Thread Cert.HierIdeal.nD Cert.HierIdeal.τ).loc Cert.HierIdeal.main_arg8))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4)
      ∧ r.2.mem ((c.tc : Thread Cert.Glu.nD Cert.Glu.τ).loc Cert.Glu.main_arg5) = m ((c.tc : Thread Cert.Glu.nD Cert.Glu.τ).loc Cert.Glu.main_arg5)
      ∧ r.2.mem ((c.tc : Thread Cert.Glu.nD Cert.Glu.τ).loc Cert.Glu.main_arg6) = m ((c.tc : Thread Cert.Glu.nD Cert.Glu.τ).loc Cert.Glu.main_arg6))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
      ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
      ∧ r.2.mem ((c.tc : Thread Cert.GluIdeal.nD Cert.GluIdeal.τ).loc Cert.GluIdeal.main_arg6) = m ((c.tc : Thread Cert.GluIdeal.nD Cert.GluIdeal.τ).loc Cert.GluIdeal.main_arg6))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4)
      ∧ r.2.mem ((c.tc : Thread Cert.GluRefIdeal.nD Cert.GluRefIdeal.τ).loc Cert.GluRefIdeal.main_arg5) = m ((c.tc : Thread Cert.GluRefIdeal.nD Cert.GluRefIdeal.τ).loc Cert.GluRefIdeal.main_arg5)
      ∧ r.2.mem ((c.tc : Thread Cert.GluRefIdeal.nD Cert.GluRefIdeal.τ).loc Cert.GluRefIdeal.main_arg6) = m ((c.tc : Thread Cert.GluRefIdeal.nD Cert.GluRefIdeal.τ).loc Cert.GluRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_StateIn [hStateIn : Cert.StateIn.Facts] : Prop :=
  ∀ (m : (ℓ : Loc Cert.StateIn.nD Cert.StateIn.τ Cert.StateIn.sig) → Buf (Elt Bits) ℓ) (g : Dev Cert.StateIn.nD → PrngReg), Pre_StateIn m →
    θ_run (Cert.StateIn.defs (F := Bits)) (onTc (τ := Cert.StateIn.τ) (Cert.StateIn.main (F := Bits))) ⟨m, fun _ => 0, g⟩ (fun r => (∀ c : Dev Cert.StateIn.nD,
      r.2.mem ((c.tc : Thread Cert.StateIn.nD Cert.StateIn.τ).loc Cert.StateIn.main_arg0) = m ((c.tc : Thread Cert.StateIn.nD Cert.StateIn.τ).loc Cert.StateIn.main_arg0)
      ∧ r.2.mem ((c.tc : Thread Cert.StateIn.nD Cert.StateIn.τ).loc Cert.StateIn.main_arg1) = m ((c.tc : Thread Cert.StateIn.nD Cert.StateIn.τ).loc Cert.StateIn.main_arg1))
      ∧ r.2.sem = fun _ => 0)

def quiescent_StateInIdeal [hStateInIdeal : Cert.StateInIdeal.Facts] : Prop :=
  ∀ (m : (ℓ : Loc Cert.StateInIdeal.nD Cert.StateInIdeal.τ Cert.StateInIdeal.sig) → Buf (Elt Ideal) ℓ) (g : Dev Cert.StateInIdeal.nD → PrngReg), Pre_StateInIdeal m →
    θ_run (Cert.StateInIdeal.defs (F := Ideal)) (onTc (τ := Cert.StateInIdeal.τ) (Cert.StateInIdeal.main (F := Ideal))) ⟨m, fun _ => 0, g⟩ (fun r => (∀ c : Dev Cert.StateInIdeal.nD,
      r.2.mem ((c.tc : Thread Cert.StateInIdeal.nD Cert.StateInIdeal.τ).loc Cert.StateInIdeal.main_arg0) = m ((c.tc : Thread Cert.StateInIdeal.nD Cert.StateInIdeal.τ).loc Cert.StateInIdeal.main_arg0)
      ∧ r.2.mem ((c.tc : Thread Cert.StateInIdeal.nD Cert.StateInIdeal.τ).loc Cert.StateInIdeal.main_arg1) = m ((c.tc : Thread Cert.StateInIdeal.nD Cert.StateInIdeal.τ).loc Cert.StateInIdeal.main_arg1))
      ∧ r.2.sem = fun _ => 0)

def quiescent_StateInRefIdeal [hStateInRefIdeal : Cert.StateInRefIdeal.Facts] : Prop :=
  ∀ (m : (ℓ : Loc Cert.StateInRefIdeal.nD Cert.StateInRefIdeal.τ Cert.StateInRefIdeal.sig) → Buf (Elt Ideal) ℓ) (g : Dev Cert.StateInRefIdeal.nD → PrngReg), Pre_StateInRefIdeal m →
    θ_run (Cert.StateInRefIdeal.defs (F := Ideal)) (onTc (τ := Cert.StateInRefIdeal.τ) (Cert.StateInRefIdeal.main (F := Ideal))) ⟨m, fun _ => 0, g⟩ (fun r => (∀ c : Dev Cert.StateInRefIdeal.nD,
      r.2.mem ((c.tc : Thread Cert.StateInRefIdeal.nD Cert.StateInRefIdeal.τ).loc Cert.StateInRefIdeal.main_arg0) = m ((c.tc : Thread Cert.StateInRefIdeal.nD Cert.StateInRefIdeal.τ).loc Cert.StateInRefIdeal.main_arg0)
      ∧ r.2.mem ((c.tc : Thread Cert.StateInRefIdeal.nD Cert.StateInRefIdeal.τ).loc Cert.StateInRefIdeal.main_arg1) = m ((c.tc : Thread Cert.StateInRefIdeal.nD Cert.StateInRefIdeal.τ).loc Cert.StateInRefIdeal.main_arg1))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def preserves_Experts_ExpertsIdeal : Prop :=
  True

def algebraic_ExpertsIdeal_HierIdeal [hExpertsIdeal : Cert.ExpertsIdeal.Facts] [hHierIdeal : Cert.HierIdeal.Facts] [hPre_tiles_in_range : Cert.Pre_tiles_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.HierIdeal.nD Cert.HierIdeal.τ Cert.HierIdeal.sig) → Buf (Elt Ideal) ℓ) (g' : Dev Cert.HierIdeal.nD → PrngReg), Pre_ExpertsIdeal m →
    (∀ c : Dev Cert.ExpertsIdeal.nD,
      m' ((c.tc : Thread Cert.HierIdeal.nD Cert.HierIdeal.τ).loc Cert.HierIdeal.main_arg0) = m ((c.tc : Thread Cert.ExpertsIdeal.nD Cert.ExpertsIdeal.τ).loc Cert.ExpertsIdeal.main_arg0)
      ∧ m' ((c.tc : Thread Cert.HierIdeal.nD Cert.HierIdeal.τ).loc Cert.HierIdeal.main_arg1) = m ((c.tc : Thread Cert.ExpertsIdeal.nD Cert.ExpertsIdeal.τ).loc Cert.ExpertsIdeal.main_arg1)
      ∧ m' ((c.tc : Thread Cert.HierIdeal.nD Cert.HierIdeal.τ).loc Cert.HierIdeal.main_arg2) = m ((c.tc : Thread Cert.ExpertsIdeal.nD Cert.ExpertsIdeal.τ).loc Cert.ExpertsIdeal.main_arg2)
      ∧ m' ((c.tc : Thread Cert.HierIdeal.nD Cert.HierIdeal.τ).loc Cert.HierIdeal.main_arg3) = m ((c.tc : Thread Cert.ExpertsIdeal.nD Cert.ExpertsIdeal.τ).loc Cert.ExpertsIdeal.main_arg3)
      ∧ m' ((c.tc : Thread Cert.HierIdeal.nD Cert.HierIdeal.τ).loc Cert.HierIdeal.main_arg4) = m ((c.tc : Thread Cert.ExpertsIdeal.nD Cert.ExpertsIdeal.τ).loc Cert.ExpertsIdeal.main_arg4)
      ∧ m' ((c.tc : Thread Cert.HierIdeal.nD Cert.HierIdeal.τ).loc Cert.HierIdeal.main_arg5) = m ((c.tc : Thread Cert.ExpertsIdeal.nD Cert.ExpertsIdeal.τ).loc Cert.ExpertsIdeal.main_arg5)
      ∧ m' ((c.tc : Thread Cert.HierIdeal.nD Cert.HierIdeal.τ).loc Cert.HierIdeal.main_arg6) = m ((c.tc : Thread Cert.ExpertsIdeal.nD Cert.ExpertsIdeal.τ).loc Cert.ExpertsIdeal.main_arg6)
      ∧ m' ((c.tc : Thread Cert.HierIdeal.nD Cert.HierIdeal.τ).loc Cert.HierIdeal.main_arg7) = m ((c.tc : Thread Cert.ExpertsIdeal.nD Cert.ExpertsIdeal.τ).loc Cert.ExpertsIdeal.main_arg7)
      ∧ m' ((c.tc : Thread Cert.HierIdeal.nD Cert.HierIdeal.τ).loc Cert.HierIdeal.main_arg8) = m ((c.tc : Thread Cert.ExpertsIdeal.nD Cert.ExpertsIdeal.τ).loc Cert.ExpertsIdeal.main_arg8)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7)
          ∧ r.2.mem ((c.tc : Thread Cert.ExpertsIdeal.nD Cert.ExpertsIdeal.τ).loc Cert.ExpertsIdeal.main_arg8) = m ((c.tc : Thread Cert.ExpertsIdeal.nD Cert.ExpertsIdeal.τ).loc Cert.ExpertsIdeal.main_arg8))
      ∧ θ_run (Cert.HierIdeal.defs (F := Ideal)) (onTc (τ := Cert.HierIdeal.τ) (Cert.HierIdeal.main (F := Ideal))) ⟨m', fun _ => 0, g'⟩ (fun r => ∀ c : Dev Cert.HierIdeal.nD,
          r.2.mem ((c.tc : Thread Cert.HierIdeal.nD Cert.HierIdeal.τ).loc Cert.HierIdeal.main_v122) = v0 c
          ∧ r.2.mem ((c.tc : Thread Cert.HierIdeal.nD Cert.HierIdeal.τ).loc Cert.HierIdeal.main_arg0) = m' ((c.tc : Thread Cert.HierIdeal.nD Cert.HierIdeal.τ).loc Cert.HierIdeal.main_arg0)
          ∧ r.2.mem ((c.tc : Thread Cert.HierIdeal.nD Cert.HierIdeal.τ).loc Cert.HierIdeal.main_arg1) = m' ((c.tc : Thread Cert.HierIdeal.nD Cert.HierIdeal.τ).loc Cert.HierIdeal.main_arg1)
          ∧ r.2.mem ((c.tc : Thread Cert.HierIdeal.nD Cert.HierIdeal.τ).loc Cert.HierIdeal.main_arg2) = m' ((c.tc : Thread Cert.HierIdeal.nD Cert.HierIdeal.τ).loc Cert.HierIdeal.main_arg2)
          ∧ r.2.mem ((c.tc : Thread Cert.HierIdeal.nD Cert.HierIdeal.τ).loc Cert.HierIdeal.main_arg3) = m' ((c.tc : Thread Cert.HierIdeal.nD Cert.HierIdeal.τ).loc Cert.HierIdeal.main_arg3)
          ∧ r.2.mem ((c.tc : Thread Cert.HierIdeal.nD Cert.HierIdeal.τ).loc Cert.HierIdeal.main_arg4) = m' ((c.tc : Thread Cert.HierIdeal.nD Cert.HierIdeal.τ).loc Cert.HierIdeal.main_arg4)
          ∧ r.2.mem ((c.tc : Thread Cert.HierIdeal.nD Cert.HierIdeal.τ).loc Cert.HierIdeal.main_arg5) = m' ((c.tc : Thread Cert.HierIdeal.nD Cert.HierIdeal.τ).loc Cert.HierIdeal.main_arg5)
          ∧ r.2.mem ((c.tc : Thread Cert.HierIdeal.nD Cert.HierIdeal.τ).loc Cert.HierIdeal.main_arg6) = m' ((c.tc : Thread Cert.HierIdeal.nD Cert.HierIdeal.τ).loc Cert.HierIdeal.main_arg6)
          ∧ r.2.mem ((c.tc : Thread Cert.HierIdeal.nD Cert.HierIdeal.τ).loc Cert.HierIdeal.main_arg7) = m' ((c.tc : Thread Cert.HierIdeal.nD Cert.HierIdeal.τ).loc Cert.HierIdeal.main_arg7)
          ∧ r.2.mem ((c.tc : Thread Cert.HierIdeal.nD Cert.HierIdeal.τ).loc Cert.HierIdeal.main_arg8) = m' ((c.tc : Thread Cert.HierIdeal.nD Cert.HierIdeal.τ).loc Cert.HierIdeal.main_arg8))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)
      ∧ m' ((c.tc : Thread Cert.GluRefIdeal.nD Cert.GluRefIdeal.τ).loc Cert.GluRefIdeal.main_arg5) = m ((c.tc : Thread Cert.GluIdeal.nD Cert.GluIdeal.τ).loc Cert.GluIdeal.main_arg5)
      ∧ m' ((c.tc : Thread Cert.GluRefIdeal.nD Cert.GluRefIdeal.τ).loc Cert.GluRefIdeal.main_arg6) = m ((c.tc : Thread Cert.GluIdeal.nD Cert.GluIdeal.τ).loc Cert.GluIdeal.main_arg6)) →
    ∃ (v0 : (c : Dev Cert.GluIdeal.nD) → Buf (Elt Ideal) ((c.tc : Thread Cert.GluIdeal.nD Cert.GluIdeal.τ).loc Cert.GluIdeal.main_v5)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v5) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4)
          ∧ r.2.mem ((c.tc : Thread Cert.GluIdeal.nD Cert.GluIdeal.τ).loc Cert.GluIdeal.main_arg5) = m ((c.tc : Thread Cert.GluIdeal.nD Cert.GluIdeal.τ).loc Cert.GluIdeal.main_arg5)
          ∧ r.2.mem ((c.tc : Thread Cert.GluIdeal.nD Cert.GluIdeal.τ).loc Cert.GluIdeal.main_arg6) = m ((c.tc : Thread Cert.GluIdeal.nD Cert.GluIdeal.τ).loc Cert.GluIdeal.main_arg6))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v37) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4)
          ∧ r.2.mem ((c.tc : Thread Cert.GluRefIdeal.nD Cert.GluRefIdeal.τ).loc Cert.GluRefIdeal.main_arg5) = m' ((c.tc : Thread Cert.GluRefIdeal.nD Cert.GluRefIdeal.τ).loc Cert.GluRefIdeal.main_arg5)
          ∧ r.2.mem ((c.tc : Thread Cert.GluRefIdeal.nD Cert.GluRefIdeal.τ).loc Cert.GluRefIdeal.main_arg6) = m' ((c.tc : Thread Cert.GluRefIdeal.nD Cert.GluRefIdeal.τ).loc Cert.GluRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v3)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v3) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v30) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_StateIn_StateInIdeal : Prop :=
  True

def algebraic_StateInIdeal_StateInRefIdeal [hStateInIdeal : Cert.StateInIdeal.Facts] [hStateInRefIdeal : Cert.StateInRefIdeal.Facts] : Prop :=
  ∀ (m : (ℓ : Loc Cert.StateInIdeal.nD Cert.StateInIdeal.τ Cert.StateInIdeal.sig) → Buf (Elt Ideal) ℓ) (g : Dev Cert.StateInIdeal.nD → PrngReg)
    (m' : (ℓ : Loc Cert.StateInRefIdeal.nD Cert.StateInRefIdeal.τ Cert.StateInRefIdeal.sig) → Buf (Elt Ideal) ℓ) (g' : Dev Cert.StateInRefIdeal.nD → PrngReg), Pre_StateInIdeal m →
    (∀ c : Dev Cert.StateInIdeal.nD,
      m' ((c.tc : Thread Cert.StateInRefIdeal.nD Cert.StateInRefIdeal.τ).loc Cert.StateInRefIdeal.main_arg0) = m ((c.tc : Thread Cert.StateInIdeal.nD Cert.StateInIdeal.τ).loc Cert.StateInIdeal.main_arg0)
      ∧ m' ((c.tc : Thread Cert.StateInRefIdeal.nD Cert.StateInRefIdeal.τ).loc Cert.StateInRefIdeal.main_arg1) = m ((c.tc : Thread Cert.StateInIdeal.nD Cert.StateInIdeal.τ).loc Cert.StateInIdeal.main_arg1)) →
    ∃ (v0 : (c : Dev Cert.StateInIdeal.nD) → Buf (Elt Ideal) ((c.tc : Thread Cert.StateInIdeal.nD Cert.StateInIdeal.τ).loc Cert.StateInIdeal.main_v1)),
      θ_run (Cert.StateInIdeal.defs (F := Ideal)) (onTc (τ := Cert.StateInIdeal.τ) (Cert.StateInIdeal.main (F := Ideal))) ⟨m, fun _ => 0, g⟩ (fun r => ∀ c : Dev Cert.StateInIdeal.nD,
          r.2.mem ((c.tc : Thread Cert.StateInIdeal.nD Cert.StateInIdeal.τ).loc Cert.StateInIdeal.main_v1) = v0 c
          ∧ r.2.mem ((c.tc : Thread Cert.StateInIdeal.nD Cert.StateInIdeal.τ).loc Cert.StateInIdeal.main_arg0) = m ((c.tc : Thread Cert.StateInIdeal.nD Cert.StateInIdeal.τ).loc Cert.StateInIdeal.main_arg0)
          ∧ r.2.mem ((c.tc : Thread Cert.StateInIdeal.nD Cert.StateInIdeal.τ).loc Cert.StateInIdeal.main_arg1) = m ((c.tc : Thread Cert.StateInIdeal.nD Cert.StateInIdeal.τ).loc Cert.StateInIdeal.main_arg1))
      ∧ θ_run (Cert.StateInRefIdeal.defs (F := Ideal)) (onTc (τ := Cert.StateInRefIdeal.τ) (Cert.StateInRefIdeal.main (F := Ideal))) ⟨m', fun _ => 0, g'⟩ (fun r => ∀ c : Dev Cert.StateInRefIdeal.nD,
          r.2.mem ((c.tc : Thread Cert.StateInRefIdeal.nD Cert.StateInRefIdeal.τ).loc Cert.StateInRefIdeal.main_v0) = v0 c
          ∧ r.2.mem ((c.tc : Thread Cert.StateInRefIdeal.nD Cert.StateInRefIdeal.τ).loc Cert.StateInRefIdeal.main_arg0) = m' ((c.tc : Thread Cert.StateInRefIdeal.nD Cert.StateInRefIdeal.τ).loc Cert.StateInRefIdeal.main_arg0)
          ∧ r.2.mem ((c.tc : Thread Cert.StateInRefIdeal.nD Cert.StateInRefIdeal.τ).loc Cert.StateInRefIdeal.main_arg1) = m' ((c.tc : Thread Cert.StateInRefIdeal.nD Cert.StateInRefIdeal.τ).loc Cert.StateInRefIdeal.main_arg1))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v32_0)) (v1 : (c : Dev Cert.EvenInIdeal.nD) → Buf (Elt Ideal) ((c.tc : Thread Cert.EvenInIdeal.nD Cert.EvenInIdeal.τ).loc Cert.EvenInIdeal.main_v32_1)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v32_0) = v0 c
          ∧ r.2.mem ((c.tc : Thread Cert.EvenInIdeal.nD Cert.EvenInIdeal.τ).loc Cert.EvenInIdeal.main_v32_1) = v1 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v30) = v0 c
          ∧ r.2.mem ((c.tc : Thread Cert.EvenInRefIdeal.nD Cert.EvenInRefIdeal.τ).loc Cert.EvenInRefIdeal.main_v29) = v1 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v7_0)) (v1 : (c : Dev Cert.PrepIdeal.nD) → Buf (Elt Ideal) ((c.tc : Thread Cert.PrepIdeal.nD Cert.PrepIdeal.τ).loc Cert.PrepIdeal.main_v7_1)) (v2 : (c : Dev Cert.PrepIdeal.nD) → Buf (Elt Ideal) ((c.tc : Thread Cert.PrepIdeal.nD Cert.PrepIdeal.τ).loc Cert.PrepIdeal.main_v7_2)) (v3 : (c : Dev Cert.PrepIdeal.nD) → Buf (Elt Ideal) ((c.tc : Thread Cert.PrepIdeal.nD Cert.PrepIdeal.τ).loc Cert.PrepIdeal.main_v7_3)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7_0) = v0 c
          ∧ r.2.mem ((c.tc : Thread Cert.PrepIdeal.nD Cert.PrepIdeal.τ).loc Cert.PrepIdeal.main_v7_1) = v1 c
          ∧ r.2.mem ((c.tc : Thread Cert.PrepIdeal.nD Cert.PrepIdeal.τ).loc Cert.PrepIdeal.main_v7_2) = v2 c
          ∧ r.2.mem ((c.tc : Thread Cert.PrepIdeal.nD Cert.PrepIdeal.τ).loc Cert.PrepIdeal.main_v7_3) = v3 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v42) = v0 c
          ∧ r.2.mem ((c.tc : Thread Cert.PrepRefIdeal.nD Cert.PrepRefIdeal.τ).loc Cert.PrepRefIdeal.main_v43) = v1 c
          ∧ r.2.mem ((c.tc : Thread Cert.PrepRefIdeal.nD Cert.PrepRefIdeal.τ).loc Cert.PrepRefIdeal.main_v44) = v2 c
          ∧ r.2.mem ((c.tc : Thread Cert.PrepRefIdeal.nD Cert.PrepRefIdeal.τ).loc Cert.PrepRefIdeal.main_v45) = v3 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def Claim : Prop :=
  ∃ (hKernel : Cert.Kernel.Facts) (hExperts : Cert.Experts.Facts) (hExpertsIdeal : Cert.ExpertsIdeal.Facts) (hHierIdeal : Cert.HierIdeal.Facts) (hGlu : Cert.Glu.Facts) (hGluIdeal : Cert.GluIdeal.Facts) (hGluRefIdeal : Cert.GluRefIdeal.Facts) (hOutProj : Cert.OutProj.Facts) (hOutProjIdeal : Cert.OutProjIdeal.Facts) (hOutProjRefIdeal : Cert.OutProjRefIdeal.Facts) (hStateIn : Cert.StateIn.Facts) (hStateInIdeal : Cert.StateInIdeal.Facts) (hStateInRefIdeal : Cert.StateInRefIdeal.Facts) (hEvenIn : Cert.EvenIn.Facts) (hEvenInIdeal : Cert.EvenInIdeal.Facts) (hEvenInRefIdeal : Cert.EvenInRefIdeal.Facts) (hPrep : Cert.Prep.Facts) (hPrepIdeal : Cert.PrepIdeal.Facts) (hPrepRefIdeal : Cert.PrepRefIdeal.Facts) (hPre_tiles_in_range : Cert.Pre_tiles_in_range.Facts),
    quiescent_Kernel (hKernel := hKernel)
    ∧ quiescent_Experts (hExperts := hExperts) (hPre_tiles_in_range := hPre_tiles_in_range)
    ∧ quiescent_ExpertsIdeal (hExpertsIdeal := hExpertsIdeal) (hPre_tiles_in_range := hPre_tiles_in_range)
    ∧ quiescent_HierIdeal (hHierIdeal := hHierIdeal)
    ∧ quiescent_HierIdeal_pre_tiles_in_range (hHierIdeal := hHierIdeal) (hPre_tiles_in_range := hPre_tiles_in_range)
    ∧ quiescent_Glu (hGlu := hGlu)
    ∧ quiescent_GluIdeal (hGluIdeal := hGluIdeal)
    ∧ quiescent_GluRefIdeal (hGluRefIdeal := hGluRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_StateIn (hStateIn := hStateIn)
    ∧ quiescent_StateInIdeal (hStateInIdeal := hStateInIdeal)
    ∧ quiescent_StateInRefIdeal (hStateInRefIdeal := hStateInRefIdeal)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_Prep (hPrep := hPrep)
    ∧ quiescent_PrepIdeal (hPrepIdeal := hPrepIdeal)
    ∧ quiescent_PrepRefIdeal (hPrepRefIdeal := hPrepRefIdeal)
    ∧ preserves_Experts_ExpertsIdeal
    ∧ algebraic_ExpertsIdeal_HierIdeal (hExpertsIdeal := hExpertsIdeal) (hHierIdeal := hHierIdeal) (hPre_tiles_in_range := hPre_tiles_in_range)
    ∧ preserves_Glu_GluIdeal
    ∧ algebraic_GluIdeal_GluRefIdeal (hGluIdeal := hGluIdeal) (hGluRefIdeal := hGluRefIdeal)
    ∧ preserves_OutProj_OutProjIdeal
    ∧ algebraic_OutProjIdeal_OutProjRefIdeal (hOutProjIdeal := hOutProjIdeal) (hOutProjRefIdeal := hOutProjRefIdeal)
    ∧ preserves_StateIn_StateInIdeal
    ∧ algebraic_StateInIdeal_StateInRefIdeal (hStateInIdeal := hStateInIdeal) (hStateInRefIdeal := hStateInRefIdeal)
    ∧ preserves_EvenIn_EvenInIdeal
    ∧ algebraic_EvenInIdeal_EvenInRefIdeal (hEvenInIdeal := hEvenInIdeal) (hEvenInRefIdeal := hEvenInRefIdeal)
    ∧ preserves_Prep_PrepIdeal
    ∧ algebraic_PrepIdeal_PrepRefIdeal (hPrepIdeal := hPrepIdeal) (hPrepRefIdeal := hPrepRefIdeal)
-- ==== Pre_tiles_in_range.lean ====
abbrev S34816x1152 : Shape := ⟨2, ![34816, 1152]⟩
abbrev S68 : Shape := ⟨1, ![68]⟩
abbrev S1 : Shape := ⟨1, ![1]⟩
abbrev S2x4x4x1024x512 : Shape := ⟨5, ![2, 4, 4, 1024, 512]⟩
abbrev S2x4x4x512x1024 : Shape := ⟨5, ![2, 4, 4, 512, 1024]⟩
abbrev S1024 : Shape := ⟨1, ![1024]⟩
abbrev S_ : Shape := ⟨0, ![]⟩

class Facts : Prop where
  bcast_S_S68 : S_.BroadcastsInDim S68 (![] : Fin 0 → Fin S68.rank)

variable [Facts]

def fn {F : FTy → Type} [FloatOps F] (main_arg0 : FVec F S34816x1152 .f32) (main_arg1 : IVec S68 32) (main_arg2 : IVec S68 32) (main_arg3 : IVec S1 32) (main_arg4 : FVec F S2x4x4x1024x512 .f32) (main_arg5 : FVec F S2x4x4x1024x512 .f32) (main_arg6 : FVec F S2x4x4x512x1024 .f32) (main_arg7 : FVec F S1024 .f32) (main_arg8 : FVec F S1024 .f32) : IVec S68 1 :=
  let main_c : IVec S_ 32 := constantI S_ 32 0#32
  let main_v0 : IVec S68 32 := broadcastInDim S68 ![] bcast_S_S68 main_c
  let main_v1 : IVec S68 1 := cmpi .sge main_arg1 main_v0
  let main_c_0 : IVec S_ 32 := constantI S_ 32 4#32
  let main_v2 : IVec S68 32 := broadcastInDim S68 ![] bcast_S_S68 main_c_0
  let main_v3 : IVec S68 1 := cmpi .slt main_arg1 main_v2
  let main_v4 : IVec S68 1 := andi main_v1 main_v3
  let main_c_1 : IVec S_ 32 := constantI S_ 32 0#32
  let main_v5 : IVec S68 32 := broadcastInDim S68 ![] bcast_S_S68 main_c_1
  let main_v6 : IVec S68 1 := cmpi .sge main_arg2 main_v5
  let main_v7 : IVec S68 1 := andi main_v4 main_v6
  let main_c_2 : IVec S_ 32 := constantI S_ 32 68#32
  let main_v8 : IVec S68 32 := broadcastInDim S68 ![] bcast_S_S68 main_c_2
  let main_v9 : IVec S68 1 := cmpi .slt main_arg2 main_v8
  let main_v10 : IVec S68 1 := andi main_v7 main_v9
  main_v10
-- ==== Kernel.lean ====
abbrev S32768x1408 : Shape := ⟨2, ![32768, 1408]⟩
abbrev S32768x2688 : Shape := ⟨2, ![32768, 2688]⟩
abbrev S8x3x128x128 : Shape := ⟨4, ![8, 3, 128, 128]⟩
abbrev S32768x512 : Shape := ⟨2, ![32768, 512]⟩
abbrev S128x1024 : Shape := ⟨2, ![128, 1024]⟩
abbrev S2048x256 : Shape := ⟨2, ![2048, 256]⟩
abbrev S2048x128 : Shape := ⟨2, ![2048, 128]⟩
abbrev S128x512 : Shape := ⟨2, ![128, 512]⟩
abbrev S128x128 : Shape := ⟨2, ![128, 128]⟩
abbrev S2176x128 : Shape := ⟨2, ![2176, 128]⟩
abbrev S8x128x256 : Shape := ⟨3, ![8, 128, 256]⟩
abbrev S2x64x512 : Shape := ⟨3, ![2, 64, 512]⟩
abbrev S2x2x256x512 : Shape := ⟨4, ![2, 2, 256, 512]⟩
abbrev S2x8x128 : Shape := ⟨3, ![2, 8, 128]⟩
abbrev S512x128 : Shape := ⟨2, ![512, 128]⟩
abbrev S256x128 : Shape := ⟨2, ![256, 128]⟩
abbrev S128x256 : Shape := ⟨2, ![128, 256]⟩
abbrev S1x128x256 : Shape := ⟨3, ![1, 128, 256]⟩
abbrev S4x128 : Shape := ⟨2, ![4, 128]⟩
abbrev S256x512 : Shape := ⟨2, ![256, 512]⟩
abbrev S1x128 : Shape := ⟨2, ![1, 128]⟩
abbrev S8x128 : Shape := ⟨2, ![8, 128]⟩
abbrev S32x8x128 : Shape := ⟨3, ![32, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S1x1x128x128 : Shape := ⟨4, ![1, 1, 128, 128]⟩
abbrev S1x1x256x128 : Shape := ⟨4, ![1, 1, 256, 128]⟩
abbrev S1x64x256 : Shape := ⟨3, ![1, 64, 256]⟩
abbrev S64x256 : Shape := ⟨2, ![64, 256]⟩
abbrev S64x512 : Shape := ⟨2, ![64, 512]⟩
abbrev S1x64x512 : Shape := ⟨3, ![1, 64, 512]⟩
abbrev S1x512 : Shape := ⟨2, ![1, 512]⟩
abbrev S1x64x128 : Shape := ⟨3, ![1, 64, 128]⟩
abbrev S64x128 : Shape := ⟨2, ![64, 128]⟩

abbrev nBuf : Space → Nat
  | .hbm => 4
  | .vmem => 22
  | .smem => 0
  | _ => 0

abbrev bufTy : (tb : Table) → Fin (tcTables nBuf tb) → BufTy
  | .hbm, ⟨0, _⟩ => ⟨S32768x1408, .bf16⟩
  | .hbm, ⟨1, _⟩ => ⟨S32768x2688, .f32⟩
  | .hbm, ⟨2, _⟩ => ⟨S8x3x128x128, .f32⟩
  | .hbm, ⟨3, _⟩ => ⟨S32768x512, .bf16⟩
  | .local _ .vmem, ⟨0, _⟩ => ⟨S128x1024, .bf16⟩
  | .local _ .vmem, ⟨1, _⟩ => ⟨S128x1024, .bf16⟩
  | .local _ .vmem, ⟨2, _⟩ => ⟨S2048x256, .bf16⟩
  | .local _ .vmem, ⟨3, _⟩ => ⟨S2048x256, .bf16⟩
  | .local _ .vmem, ⟨4, _⟩ => ⟨S2048x128, .bf16⟩
  | .local _ .vmem, ⟨5, _⟩ => ⟨S2048x128, .bf16⟩
  | .local _ .vmem, ⟨6, _⟩ => ⟨S128x512, .f32⟩
  | .local _ .vmem, ⟨7, _⟩ => ⟨S128x512, .f32⟩
  | .local _ .vmem, ⟨8, _⟩ => ⟨S2048x128, .f32⟩
  | .local _ .vmem, ⟨9, _⟩ => ⟨S2048x128, .f32⟩
  | .local _ .vmem, ⟨10, _⟩ => ⟨S128x128, .f32⟩
  | .local _ .vmem, ⟨11, _⟩ => ⟨S128x128, .f32⟩
  | .local _ .vmem, ⟨12, _⟩ => ⟨S8x3x128x128, .f32⟩
  | .local _ .vmem, ⟨13, _⟩ => ⟨S128x512, .bf16⟩
  | .local _ .vmem, ⟨14, _⟩ => ⟨S128x512, .bf16⟩
  | .local _ .vmem, ⟨15, _⟩ => ⟨S2176x128, .i32⟩
  | .local _ .vmem, ⟨16, _⟩ => ⟨S2048x128, .f32⟩
  | .local _ .vmem, ⟨17, _⟩ => ⟨S8x128x256, .bf16⟩
  | .local _ .vmem, ⟨18, _⟩ => ⟨S2x64x512, .f32⟩
  | .local _ .vmem, ⟨19, _⟩ => ⟨S2x2x256x512, .f32⟩
  | .local _ .vmem, ⟨20, _⟩ => ⟨S2x8x128, .f32⟩
  | .local _ .vmem, ⟨21, _⟩ => ⟨S512x128, .f32⟩
  | _, _ => ⟨S32768x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [BitOps F]

abbrev grid0 : Pipeline.Grid := ⟨2, ![16, 16], ![false, false]⟩

def k0_cond2 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c0_i32_9 : BitVec 32 := 0#32
  let v28 : BitVec 1 := Scalar.cmpi .ne v27 c0_i32_9
  v28

def k0_cond3 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c0_i32_296 : BitVec 32 := 0#32
  let v510 : BitVec 1 := Scalar.cmpi .ne v509 c0_i32_296
  v510

def k0_cond4 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c1_i32_297 : BitVec 32 := 1#32
  let v511 : BitVec 32 := Scalar.subi v509 c1_i32_297
  let c0_i32_298 : BitVec 32 := 0#32
  let v512 : BitVec 1 := Scalar.cmpi .ne v511 c0_i32_298
  v512

def k0_cond5 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c1_i32_297 : BitVec 32 := 1#32
  let v511 : BitVec 32 := Scalar.subi v509 c1_i32_297
  let c1_i32_299 : BitVec 32 := 1#32
  let v513 : BitVec 32 := Scalar.subi v511 c1_i32_299
  let c0_i32_300 : BitVec 32 := 0#32
  let v514 : BitVec 1 := Scalar.cmpi .ne v513 c0_i32_300
  v514

def k0_cond6 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c1_i32_297 : BitVec 32 := 1#32
  let v511 : BitVec 32 := Scalar.subi v509 c1_i32_297
  let c1_i32_299 : BitVec 32 := 1#32
  let v513 : BitVec 32 := Scalar.subi v511 c1_i32_299
  let c1_i32_301 : BitVec 32 := 1#32
  let v515 : BitVec 32 := Scalar.subi v513 c1_i32_301
  let c0_i32_302 : BitVec 32 := 0#32
  let v516 : BitVec 1 := Scalar.cmpi .ne v515 c0_i32_302
  v516

def k0_cond7 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c1_i32_297 : BitVec 32 := 1#32
  let v511 : BitVec 32 := Scalar.subi v509 c1_i32_297
  let c1_i32_299 : BitVec 32 := 1#32
  let v513 : BitVec 32 := Scalar.subi v511 c1_i32_299
  let c1_i32_301 : BitVec 32 := 1#32
  let v515 : BitVec 32 := Scalar.subi v513 c1_i32_301
  let c1_i32_303 : BitVec 32 := 1#32
  let v517 : BitVec 32 := Scalar.subi v515 c1_i32_303
  let c0_i32_304 : BitVec 32 := 0#32
  let v518 : BitVec 1 := Scalar.cmpi .ne v517 c0_i32_304
  v518

def k0_cond8 (i : grid0.Coords) : BitVec 1 :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_7 : BitVec 32 := 1#32
  let v25 : BitVec 32 := Scalar.subi v3 c1_i32_7
  let c0_i32_8 : BitVec 32 := 0#32
  let v26 : BitVec 32 := Scalar.maxsi v25 c0_i32_8
  let c7_i32 : BitVec 32 := 7#32
  let v27 : BitVec 32 := Scalar.minsi v26 c7_i32
  let c1_i32_295 : BitVec 32 := 1#32
  let v509 : BitVec 32 := Scalar.subi v27 c1_i32_295
  let c1_i32_297 : BitVec 32 := 1#32
  let v511 : BitVec 32 := Scalar.subi v509 c1_i32_297
  let c1_i32_299 : BitVec 32 := 1#32
  let v513 : BitVec 32 := Scalar.subi v511 c1_i32_299
  let c1_i32_301 : BitVec 32 := 1#32
  let v515 : BitVec 32 := Scalar.subi v513 c1_i32_301
  let c1_i32_303 : BitVec 32 := 1#32
  let v517 : BitVec 32 := Scalar.subi v515 c1_i32_303
  let c1_i32_305 : BitVec 32 := 1#32
  let v519 : BitVec 32 := Scalar.subi v517 c1_i32_305
  let c0_i32_306 : BitVec 32 := 0#32
  let v520 : BitVec 1 := Scalar.cmpi .ne v519 c0_i32_306
  v520

def k0_mult1 : BitVec 32 :=
  let c0_i32_307 : BitVec 32 := 0#32
  c0_i32_307
def k0_mult2 : BitVec 32 :=
  let c256_i32_318 : BitVec 32 := 256#32
  c256_i32_318
def k0_mult3 : BitVec 32 :=
  let c512_i32 : BitVec 32 := 512#32
  c512_i32
def k0_mult4 : BitVec 32 :=
  let c768_i32 : BitVec 32 := 768#32
  c768_i32
def k0_mult5 : BitVec 32 :=
  let c1024_i32 : BitVec 32 := 1024#32
  c1024_i32
def k0_mult6 : BitVec 32 :=
  let c1280_i32 : BitVec 32 := 1280#32
  c1280_i32
def k0_mult7 : BitVec 32 :=
  let c1536_i32 : BitVec 32 := 1536#32
  c1536_i32
def k0_mult8 : BitVec 32 :=
  let c1792_i32 : BitVec 32 := 1792#32
  c1792_i32
def k0_mult9 : BitVec 32 :=
  let c0_i32_307 : BitVec 32 := 0#32
  c0_i32_307
def k0_mult10 : BitVec 32 :=
  let c256_i32_318 : BitVec 32 := 256#32
  c256_i32_318
def k0_mult11 : BitVec 32 :=
  let c512_i32 : BitVec 32 := 512#32
  c512_i32
def k0_mult12 : BitVec 32 :=
  let c768_i32 : BitVec 32 := 768#32
  c768_i32
def k0_mult13 : BitVec 32 :=
  let c1024_i32 : BitVec 32 := 1024#32
  c1024_i32
def k0_mult14 : BitVec 32 :=
  let c1280_i32 : BitVec 32 := 1280#32
  c1280_i32
def k0_mult15 : BitVec 32 :=
  let c1536_i32 : BitVec 32 := 1536#32
  c1536_i32
def k0_mult16 : BitVec 32 :=
  let c0_i32_305 : BitVec 32 := 0#32
  c0_i32_305
def k0_mult17 : BitVec 32 :=
  let c256_i32_316 : BitVec 32 := 256#32
  c256_i32_316
def k0_mult18 : BitVec 32 :=
  let c512_i32 : BitVec 32 := 512#32
  c512_i32
def k0_mult19 : BitVec 32 :=
  let c768_i32 : BitVec 32 := 768#32
  c768_i32
def k0_mult20 : BitVec 32 :=
  let c1024_i32 : BitVec 32 := 1024#32
  c1024_i32
def k0_mult21 : BitVec 32 :=
  let c1280_i32 : BitVec 32 := 1280#32
  c1280_i32
def k0_mult22 : BitVec 32 :=
  let c0_i32_303 : BitVec 32 := 0#32
  c0_i32_303
def k0_mult23 : BitVec 32 :=
  let c256_i32_314 : BitVec 32 := 256#32
  c256_i32_314
def k0_mult24 : BitVec 32 :=
  let c512_i32 : BitVec 32 := 512#32
  c512_i32
def k0_mult25 : BitVec 32 :=
  let c768_i32 : BitVec 32 := 768#32
  c768_i32
def k0_mult26 : BitVec 32 :=
  let c1024_i32 : BitVec 32 := 1024#32
  c1024_i32
def k0_mult27 : BitVec 32 :=
  let c0_i32_301 : BitVec 32 := 0#32
  c0_i32_301
def k0_mult28 : BitVec 32 :=
  let c256_i32_312 : BitVec 32 := 256#32
  c256_i32_312
def k0_mult29 : BitVec 32 :=
  let c512_i32 : BitVec 32 := 512#32
  c512_i32
def k0_mult30 : BitVec 32 :=
  let c768_i32 : BitVec 32 := 768#32
  c768_i32
def k0_mult31 : BitVec 32 :=
  let c0_i32_299 : BitVec 32 := 0#32
  c0_i32_299
def k0_mult32 : BitVec 32 :=
  let c256_i32_310 : BitVec 32 := 256#32
  c256_i32_310
def k0_mult33 : BitVec 32 :=
  let c512_i32 : BitVec 32 := 512#32
  c512_i32
def k0_mult34 : BitVec 32 :=
  let c0_i32_297 : BitVec 32 := 0#32
  c0_i32_297
def k0_mult35 : BitVec 32 :=
  let c256_i32_308 : BitVec 32 := 256#32
  c256_i32_308
def k0_mult36 : BitVec 32 :=
  let c0_i32_295 : BitVec 32 := 0#32
  c0_i32_295
def k0_mult37 (i : grid0.Coords) : BitVec 32 :=
  let arg1 : BitVec 32 := BitVec.ofNat 32 (i 1).val
  let c1_i32 : BitVec 32 := 1#32
  let v1 : BitVec 32 := Scalar.addi arg1 c1_i32
  let c128_i32_10 : BitVec 32 := 128#32
  let v30 : BitVec 32 := Scalar.muli v1 c128_i32_10
  v30
def k0_off1 (i : grid0.Coords) : Fin 2 → Nat :=
  let arg1 : BitVec 32 := BitVec.ofNat 32 (i 1).val
  let c1_i32 : BitVec 32 := 1#32
  let v1 : BitVec 32 := Scalar.addi arg1 c1_i32
  let c128_i32_10 : BitVec 32 := 128#32
  let v30 : BitVec 32 := Scalar.muli v1 c128_i32_10
  let v31 : BitVec 32 := v30
  let v32 : Index := Scalar.indexCast v31
  let c0_11 : Index := 0#32
  ![v32.toNat, 0]
def k0_cond9 (i : grid0.Coords) : BitVec 1 :=
  let arg1 : BitVec 32 := BitVec.ofNat 32 (i 1).val
  let c128_i32 : BitVec 32 := 128#32
  let v0 : BitVec 32 := Scalar.muli arg1 c128_i32
  let c256_i32 : BitVec 32 := 256#32
  let v36 : BitVec 1 := Scalar.cmpi .sge v0 c256_i32
  let v37 : BitVec 32 := Scalar.extui v36
  let c0_i32_12 : BitVec 32 := 0#32
  let v38 : BitVec 1 := Scalar.cmpi .ne v37 c0_i32_12
  v38

@[reducible] def k0_t1_loop : Scf.Loop 32 :=
  let c0_i32_302 : BitVec 32 := 0#32
  let c31_i32 : BitVec 32 := 31#32
  let v519 : BitVec 32 := Scalar.addi c0_i32_302 c31_i32
  let c1_i32_303 : BitVec 32 := 1#32
  ⟨c0_i32_302, v519, c1_i32_303⟩
@[reducible] def k0_t2_loop : Scf.Loop 32 :=
  let c0_i32_318 : BitVec 32 := 0#32
  let c11_i32 : BitVec 32 := 11#32
  let v544 : BitVec 32 := Scalar.addi c0_i32_318 c11_i32
  let c1_i32_319 : BitVec 32 := 1#32
  ⟨c0_i32_318, v544, c1_i32_319⟩
@[reducible] def k0_t3_loop (i : grid0.Coords) : Scf.Loop 32 :=
  let c0_i32_14 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let v44 : BitVec 32 := Scalar.subi v3 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_16 : BitVec 32 := 1#32
  ⟨c0_i32_14, v48, c1_i32_16⟩
def k0_mult38 (i : grid0.Coords) (k0_t3 : Fin (k0_t3_loop i).trips) : BitVec 32 :=
  let c0_i32_14 : BitVec 32 := 0#32
  let c1_i32_16 : BitVec 32 := 1#32
  let arg17 : BitVec 32 := Scf.iv c0_i32_14 c1_i32_16 k0_t3
  let c256_i32_295 : BitVec 32 := 256#32
  let v509 : BitVec 32 := Scalar.muli arg17 c256_i32_295
  v509
def k0_off2 (i : grid0.Coords) (k0_t3 : Fin (k0_t3_loop i).trips) : Fin 2 → Nat :=
  let c0_i32_14 : BitVec 32 := 0#32
  let c1_i32_16 : BitVec 32 := 1#32
  let arg17 : BitVec 32 := Scf.iv c0_i32_14 c1_i32_16 k0_t3
  let c256_i32_295 : BitVec 32 := 256#32
  let v509 : BitVec 32 := Scalar.muli arg17 c256_i32_295
  let v510 : BitVec 32 := v509
  let v511 : Index := Scalar.indexCast v510
  let c0_296 : Index := 0#32
  ![v511.toNat, 0]
def k0_off3 (i : grid0.Coords) (k0_t3 : Fin (k0_t3_loop i).trips) : Fin 2 → Nat :=
  let c0_i32_14 : BitVec 32 := 0#32
  let c1_i32_16 : BitVec 32 := 1#32
  let arg17 : BitVec 32 := Scf.iv c0_i32_14 c1_i32_16 k0_t3
  let c256_i32_295 : BitVec 32 := 256#32
  let v509 : BitVec 32 := Scalar.muli arg17 c256_i32_295
  let v510 : BitVec 32 := v509
  let v525 : Index := Scalar.indexCast v510
  let c0_299 : Index := 0#32
  ![v525.toNat, 0]
@[reducible] def k0_t4_loop (i : grid0.Coords) : Scf.Loop 32 :=
  let c0_i32_14 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let v44 : BitVec 32 := Scalar.subi v3 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let v45 : BitVec 32 := Scalar.addi c0_i32_14 v44
  let c1_i32_17 : BitVec 32 := 1#32
  ⟨v48, v45, c1_i32_17⟩
def k0_mult39 (i : grid0.Coords) (k0_t4 : Fin (k0_t4_loop i).trips) : BitVec 32 :=
  let c0_i32_14 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let v44 : BitVec 32 := Scalar.subi v3 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg17 : BitVec 32 := Scf.iv v48 c1_i32_17 k0_t4
  let c256_i32_295 : BitVec 32 := 256#32
  let v509 : BitVec 32 := Scalar.muli arg17 c256_i32_295
  v509
def k0_off4 (i : grid0.Coords) (k0_t4 : Fin (k0_t4_loop i).trips) : Fin 2 → Nat :=
  let c0_i32_14 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let v44 : BitVec 32 := Scalar.subi v3 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg17 : BitVec 32 := Scf.iv v48 c1_i32_17 k0_t4
  let c256_i32_295 : BitVec 32 := 256#32
  let v509 : BitVec 32 := Scalar.muli arg17 c256_i32_295
  let v510 : BitVec 32 := v509
  let v511 : Index := Scalar.indexCast v510
  let c0_296 : Index := 0#32
  ![v511.toNat, 0]
def k0_off5 (i : grid0.Coords) (k0_t4 : Fin (k0_t4_loop i).trips) : Fin 2 → Nat :=
  let c0_i32_14 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let v44 : BitVec 32 := Scalar.subi v3 c0_i32_14
  let c1_i32_15 : BitVec 32 := 1#32
  let v46 : BitVec 32 := Scalar.divsi v44 c1_i32_15
  let v47 : BitVec 32 := Scalar.muli v46 c1_i32_15
  let v48 : BitVec 32 := Scalar.addi c0_i32_14 v47
  let c1_i32_17 : BitVec 32 := 1#32
  let arg17 : BitVec 32 := Scf.iv v48 c1_i32_17 k0_t4
  let c256_i32_295 : BitVec 32 := 256#32
  let v509 : BitVec 32 := Scalar.muli arg17 c256_i32_295
  let v510 : BitVec 32 := v509
  let v525 : Index := Scalar.indexCast v510
  let c0_299 : Index := 0#32
  ![v525.toNat, 0]
def k0_mult40 : BitVec 32 :=
  let c0_i32_49 : BitVec 32 := 0#32
  c0_i32_49
def k0_off6 (i : grid0.Coords) : Fin 4 → Nat :=
  let c0_59 : Index := 0#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v96 : Index := Scalar.indexCast v88
  let c0_60 : Index := 0#32
  let c0_61 : Index := 0#32
  ![0, v96.toNat, 0, 0]
def k0_off7 (i : grid0.Coords) : Fin 4 → Nat :=
  let c0_62 : Index := 0#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v99 : Index := Scalar.indexCast v92
  let c0_63 : Index := 0#32
  let c0_64 : Index := 0#32
  ![0, v99.toNat, 0, 0]
def k0_off8 (i : grid0.Coords) : Fin 4 → Nat :=
  let c1 : Index := 1#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v114 : Index := Scalar.indexCast v88
  let c0_73 : Index := 0#32
  let c0_74 : Index := 0#32
  ![1, v114.toNat, 0, 0]
def k0_off9 (i : grid0.Coords) : Fin 4 → Nat :=
  let c1_75 : Index := 1#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v117 : Index := Scalar.indexCast v92
  let c0_76 : Index := 0#32
  let c0_77 : Index := 0#32
  ![1, v117.toNat, 0, 0]
def k0_off10 (i : grid0.Coords) : Fin 4 → Nat :=
  let c2 : Index := 2#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v132 : Index := Scalar.indexCast v88
  let c0_86 : Index := 0#32
  let c0_87 : Index := 0#32
  ![2, v132.toNat, 0, 0]
def k0_off11 (i : grid0.Coords) : Fin 4 → Nat :=
  let c2_88 : Index := 2#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v135 : Index := Scalar.indexCast v92
  let c0_89 : Index := 0#32
  let c0_90 : Index := 0#32
  ![2, v135.toNat, 0, 0]
def k0_off12 (i : grid0.Coords) : Fin 4 → Nat :=
  let c3 : Index := 3#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v150 : Index := Scalar.indexCast v88
  let c0_99 : Index := 0#32
  let c0_100 : Index := 0#32
  ![3, v150.toNat, 0, 0]
def k0_off13 (i : grid0.Coords) : Fin 4 → Nat :=
  let c3_101 : Index := 3#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v153 : Index := Scalar.indexCast v92
  let c0_102 : Index := 0#32
  let c0_103 : Index := 0#32
  ![3, v153.toNat, 0, 0]
def k0_off14 (i : grid0.Coords) : Fin 4 → Nat :=
  let c4 : Index := 4#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v171 : Index := Scalar.indexCast v88
  let c0_114 : Index := 0#32
  let c0_115 : Index := 0#32
  ![4, v171.toNat, 0, 0]
def k0_off15 (i : grid0.Coords) : Fin 4 → Nat :=
  let c4_116 : Index := 4#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v174 : Index := Scalar.indexCast v92
  let c0_117 : Index := 0#32
  let c0_118 : Index := 0#32
  ![4, v174.toNat, 0, 0]
def k0_off16 (i : grid0.Coords) : Fin 4 → Nat :=
  let c5 : Index := 5#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v189 : Index := Scalar.indexCast v88
  let c0_127 : Index := 0#32
  let c0_128 : Index := 0#32
  ![5, v189.toNat, 0, 0]
def k0_off17 (i : grid0.Coords) : Fin 4 → Nat :=
  let c5_129 : Index := 5#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v192 : Index := Scalar.indexCast v92
  let c0_130 : Index := 0#32
  let c0_131 : Index := 0#32
  ![5, v192.toNat, 0, 0]
def k0_off18 (i : grid0.Coords) : Fin 4 → Nat :=
  let c6 : Index := 6#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v207 : Index := Scalar.indexCast v88
  let c0_140 : Index := 0#32
  let c0_141 : Index := 0#32
  ![6, v207.toNat, 0, 0]
def k0_off19 (i : grid0.Coords) : Fin 4 → Nat :=
  let c6_142 : Index := 6#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v210 : Index := Scalar.indexCast v92
  let c0_143 : Index := 0#32
  let c0_144 : Index := 0#32
  ![6, v210.toNat, 0, 0]
def k0_off20 (i : grid0.Coords) : Fin 4 → Nat :=
  let c7 : Index := 7#32
  let c2_i32 : BitVec 32 := 2#32
  let c0_i32_52 : BitVec 32 := 0#32
  let arg1 : BitVec 32 := BitVec.ofNat 32 (i 1).val
  let c0_i32_51 : BitVec 32 := 0#32
  let v86 : BitVec 32 := Scalar.subi arg1 c0_i32_51
  let v87 : BitVec 32 := Scalar.maxsi c0_i32_52 v86
  let v88 : BitVec 32 := Scalar.minsi c2_i32 v87
  let v225 : Index := Scalar.indexCast v88
  let c0_153 : Index := 0#32
  let c0_154 : Index := 0#32
  ![7, v225.toNat, 0, 0]
def k0_off21 (i : grid0.Coords) : Fin 4 → Nat :=
  let c7_155 : Index := 7#32
  let c2_i32_56 : BitVec 32 := 2#32
  let c0_i32_55 : BitVec 32 := 0#32
  let arg1 : BitVec 32 := BitVec.ofNat 32 (i 1).val
  let c0_i32_53 : BitVec 32 := 0#32
  let v89 : BitVec 32 := Scalar.subi arg1 c0_i32_53
  let c1_i32_54 : BitVec 32 := 1#32
  let v90 : BitVec 32 := Scalar.subi v89 c1_i32_54
  let v91 : BitVec 32 := Scalar.maxsi c0_i32_55 v90
  let v92 : BitVec 32 := Scalar.minsi c2_i32_56 v91
  let v228 : Index := Scalar.indexCast v92
  let c0_156 : Index := 0#32
  let c0_157 : Index := 0#32
  ![7, v228.toNat, 0, 0]
@[reducible] def k0_t5_loop (i : grid0.Coords) : Scf.Loop 32 :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_169 : BitVec 32 := 1#32
  ⟨c0_i32_167, v248, c1_i32_169⟩
def k0_off22 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v510 : Index := Scalar.indexCast v509
  let c0_296 : Index := 0#32
  let c0_297 : Index := 0#32
  ![v510.toNat, 0, 0]
def k0_off23 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v520 : Index := Scalar.indexCast v509
  let c0_300 : Index := 0#32
  let c0_301 : Index := 0#32
  let c0_302 : Index := 0#32
  ![v520.toNat, 0, 0, 0]
def k0_off24 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v531 : Index := Scalar.indexCast v509
  let c1_304 : Index := 1#32
  let c0_305 : Index := 0#32
  ![v531.toNat, 1, 0]
def k0_off25 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v541 : Index := Scalar.indexCast v509
  let c0_308 : Index := 0#32
  let c0_309 : Index := 0#32
  let c128_310 : Index := 128#32
  ![v541.toNat, 0, 0, 128]
def k0_off26 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v552 : Index := Scalar.indexCast v509
  let c2_312 : Index := 2#32
  let c0_313 : Index := 0#32
  ![v552.toNat, 2, 0]
def k0_off27 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v562 : Index := Scalar.indexCast v509
  let c0_316 : Index := 0#32
  let c0_317 : Index := 0#32
  let c256_318 : Index := 256#32
  ![v562.toNat, 0, 0, 256]
def k0_off28 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v573 : Index := Scalar.indexCast v509
  let c3_320 : Index := 3#32
  let c0_321 : Index := 0#32
  ![v573.toNat, 3, 0]
def k0_off29 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v583 : Index := Scalar.indexCast v509
  let c0_324 : Index := 0#32
  let c0_325 : Index := 0#32
  let c384_326 : Index := 384#32
  ![v583.toNat, 0, 0, 384]
def k0_off30 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let v594 : Index := Scalar.indexCast arg17
  let c0_328 : Index := 0#32
  let c0_329 : Index := 0#32
  ![v594.toNat, 0, 0]
def k0_off31 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v608 : Index := Scalar.indexCast v509
  let c4_337 : Index := 4#32
  let c0_338 : Index := 0#32
  ![v608.toNat, 4, 0]
def k0_off32 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v618 : Index := Scalar.indexCast v509
  let c1_341 : Index := 1#32
  let c0_342 : Index := 0#32
  let c0_343 : Index := 0#32
  ![v618.toNat, 1, 0, 0]
def k0_off33 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v629 : Index := Scalar.indexCast v509
  let c5_345 : Index := 5#32
  let c0_346 : Index := 0#32
  ![v629.toNat, 5, 0]
def k0_off34 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v639 : Index := Scalar.indexCast v509
  let c1_349 : Index := 1#32
  let c0_350 : Index := 0#32
  let c128_351 : Index := 128#32
  ![v639.toNat, 1, 0, 128]
def k0_off35 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v650 : Index := Scalar.indexCast v509
  let c6_353 : Index := 6#32
  let c0_354 : Index := 0#32
  ![v650.toNat, 6, 0]
def k0_off36 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v660 : Index := Scalar.indexCast v509
  let c1_357 : Index := 1#32
  let c0_358 : Index := 0#32
  let c256_359 : Index := 256#32
  ![v660.toNat, 1, 0, 256]
def k0_off37 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v671 : Index := Scalar.indexCast v509
  let c7_361 : Index := 7#32
  let c0_362 : Index := 0#32
  ![v671.toNat, 7, 0]
def k0_off38 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_295 : BitVec 32 := 1#32
  let v509 : BitVec 32 := Scalar.andi arg17 c1_i32_295
  let v681 : Index := Scalar.indexCast v509
  let c1_365 : Index := 1#32
  let c0_366 : Index := 0#32
  let c384_367 : Index := 384#32
  ![v681.toNat, 1, 0, 384]
def k0_off39 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let v692 : Index := Scalar.indexCast arg17
  let c64_369 : Index := 64#32
  let c0_370 : Index := 0#32
  ![v692.toNat, 64, 0]
def k0_mult41 (i : grid0.Coords) (k0_t5 : Fin (k0_t5_loop i).trips) : BitVec 32 :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c256_i32_380 : BitVec 32 := 256#32
  let v708 : BitVec 32 := Scalar.muli v706 c256_i32_380
  v708
def k0_off40 (i : grid0.Coords) (k0_t5 : Fin (k0_t5_loop i).trips) : Fin 2 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v710 : Index := Scalar.indexCast v709
  let c0_381 : Index := 0#32
  ![v710.toNat, 0]
def k0_off41 (i : grid0.Coords) (k0_t5 : Fin (k0_t5_loop i).trips) : Fin 2 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v721 : Index := Scalar.indexCast v709
  let c0_389 : Index := 0#32
  ![v721.toNat, 0]
def k0_off42 (i : grid0.Coords) (k0_t5 : Fin (k0_t5_loop i).trips) : Fin 4 → Nat :=
  let c0_391 : Index := 0#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v724 : Index := Scalar.indexCast v715
  let c0_392 : Index := 0#32
  let c0_393 : Index := 0#32
  ![0, v724.toNat, 0, 0]
def k0_off43 (i : grid0.Coords) (k0_t5 : Fin (k0_t5_loop i).trips) : Fin 4 → Nat :=
  let c0_394 : Index := 0#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v727 : Index := Scalar.indexCast v720
  let c0_395 : Index := 0#32
  let c0_396 : Index := 0#32
  ![0, v727.toNat, 0, 0]
def k0_off44 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v734 : Index := Scalar.indexCast v707
  let c0_397 : Index := 0#32
  let c0_398 : Index := 0#32
  let c0_399 : Index := 0#32
  ![v734.toNat, 0, 0, 0]
def k0_off45 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v740 : Index := Scalar.indexCast v707
  let c0_401 : Index := 0#32
  let c0_402 : Index := 0#32
  ![v740.toNat, 0, 0]
def k0_off46 (i : grid0.Coords) (k0_t5 : Fin (k0_t5_loop i).trips) : Fin 4 → Nat :=
  let c1_403 : Index := 1#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v744 : Index := Scalar.indexCast v715
  let c0_404 : Index := 0#32
  let c0_405 : Index := 0#32
  ![1, v744.toNat, 0, 0]
def k0_off47 (i : grid0.Coords) (k0_t5 : Fin (k0_t5_loop i).trips) : Fin 4 → Nat :=
  let c1_406 : Index := 1#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v747 : Index := Scalar.indexCast v720
  let c0_407 : Index := 0#32
  let c0_408 : Index := 0#32
  ![1, v747.toNat, 0, 0]
def k0_off48 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v754 : Index := Scalar.indexCast v707
  let c0_409 : Index := 0#32
  let c0_410 : Index := 0#32
  let c128_411 : Index := 128#32
  ![v754.toNat, 0, 0, 128]
def k0_off49 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v760 : Index := Scalar.indexCast v707
  let c1_413 : Index := 1#32
  let c0_414 : Index := 0#32
  ![v760.toNat, 1, 0]
def k0_off50 (i : grid0.Coords) (k0_t5 : Fin (k0_t5_loop i).trips) : Fin 4 → Nat :=
  let c2_415 : Index := 2#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v764 : Index := Scalar.indexCast v715
  let c0_416 : Index := 0#32
  let c0_417 : Index := 0#32
  ![2, v764.toNat, 0, 0]
def k0_off51 (i : grid0.Coords) (k0_t5 : Fin (k0_t5_loop i).trips) : Fin 4 → Nat :=
  let c2_418 : Index := 2#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v767 : Index := Scalar.indexCast v720
  let c0_419 : Index := 0#32
  let c0_420 : Index := 0#32
  ![2, v767.toNat, 0, 0]
def k0_off52 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v774 : Index := Scalar.indexCast v707
  let c0_421 : Index := 0#32
  let c0_422 : Index := 0#32
  let c256_423 : Index := 256#32
  ![v774.toNat, 0, 0, 256]
def k0_off53 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v780 : Index := Scalar.indexCast v707
  let c2_425 : Index := 2#32
  let c0_426 : Index := 0#32
  ![v780.toNat, 2, 0]
def k0_off54 (i : grid0.Coords) (k0_t5 : Fin (k0_t5_loop i).trips) : Fin 4 → Nat :=
  let c3_427 : Index := 3#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v784 : Index := Scalar.indexCast v715
  let c0_428 : Index := 0#32
  let c0_429 : Index := 0#32
  ![3, v784.toNat, 0, 0]
def k0_off55 (i : grid0.Coords) (k0_t5 : Fin (k0_t5_loop i).trips) : Fin 4 → Nat :=
  let c3_430 : Index := 3#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v787 : Index := Scalar.indexCast v720
  let c0_431 : Index := 0#32
  let c0_432 : Index := 0#32
  ![3, v787.toNat, 0, 0]
def k0_off56 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v794 : Index := Scalar.indexCast v707
  let c0_433 : Index := 0#32
  let c0_434 : Index := 0#32
  let c384_435 : Index := 384#32
  ![v794.toNat, 0, 0, 384]
def k0_off57 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v800 : Index := Scalar.indexCast v707
  let c3_437 : Index := 3#32
  let c0_438 : Index := 0#32
  ![v800.toNat, 3, 0]
def k0_off58 (i : grid0.Coords) (k0_t5 : Fin (k0_t5_loop i).trips) : Fin 2 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v804 : Index := Scalar.indexCast v709
  let c128_439 : Index := 128#32
  ![v804.toNat, 128]
def k0_off59 (i : grid0.Coords) (k0_t5 : Fin (k0_t5_loop i).trips) : Fin 4 → Nat :=
  let c4_441 : Index := 4#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v807 : Index := Scalar.indexCast v715
  let c0_442 : Index := 0#32
  let c0_443 : Index := 0#32
  ![4, v807.toNat, 0, 0]
def k0_off60 (i : grid0.Coords) (k0_t5 : Fin (k0_t5_loop i).trips) : Fin 4 → Nat :=
  let c4_444 : Index := 4#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v810 : Index := Scalar.indexCast v720
  let c0_445 : Index := 0#32
  let c0_446 : Index := 0#32
  ![4, v810.toNat, 0, 0]
def k0_off61 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v817 : Index := Scalar.indexCast v707
  let c1_447 : Index := 1#32
  let c0_448 : Index := 0#32
  let c0_449 : Index := 0#32
  ![v817.toNat, 1, 0, 0]
def k0_off62 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v823 : Index := Scalar.indexCast v707
  let c4_451 : Index := 4#32
  let c0_452 : Index := 0#32
  ![v823.toNat, 4, 0]
def k0_off63 (i : grid0.Coords) (k0_t5 : Fin (k0_t5_loop i).trips) : Fin 4 → Nat :=
  let c5_453 : Index := 5#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v827 : Index := Scalar.indexCast v715
  let c0_454 : Index := 0#32
  let c0_455 : Index := 0#32
  ![5, v827.toNat, 0, 0]
def k0_off64 (i : grid0.Coords) (k0_t5 : Fin (k0_t5_loop i).trips) : Fin 4 → Nat :=
  let c5_456 : Index := 5#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v830 : Index := Scalar.indexCast v720
  let c0_457 : Index := 0#32
  let c0_458 : Index := 0#32
  ![5, v830.toNat, 0, 0]
def k0_off65 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v837 : Index := Scalar.indexCast v707
  let c1_459 : Index := 1#32
  let c0_460 : Index := 0#32
  let c128_461 : Index := 128#32
  ![v837.toNat, 1, 0, 128]
def k0_off66 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v843 : Index := Scalar.indexCast v707
  let c5_463 : Index := 5#32
  let c0_464 : Index := 0#32
  ![v843.toNat, 5, 0]
def k0_off67 (i : grid0.Coords) (k0_t5 : Fin (k0_t5_loop i).trips) : Fin 4 → Nat :=
  let c6_465 : Index := 6#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v847 : Index := Scalar.indexCast v715
  let c0_466 : Index := 0#32
  let c0_467 : Index := 0#32
  ![6, v847.toNat, 0, 0]
def k0_off68 (i : grid0.Coords) (k0_t5 : Fin (k0_t5_loop i).trips) : Fin 4 → Nat :=
  let c6_468 : Index := 6#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v850 : Index := Scalar.indexCast v720
  let c0_469 : Index := 0#32
  let c0_470 : Index := 0#32
  ![6, v850.toNat, 0, 0]
def k0_off69 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v857 : Index := Scalar.indexCast v707
  let c1_471 : Index := 1#32
  let c0_472 : Index := 0#32
  let c256_473 : Index := 256#32
  ![v857.toNat, 1, 0, 256]
def k0_off70 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v863 : Index := Scalar.indexCast v707
  let c6_475 : Index := 6#32
  let c0_476 : Index := 0#32
  ![v863.toNat, 6, 0]
def k0_off71 (i : grid0.Coords) (k0_t5 : Fin (k0_t5_loop i).trips) : Fin 4 → Nat :=
  let c7_477 : Index := 7#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v867 : Index := Scalar.indexCast v715
  let c0_478 : Index := 0#32
  let c0_479 : Index := 0#32
  ![7, v867.toNat, 0, 0]
def k0_off72 (i : grid0.Coords) (k0_t5 : Fin (k0_t5_loop i).trips) : Fin 4 → Nat :=
  let c7_480 : Index := 7#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v870 : Index := Scalar.indexCast v720
  let c0_481 : Index := 0#32
  let c0_482 : Index := 0#32
  ![7, v870.toNat, 0, 0]
def k0_off73 (i : grid0.Coords) (k0_t5 : Fin (k0_t5_loop i).trips) : Fin 4 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v877 : Index := Scalar.indexCast v707
  let c1_483 : Index := 1#32
  let c0_484 : Index := 0#32
  let c384_485 : Index := 384#32
  ![v877.toNat, 1, 0, 384]
def k0_off74 (i : grid0.Coords) (k0_t5 : Fin (k0_t5_loop i).trips) : Fin 3 → Nat :=
  let c0_i32_167 : BitVec 32 := 0#32
  let c1_i32_169 : BitVec 32 := 1#32
  let arg17 : BitVec 32 := Scf.iv c0_i32_167 c1_i32_169 k0_t5
  let c1_i32_378 : BitVec 32 := 1#32
  let v706 : BitVec 32 := Scalar.addi arg17 c1_i32_378
  let c1_i32_379 : BitVec 32 := 1#32
  let v707 : BitVec 32 := Scalar.andi v706 c1_i32_379
  let v883 : Index := Scalar.indexCast v707
  let c7_487 : Index := 7#32
  let c0_488 : Index := 0#32
  ![v883.toNat, 7, 0]
@[reducible] def k0_t6_loop (i : grid0.Coords) : Scf.Loop 32 :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let v245 : BitVec 32 := Scalar.addi c0_i32_167 v244
  let c1_i32_170 : BitVec 32 := 1#32
  ⟨v248, v245, c1_i32_170⟩
def k0_off75 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v510 : Index := Scalar.indexCast v509
  let c0_296 : Index := 0#32
  let c0_297 : Index := 0#32
  ![v510.toNat, 0, 0]
def k0_off76 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v520 : Index := Scalar.indexCast v509
  let c0_300 : Index := 0#32
  let c0_301 : Index := 0#32
  let c0_302 : Index := 0#32
  ![v520.toNat, 0, 0, 0]
def k0_off77 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v531 : Index := Scalar.indexCast v509
  let c1_304 : Index := 1#32
  let c0_305 : Index := 0#32
  ![v531.toNat, 1, 0]
def k0_off78 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v541 : Index := Scalar.indexCast v509
  let c0_308 : Index := 0#32
  let c0_309 : Index := 0#32
  let c128_310 : Index := 128#32
  ![v541.toNat, 0, 0, 128]
def k0_off79 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v552 : Index := Scalar.indexCast v509
  let c2_312 : Index := 2#32
  let c0_313 : Index := 0#32
  ![v552.toNat, 2, 0]
def k0_off80 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v562 : Index := Scalar.indexCast v509
  let c0_316 : Index := 0#32
  let c0_317 : Index := 0#32
  let c256_318 : Index := 256#32
  ![v562.toNat, 0, 0, 256]
def k0_off81 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v573 : Index := Scalar.indexCast v509
  let c3_320 : Index := 3#32
  let c0_321 : Index := 0#32
  ![v573.toNat, 3, 0]
def k0_off82 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v583 : Index := Scalar.indexCast v509
  let c0_324 : Index := 0#32
  let c0_325 : Index := 0#32
  let c384_326 : Index := 384#32
  ![v583.toNat, 0, 0, 384]
def k0_off83 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let v594 : Index := Scalar.indexCast arg17
  let c0_328 : Index := 0#32
  let c0_329 : Index := 0#32
  ![v594.toNat, 0, 0]
def k0_off84 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v608 : Index := Scalar.indexCast v509
  let c4_337 : Index := 4#32
  let c0_338 : Index := 0#32
  ![v608.toNat, 4, 0]
def k0_off85 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v618 : Index := Scalar.indexCast v509
  let c1_341 : Index := 1#32
  let c0_342 : Index := 0#32
  let c0_343 : Index := 0#32
  ![v618.toNat, 1, 0, 0]
def k0_off86 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v629 : Index := Scalar.indexCast v509
  let c5_345 : Index := 5#32
  let c0_346 : Index := 0#32
  ![v629.toNat, 5, 0]
def k0_off87 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v639 : Index := Scalar.indexCast v509
  let c1_349 : Index := 1#32
  let c0_350 : Index := 0#32
  let c128_351 : Index := 128#32
  ![v639.toNat, 1, 0, 128]
def k0_off88 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v650 : Index := Scalar.indexCast v509
  let c6_353 : Index := 6#32
  let c0_354 : Index := 0#32
  ![v650.toNat, 6, 0]
def k0_off89 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v660 : Index := Scalar.indexCast v509
  let c1_357 : Index := 1#32
  let c0_358 : Index := 0#32
  let c256_359 : Index := 256#32
  ![v660.toNat, 1, 0, 256]
def k0_off90 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v671 : Index := Scalar.indexCast v509
  let c7_361 : Index := 7#32
  let c0_362 : Index := 0#32
  ![v671.toNat, 7, 0]
def k0_off91 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_295 : BitVec 32 := 1#32
  let v509 : BitVec 32 := Scalar.andi arg17 c1_i32_295
  let v681 : Index := Scalar.indexCast v509
  let c1_365 : Index := 1#32
  let c0_366 : Index := 0#32
  let c384_367 : Index := 384#32
  ![v681.toNat, 1, 0, 384]
def k0_off92 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let v692 : Index := Scalar.indexCast arg17
  let c64_369 : Index := 64#32
  let c0_370 : Index := 0#32
  ![v692.toNat, 64, 0]
def k0_mult42 (i : grid0.Coords) (k0_t6 : Fin (k0_t6_loop i).trips) : BitVec 32 :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c256_i32_380 : BitVec 32 := 256#32
  let v708 : BitVec 32 := Scalar.muli v706 c256_i32_380
  v708
def k0_off93 (i : grid0.Coords) (k0_t6 : Fin (k0_t6_loop i).trips) : Fin 2 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v710 : Index := Scalar.indexCast v709
  let c0_381 : Index := 0#32
  ![v710.toNat, 0]
def k0_off94 (i : grid0.Coords) (k0_t6 : Fin (k0_t6_loop i).trips) : Fin 2 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v721 : Index := Scalar.indexCast v709
  let c0_389 : Index := 0#32
  ![v721.toNat, 0]
def k0_off95 (i : grid0.Coords) (k0_t6 : Fin (k0_t6_loop i).trips) : Fin 4 → Nat :=
  let c0_391 : Index := 0#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v724 : Index := Scalar.indexCast v715
  let c0_392 : Index := 0#32
  let c0_393 : Index := 0#32
  ![0, v724.toNat, 0, 0]
def k0_off96 (i : grid0.Coords) (k0_t6 : Fin (k0_t6_loop i).trips) : Fin 4 → Nat :=
  let c0_394 : Index := 0#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v727 : Index := Scalar.indexCast v720
  let c0_395 : Index := 0#32
  let c0_396 : Index := 0#32
  ![0, v727.toNat, 0, 0]
def k0_off97 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v734 : Index := Scalar.indexCast v707
  let c0_397 : Index := 0#32
  let c0_398 : Index := 0#32
  let c0_399 : Index := 0#32
  ![v734.toNat, 0, 0, 0]
def k0_off98 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v740 : Index := Scalar.indexCast v707
  let c0_401 : Index := 0#32
  let c0_402 : Index := 0#32
  ![v740.toNat, 0, 0]
def k0_off99 (i : grid0.Coords) (k0_t6 : Fin (k0_t6_loop i).trips) : Fin 4 → Nat :=
  let c1_403 : Index := 1#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v744 : Index := Scalar.indexCast v715
  let c0_404 : Index := 0#32
  let c0_405 : Index := 0#32
  ![1, v744.toNat, 0, 0]
def k0_off100 (i : grid0.Coords) (k0_t6 : Fin (k0_t6_loop i).trips) : Fin 4 → Nat :=
  let c1_406 : Index := 1#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v747 : Index := Scalar.indexCast v720
  let c0_407 : Index := 0#32
  let c0_408 : Index := 0#32
  ![1, v747.toNat, 0, 0]
def k0_off101 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v754 : Index := Scalar.indexCast v707
  let c0_409 : Index := 0#32
  let c0_410 : Index := 0#32
  let c128_411 : Index := 128#32
  ![v754.toNat, 0, 0, 128]
def k0_off102 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v760 : Index := Scalar.indexCast v707
  let c1_413 : Index := 1#32
  let c0_414 : Index := 0#32
  ![v760.toNat, 1, 0]
def k0_off103 (i : grid0.Coords) (k0_t6 : Fin (k0_t6_loop i).trips) : Fin 4 → Nat :=
  let c2_415 : Index := 2#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v764 : Index := Scalar.indexCast v715
  let c0_416 : Index := 0#32
  let c0_417 : Index := 0#32
  ![2, v764.toNat, 0, 0]
def k0_off104 (i : grid0.Coords) (k0_t6 : Fin (k0_t6_loop i).trips) : Fin 4 → Nat :=
  let c2_418 : Index := 2#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v767 : Index := Scalar.indexCast v720
  let c0_419 : Index := 0#32
  let c0_420 : Index := 0#32
  ![2, v767.toNat, 0, 0]
def k0_off105 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v774 : Index := Scalar.indexCast v707
  let c0_421 : Index := 0#32
  let c0_422 : Index := 0#32
  let c256_423 : Index := 256#32
  ![v774.toNat, 0, 0, 256]
def k0_off106 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v780 : Index := Scalar.indexCast v707
  let c2_425 : Index := 2#32
  let c0_426 : Index := 0#32
  ![v780.toNat, 2, 0]
def k0_off107 (i : grid0.Coords) (k0_t6 : Fin (k0_t6_loop i).trips) : Fin 4 → Nat :=
  let c3_427 : Index := 3#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v784 : Index := Scalar.indexCast v715
  let c0_428 : Index := 0#32
  let c0_429 : Index := 0#32
  ![3, v784.toNat, 0, 0]
def k0_off108 (i : grid0.Coords) (k0_t6 : Fin (k0_t6_loop i).trips) : Fin 4 → Nat :=
  let c3_430 : Index := 3#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v787 : Index := Scalar.indexCast v720
  let c0_431 : Index := 0#32
  let c0_432 : Index := 0#32
  ![3, v787.toNat, 0, 0]
def k0_off109 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v794 : Index := Scalar.indexCast v707
  let c0_433 : Index := 0#32
  let c0_434 : Index := 0#32
  let c384_435 : Index := 384#32
  ![v794.toNat, 0, 0, 384]
def k0_off110 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v800 : Index := Scalar.indexCast v707
  let c3_437 : Index := 3#32
  let c0_438 : Index := 0#32
  ![v800.toNat, 3, 0]
def k0_off111 (i : grid0.Coords) (k0_t6 : Fin (k0_t6_loop i).trips) : Fin 2 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c256_i32_380 : BitVec 32 := 256#32
  let v708 : BitVec 32 := Scalar.muli v706 c256_i32_380
  let v709 : BitVec 32 := v708
  let v804 : Index := Scalar.indexCast v709
  let c128_439 : Index := 128#32
  ![v804.toNat, 128]
def k0_off112 (i : grid0.Coords) (k0_t6 : Fin (k0_t6_loop i).trips) : Fin 4 → Nat :=
  let c4_441 : Index := 4#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v807 : Index := Scalar.indexCast v715
  let c0_442 : Index := 0#32
  let c0_443 : Index := 0#32
  ![4, v807.toNat, 0, 0]
def k0_off113 (i : grid0.Coords) (k0_t6 : Fin (k0_t6_loop i).trips) : Fin 4 → Nat :=
  let c4_444 : Index := 4#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v810 : Index := Scalar.indexCast v720
  let c0_445 : Index := 0#32
  let c0_446 : Index := 0#32
  ![4, v810.toNat, 0, 0]
def k0_off114 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v817 : Index := Scalar.indexCast v707
  let c1_447 : Index := 1#32
  let c0_448 : Index := 0#32
  let c0_449 : Index := 0#32
  ![v817.toNat, 1, 0, 0]
def k0_off115 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v823 : Index := Scalar.indexCast v707
  let c4_451 : Index := 4#32
  let c0_452 : Index := 0#32
  ![v823.toNat, 4, 0]
def k0_off116 (i : grid0.Coords) (k0_t6 : Fin (k0_t6_loop i).trips) : Fin 4 → Nat :=
  let c5_453 : Index := 5#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v827 : Index := Scalar.indexCast v715
  let c0_454 : Index := 0#32
  let c0_455 : Index := 0#32
  ![5, v827.toNat, 0, 0]
def k0_off117 (i : grid0.Coords) (k0_t6 : Fin (k0_t6_loop i).trips) : Fin 4 → Nat :=
  let c5_456 : Index := 5#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v830 : Index := Scalar.indexCast v720
  let c0_457 : Index := 0#32
  let c0_458 : Index := 0#32
  ![5, v830.toNat, 0, 0]
def k0_off118 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v837 : Index := Scalar.indexCast v707
  let c1_459 : Index := 1#32
  let c0_460 : Index := 0#32
  let c128_461 : Index := 128#32
  ![v837.toNat, 1, 0, 128]
def k0_off119 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v843 : Index := Scalar.indexCast v707
  let c5_463 : Index := 5#32
  let c0_464 : Index := 0#32
  ![v843.toNat, 5, 0]
def k0_off120 (i : grid0.Coords) (k0_t6 : Fin (k0_t6_loop i).trips) : Fin 4 → Nat :=
  let c6_465 : Index := 6#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v847 : Index := Scalar.indexCast v715
  let c0_466 : Index := 0#32
  let c0_467 : Index := 0#32
  ![6, v847.toNat, 0, 0]
def k0_off121 (i : grid0.Coords) (k0_t6 : Fin (k0_t6_loop i).trips) : Fin 4 → Nat :=
  let c6_468 : Index := 6#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v850 : Index := Scalar.indexCast v720
  let c0_469 : Index := 0#32
  let c0_470 : Index := 0#32
  ![6, v850.toNat, 0, 0]
def k0_off122 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v857 : Index := Scalar.indexCast v707
  let c1_471 : Index := 1#32
  let c0_472 : Index := 0#32
  let c256_473 : Index := 256#32
  ![v857.toNat, 1, 0, 256]
def k0_off123 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v863 : Index := Scalar.indexCast v707
  let c6_475 : Index := 6#32
  let c0_476 : Index := 0#32
  ![v863.toNat, 6, 0]
def k0_off124 (i : grid0.Coords) (k0_t6 : Fin (k0_t6_loop i).trips) : Fin 4 → Nat :=
  let c7_477 : Index := 7#32
  let c2_i32_384 : BitVec 32 := 2#32
  let c0_i32_383 : BitVec 32 := 0#32
  let arg1 : BitVec 32 := BitVec.ofNat 32 (i 1).val
  let c2_i32_382 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v712 : BitVec 32 := Scalar.muli c2_i32_382 v706
  let v713 : BitVec 32 := Scalar.subi arg1 v712
  let v714 : BitVec 32 := Scalar.maxsi c0_i32_383 v713
  let v715 : BitVec 32 := Scalar.minsi c2_i32_384 v714
  let v867 : Index := Scalar.indexCast v715
  let c0_478 : Index := 0#32
  let c0_479 : Index := 0#32
  ![7, v867.toNat, 0, 0]
def k0_off125 (i : grid0.Coords) (k0_t6 : Fin (k0_t6_loop i).trips) : Fin 4 → Nat :=
  let c7_480 : Index := 7#32
  let c2_i32_388 : BitVec 32 := 2#32
  let c0_i32_387 : BitVec 32 := 0#32
  let arg1 : BitVec 32 := BitVec.ofNat 32 (i 1).val
  let c2_i32_385 : BitVec 32 := 2#32
  let c0_i32_167 : BitVec 32 := 0#32
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let v716 : BitVec 32 := Scalar.muli c2_i32_385 v706
  let v717 : BitVec 32 := Scalar.subi arg1 v716
  let c1_i32_386 : BitVec 32 := 1#32
  let v718 : BitVec 32 := Scalar.subi v717 c1_i32_386
  let v719 : BitVec 32 := Scalar.maxsi c0_i32_387 v718
  let v720 : BitVec 32 := Scalar.minsi c2_i32_388 v719
  let v870 : Index := Scalar.indexCast v720
  let c0_481 : Index := 0#32
  let c0_482 : Index := 0#32
  ![7, v870.toNat, 0, 0]
def k0_off126 (i : grid0.Coords) (k0_t6 : Fin (k0_t6_loop i).trips) : Fin 4 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v877 : Index := Scalar.indexCast v707
  let c1_483 : Index := 1#32
  let c0_484 : Index := 0#32
  let c384_485 : Index := 384#32
  ![v877.toNat, 1, 0, 384]
def k0_off127 (i : grid0.Coords) (k0_t6 : Fin (k0_t6_loop i).trips) : Fin 3 → Nat :=
  let c0_i32_167 : BitVec 32 := 0#32
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_166 : BitVec 32 := 1#32
  let v243 : BitVec 32 := Scalar.subi v3 c1_i32_166
  let v244 : BitVec 32 := Scalar.subi v243 c0_i32_167
  let c1_i32_168 : BitVec 32 := 1#32
  let v246 : BitVec 32 := Scalar.divsi v244 c1_i32_168
  let v247 : BitVec 32 := Scalar.muli v246 c1_i32_168
  let v248 : BitVec 32 := Scalar.addi c0_i32_167 v247
  let c1_i32_170 : BitVec 32 := 1#32
  let arg17 : BitVec 32 := Scf.iv v248 c1_i32_170 k0_t6
  let c1_i32_378 : BitVec 32 := 1#32
  let v706 : BitVec 32 := Scalar.addi arg17 c1_i32_378
  let c1_i32_379 : BitVec 32 := 1#32
  let v707 : BitVec 32 := Scalar.andi v706 c1_i32_379
  let v883 : Index := Scalar.indexCast v707
  let c7_487 : Index := 7#32
  let c0_488 : Index := 0#32
  ![v883.toNat, 7, 0]
def k0_off128 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v253 : Index := Scalar.indexCast v252
  let c0_173 : Index := 0#32
  let c0_174 : Index := 0#32
  ![v253.toNat, 0, 0]
def k0_off129 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v263 : Index := Scalar.indexCast v252
  let c0_177 : Index := 0#32
  let c0_178 : Index := 0#32
  let c0_179 : Index := 0#32
  ![v263.toNat, 0, 0, 0]
def k0_off130 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v274 : Index := Scalar.indexCast v252
  let c1_181 : Index := 1#32
  let c0_182 : Index := 0#32
  ![v274.toNat, 1, 0]
def k0_off131 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v284 : Index := Scalar.indexCast v252
  let c0_185 : Index := 0#32
  let c0_186 : Index := 0#32
  let c128_187 : Index := 128#32
  ![v284.toNat, 0, 0, 128]
def k0_off132 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v295 : Index := Scalar.indexCast v252
  let c2_189 : Index := 2#32
  let c0_190 : Index := 0#32
  ![v295.toNat, 2, 0]
def k0_off133 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v305 : Index := Scalar.indexCast v252
  let c0_193 : Index := 0#32
  let c0_194 : Index := 0#32
  let c256_195 : Index := 256#32
  ![v305.toNat, 0, 0, 256]
def k0_off134 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v316 : Index := Scalar.indexCast v252
  let c3_197 : Index := 3#32
  let c0_198 : Index := 0#32
  ![v316.toNat, 3, 0]
def k0_off135 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v326 : Index := Scalar.indexCast v252
  let c0_201 : Index := 0#32
  let c0_202 : Index := 0#32
  let c384_203 : Index := 384#32
  ![v326.toNat, 0, 0, 384]
def k0_off136 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let v337 : Index := Scalar.indexCast v251
  let c0_205 : Index := 0#32
  let c0_206 : Index := 0#32
  ![v337.toNat, 0, 0]
def k0_off137 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v351 : Index := Scalar.indexCast v252
  let c4_214 : Index := 4#32
  let c0_215 : Index := 0#32
  ![v351.toNat, 4, 0]
def k0_off138 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v361 : Index := Scalar.indexCast v252
  let c1_218 : Index := 1#32
  let c0_219 : Index := 0#32
  let c0_220 : Index := 0#32
  ![v361.toNat, 1, 0, 0]
def k0_off139 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v372 : Index := Scalar.indexCast v252
  let c5_222 : Index := 5#32
  let c0_223 : Index := 0#32
  ![v372.toNat, 5, 0]
def k0_off140 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v382 : Index := Scalar.indexCast v252
  let c1_226 : Index := 1#32
  let c0_227 : Index := 0#32
  let c128_228 : Index := 128#32
  ![v382.toNat, 1, 0, 128]
def k0_off141 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v393 : Index := Scalar.indexCast v252
  let c6_230 : Index := 6#32
  let c0_231 : Index := 0#32
  ![v393.toNat, 6, 0]
def k0_off142 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v403 : Index := Scalar.indexCast v252
  let c1_234 : Index := 1#32
  let c0_235 : Index := 0#32
  let c256_236 : Index := 256#32
  ![v403.toNat, 1, 0, 256]
def k0_off143 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v414 : Index := Scalar.indexCast v252
  let c7_238 : Index := 7#32
  let c0_239 : Index := 0#32
  ![v414.toNat, 7, 0]
def k0_off144 (i : grid0.Coords) : Fin 4 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let c1_i32_172 : BitVec 32 := 1#32
  let v252 : BitVec 32 := Scalar.andi v251 c1_i32_172
  let v424 : Index := Scalar.indexCast v252
  let c1_242 : Index := 1#32
  let c0_243 : Index := 0#32
  let c384_244 : Index := 384#32
  ![v424.toNat, 1, 0, 384]
def k0_off145 (i : grid0.Coords) : Fin 3 → Nat :=
  let arg1 : BitVec 32 := BitVec.ofNat 32 (i 1).val
  let c1_i32 : BitVec 32 := 1#32
  let v1 : BitVec 32 := Scalar.addi arg1 c1_i32
  let c1_i32_0 : BitVec 32 := 1#32
  let v2 : BitVec 32 := Scalar.addi v1 c1_i32_0
  let c1_i32_1 : BitVec 32 := 1#32
  let v3 : BitVec 32 := Scalar.shrui v2 c1_i32_1
  let c1_i32_171 : BitVec 32 := 1#32
  let v251 : BitVec 32 := Scalar.subi v3 c1_i32_171
  let v435 : Index := Scalar.indexCast v251
  let c64 : Index := 64#32
  let c0_246 : Index := 0#32
  ![v435.toNat, 64, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c20_i32 : BitVec 32 := 20#32
  let c0_i32 : BitVec 32 := 0#32
  ![v1.toNat, c20_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Experts.lean ====
abbrev S34816x1152 : Shape := ⟨2, ![34816, 1152]⟩
abbrev S68 : Shape := ⟨1, ![68]⟩
abbrev S1 : Shape := ⟨1, ![1]⟩
abbrev S2x4x4x1024x512 : Shape := ⟨5, ![2, 4, 4, 1024, 512]⟩
abbrev S2x4x4x512x1024 : Shape := ⟨5, ![2, 4, 4, 512, 1024]⟩
abbrev S1024 : Shape := ⟨1, ![1024]⟩
abbrev S34816x1024 : Shape := ⟨2, ![34816, 1024]⟩
abbrev S512x1152 : Shape := ⟨2, ![512, 1152]⟩
abbrev S1x1x4x1024x512 : Shape := ⟨5, ![1, 1, 4, 1024, 512]⟩
abbrev S1x1x4x512x1024 : Shape := ⟨5, ![1, 1, 4, 512, 1024]⟩
abbrev S512x1024 : Shape := ⟨2, ![512, 1024]⟩
abbrev S4x1024x512 : Shape := ⟨3, ![4, 1024, 512]⟩
abbrev S4x512x1024 : Shape := ⟨3, ![4, 512, 1024]⟩
abbrev S1x1x1x1024x512 : Shape := ⟨5, ![1, 1, 1, 1024, 512]⟩
abbrev S1024x512 : Shape := ⟨2, ![1024, 512]⟩
abbrev S1x1024x512 : Shape := ⟨3, ![1, 1024, 512]⟩
abbrev S1x1x1x512x1024 : Shape := ⟨5, ![1, 1, 1, 512, 1024]⟩
abbrev S1x512x1024 : Shape := ⟨3, ![1, 512, 1024]⟩
abbrev S512x128 : Shape := ⟨2, ![512, 128]⟩
abbrev S512x512 : Shape := ⟨2, ![512, 512]⟩
abbrev S512x1 : Shape := ⟨2, ![512, 1]⟩
abbrev S512 : Shape := ⟨1, ![512]⟩
abbrev S1x1024 : Shape := ⟨2, ![1, 1024]⟩

abbrev nBuf : Space → Nat
  | .hbm => 7
  | .vmem => 12
  | .smem => 3
  | _ => 0

abbrev bufTy : (tb : Table) → Fin (tcTables nBuf tb) → BufTy
  | .hbm, ⟨0, _⟩ => ⟨S34816x1152, .f32⟩
  | .hbm, ⟨1, _⟩ => ⟨S2x4x4x1024x512, .f32⟩
  | .hbm, ⟨2, _⟩ => ⟨S2x4x4x1024x512, .f32⟩
  | .hbm, ⟨3, _⟩ => ⟨S2x4x4x512x1024, .f32⟩
  | .hbm, ⟨4, _⟩ => ⟨S1024, .f32⟩
  | .hbm, ⟨5, _⟩ => ⟨S1024, .f32⟩
  | .hbm, ⟨6, _⟩ => ⟨S34816x1024, .f32⟩
  | .local _ .vmem, ⟨0, _⟩ => ⟨S512x1152, .f32⟩
  | .local _ .vmem, ⟨1, _⟩ => ⟨S512x1152, .f32⟩
  | .local _ .vmem, ⟨2, _⟩ => ⟨S1x1x4x1024x512, .f32⟩
  | .local _ .vmem, ⟨3, _⟩ => ⟨S1x1x4x1024x512, .f32⟩
  | .local _ .vmem, ⟨4, _⟩ => ⟨S1x1x4x512x1024, .f32⟩
  | .local _ .vmem, ⟨5, _⟩ => ⟨S1024, .f32⟩
  | .local _ .vmem, ⟨6, _⟩ => ⟨S1024, .f32⟩
  | .local _ .vmem, ⟨7, _⟩ => ⟨S512x1024, .f32⟩
  | .local _ .vmem, ⟨8, _⟩ => ⟨S512x1024, .f32⟩
  | .local _ .vmem, ⟨9, _⟩ => ⟨S4x1024x512, .bf16⟩
  | .local _ .vmem, ⟨10, _⟩ => ⟨S4x1024x512, .bf16⟩
  | .local _ .vmem, ⟨11, _⟩ => ⟨S4x512x1024, .bf16⟩
  | .local _ .smem, ⟨0, _⟩ => ⟨S68, .i32⟩
  | .local _ .smem, ⟨1, _⟩ => ⟨S68, .i32⟩
  | .local _ .smem, ⟨2, _⟩ => ⟨S1, .i32⟩
  | _, _ => ⟨S34816x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_v0 : Ref sig .tc := ⟨.hbm, 6, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![68], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (k0_off1_inb : ∀ i : grid0.Coords, ∀ a, (k0_off1 i) a + S1.size a ≤ S68.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S68) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_2 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_3 (k0_off1_inb : ∀ i : grid0.Coords, ∀ a, (k0_off1 i) a + S1.size a ≤ S68.size a) (numel1_S1 : S1.numel = 1) (pf : pre0.Contents (Elt F)) (i : grid0.Coords) : Fin 5 → Nat :=
  let arg0 : BitVec 32 := BitVec.ofNat 32 (i 0).val
  let v0 : Index := Scalar.indexCast arg0
  let v1 : BitVec 32 := pf.at 0 (Rect.unit (s := S68) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, v1.toNat, c0_i32_0.toNat, c0_i32_1.toNat, c0_i32_2.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x4x1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1x4x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1x4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== HierIdeal.lean ====
abbrev S34816x1152 : Shape := ⟨2, ![34816, 1152]⟩
abbrev S68 : Shape := ⟨1, ![68]⟩
abbrev S1 : Shape := ⟨1, ![1]⟩
abbrev S2x4x4x1024x512 : Shape := ⟨5, ![2, 4, 4, 1024, 512]⟩
abbrev S2x4x4x512x1024 : Shape := ⟨5, ![2, 4, 4, 512, 1024]⟩
abbrev S1024 : Shape := ⟨1, ![1024]⟩
abbrev S68x512x1152 : Shape := ⟨3, ![68, 512, 1152]⟩
abbrev S_ : Shape := ⟨0, ![]⟩
abbrev S68x1 : Shape := ⟨2, ![68, 1]⟩
abbrev S34816x1024 : Shape := ⟨2, ![34816, 1024]⟩
abbrev S34816x4 : Shape := ⟨2, ![34816, 4]⟩
abbrev S68x512 : Shape := ⟨2, ![68, 512]⟩
abbrev S34816 : Shape := ⟨1, ![34816]⟩
abbrev S34816x1 : Shape := ⟨2, ![34816, 1]⟩
abbrev S1x4 : Shape := ⟨2, ![1, 4]⟩
abbrev S34816x4x1 : Shape := ⟨3, ![34816, 4, 1]⟩
abbrev S34816x1x4 : Shape := ⟨3, ![34816, 1, 4]⟩
abbrev S34816x4x4 : Shape := ⟨3, ![34816, 4, 4]⟩
abbrev S1x1x4x1024x512 : Shape := ⟨5, ![1, 1, 4, 1024, 512]⟩
abbrev S4x1024x512 : Shape := ⟨3, ![4, 1024, 512]⟩
abbrev S34816x4x512 : Shape := ⟨3, ![34816, 4, 512]⟩
abbrev S1x1x4x512x1024 : Shape := ⟨5, ![1, 1, 4, 512, 1024]⟩
abbrev S4x512x1024 : Shape := ⟨3, ![4, 512, 1024]⟩
abbrev S1x1024 : Shape := ⟨2, ![1, 1024]⟩

abbrev nBuf : Space → Nat
  | .hbm => 182
  | .vmem => 0
  | .smem => 0
  | _ => 0

abbrev hbmTy0_0 (i : Nat) : BufTy := match i % 128 with
  | 0 => ⟨S34816x1152, .f32⟩
  | 1 => ⟨S68, .i32⟩
  | 2 => ⟨S68, .i32⟩
  | 3 => ⟨S1, .i32⟩
  | 4 => ⟨S2x4x4x1024x512, .f32⟩
  | 5 => ⟨S2x4x4x1024x512, .f32⟩
  | 6 => ⟨S2x4x4x512x1024, .f32⟩
  | 7 => ⟨S1024, .f32⟩
  | 8 => ⟨S1024, .f32⟩
  | 9 => ⟨S68x512x1152, .f32⟩
  | 10 => ⟨S_, .i32⟩
  | 11 => ⟨S68, .i32⟩
  | 12 => ⟨S68, .i1⟩
  | 13 => ⟨S_, .i32⟩
  | 14 => ⟨S68, .i32⟩
  | 15 => ⟨S68, .i32⟩
  | 16 => ⟨S68, .i32⟩
  | 17 => ⟨S68x1, .i32⟩
  | 18 => ⟨S68x512x1152, .f32⟩
  | 19 => ⟨S34816x1152, .f32⟩
  | 20 => ⟨S34816x1024, .f32⟩
  | 21 => ⟨S34816x4, .f32⟩
  | 22 => ⟨S68x512, .i32⟩
  | 23 => ⟨S34816, .i32⟩
  | 24 => ⟨S34816x1, .i32⟩
  | 25 => ⟨S1x4, .i32⟩
  | 26 => ⟨S34816x4, .i32⟩
  | 27 => ⟨S34816x4, .i32⟩
  | 28 => ⟨S34816x4, .i1⟩
  | 29 => ⟨S34816x4, .f32⟩
  | 30 => ⟨S34816x4x1, .f32⟩
  | 31 => ⟨S34816x1x4, .f32⟩
  | 32 => ⟨S34816x4x4, .f32⟩
  | 33 => ⟨S34816x4x4, .f32⟩
  | 34 => ⟨S34816x4x4, .f32⟩
  | 35 => ⟨S_, .f32⟩
  | 36 => ⟨S34816x1024, .f32⟩
  | 37 => ⟨S1x1x4x1024x512, .f32⟩
  | 38 => ⟨S4x1024x512, .f32⟩
  | 39 => ⟨S34816x4x512, .f32⟩
  | 40 => ⟨S34816x4x512, .f32⟩
  | 41 => ⟨S34816x4x512, .f32⟩
  | 42 => ⟨S_, .f32⟩
  | 43 => ⟨S34816x4x512, .f32⟩
  | 44 => ⟨S34816x4x512, .f32⟩
  | 45 => ⟨S_, .f32⟩
  | 46 => ⟨S34816x4x512, .f32⟩
  | 47 => ⟨S34816x4x512, .f32⟩
  | 48 => ⟨S34816x4x512, .f32⟩
  | 49 => ⟨S1x1x4x1024x512, .f32⟩
  | 50 => ⟨S4x1024x512, .f32⟩
  | 51 => ⟨S34816x4x512, .f32⟩
  | 52 => ⟨S34816x4x512, .f32⟩
  | 53 => ⟨S34816x1x4, .f32⟩
  | 54 => ⟨S34816x4, .f32⟩
  | 55 => ⟨S34816x4x1, .f32⟩
  | 56 => ⟨S34816x4x512, .f32⟩
  | 57 => ⟨S34816x4x512, .f32⟩
  | 58 => ⟨S1x1x4x512x1024, .f32⟩
  | 59 => ⟨S4x512x1024, .f32⟩
  | 60 => ⟨S34816x1024, .f32⟩
  | 61 => ⟨S34816x1024, .f32⟩
  | 62 => ⟨S1x1x4x1024x512, .f32⟩
  | 63 => ⟨S4x1024x512, .f32⟩
  | 64 => ⟨S34816x4x512, .f32⟩
  | 65 => ⟨S34816x4x512, .f32⟩
  | 66 => ⟨S34816x4x512, .f32⟩
  | 67 => ⟨S_, .f32⟩
  | 68 => ⟨S34816x4x512, .f32⟩
  | 69 => ⟨S34816x4x512, .f32⟩
  | 70 => ⟨S_, .f32⟩
  | 71 => ⟨S34816x4x512, .f32⟩
  | 72 => ⟨S34816x4x512, .f32⟩
  | 73 => ⟨S34816x4x512, .f32⟩
  | 74 => ⟨S1x1x4x1024x512, .f32⟩
  | 75 => ⟨S4x1024x512, .f32⟩
  | 76 => ⟨S34816x4x512, .f32⟩
  | 77 => ⟨S34816x4x512, .f32⟩
  | 78 => ⟨S34816x1x4, .f32⟩
  | 79 => ⟨S34816x4, .f32⟩
  | 80 => ⟨S34816x4x1, .f32⟩
  | 81 => ⟨S34816x4x512, .f32⟩
  | 82 => ⟨S34816x4x512, .f32⟩
  | 83 => ⟨S1x1x4x512x1024, .f32⟩
  | 84 => ⟨S4x512x1024, .f32⟩
  | 85 => ⟨S34816x1024, .f32⟩
  | 86 => ⟨S34816x1024, .f32⟩
  | 87 => ⟨S1x1x4x1024x512, .f32⟩
  | 88 => ⟨S4x1024x512, .f32⟩
  | 89 => ⟨S34816x4x512, .f32⟩
  | 90 => ⟨S34816x4x512, .f32⟩
  | 91 => ⟨S34816x4x512, .f32⟩
  | 92 => ⟨S_, .f32⟩
  | 93 => ⟨S34816x4x512, .f32⟩
  | 94 => ⟨S34816x4x512, .f32⟩
  | 95 => ⟨S_, .f32⟩
  | 96 => ⟨S34816x4x512, .f32⟩
  | 97 => ⟨S34816x4x512, .f32⟩
  | 98 => ⟨S34816x4x512, .f32⟩
  | 99 => ⟨S1x1x4x1024x512, .f32⟩
  | 100 => ⟨S4x1024x512, .f32⟩
  | 101 => ⟨S34816x4x512, .f32⟩
  | 102 => ⟨S34816x4x512, .f32⟩
  | 103 => ⟨S34816x1x4, .f32⟩
  | 104 => ⟨S34816x4, .f32⟩
  | 105 => ⟨S34816x4x1, .f32⟩
  | 106 => ⟨S34816x4x512, .f32⟩
  | 107 => ⟨S34816x4x512, .f32⟩
  | 108 => ⟨S1x1x4x512x1024, .f32⟩
  | 109 => ⟨S4x512x1024, .f32⟩
  | 110 => ⟨S34816x1024, .f32⟩
  | 111 => ⟨S34816x1024, .f32⟩
  | 112 => ⟨S1x1x4x1024x512, .f32⟩
  | 113 => ⟨S4x1024x512, .f32⟩
  | 114 => ⟨S34816x4x512, .f32⟩
  | 115 => ⟨S34816x4x512, .f32⟩
  | 116 => ⟨S34816x4x512, .f32⟩
  | 117 => ⟨S_, .f32⟩
  | 118 => ⟨S34816x4x512, .f32⟩
  | 119 => ⟨S34816x4x512, .f32⟩
  | 120 => ⟨S_, .f32⟩
  | 121 => ⟨S34816x4x512, .f32⟩
  | 122 => ⟨S34816x4x512, .f32⟩
  | 123 => ⟨S34816x4x512, .f32⟩
  | 124 => ⟨S1x1x4x1024x512, .f32⟩
  | 125 => ⟨S4x1024x512, .f32⟩
  | 126 => ⟨S34816x4x512, .f32⟩
  | 127 => ⟨S34816x4x512, .f32⟩
  | _ => ⟨S34816x1152, .f32⟩

abbrev hbmTy0_1 (i : Nat) : BufTy := match i % 128 with
  | 0 => ⟨S34816x1x4, .f32⟩
  | 1 => ⟨S34816x4, .f32⟩
  | 2 => ⟨S34816x4x1, .f32⟩
  | 3 => ⟨S34816x4x512, .f32⟩
  | 4 => ⟨S34816x4x512, .f32⟩
  | 5 => ⟨S1x1x4x512x1024, .f32⟩
  | 6 => ⟨S4x512x1024, .f32⟩
  | 7 => ⟨S34816x1024, .f32⟩
  | 8 => ⟨S34816x1024, .f32⟩
  | 9 => ⟨S_, .f32⟩
  | 10 => ⟨S34816x1024, .f32⟩
  | 11 => ⟨S34816x1024, .f32⟩
  | 12 => ⟨S34816x1024, .f32⟩
  | 13 => ⟨S_, .f32⟩
  | 14 => ⟨S34816, .f32⟩
  | 15 => ⟨S34816x1, .f32⟩
  | 16 => ⟨S_, .f32⟩
  | 17 => ⟨S34816x1, .f32⟩
  | 18 => ⟨S34816x1, .f32⟩
  | 19 => ⟨S34816x1024, .f32⟩
  | 20 => ⟨S34816x1024, .f32⟩
  | 21 => ⟨S34816x1024, .f32⟩
  | 22 => ⟨S_, .f32⟩
  | 23 => ⟨S34816, .f32⟩
  | 24 => ⟨S34816x1, .f32⟩
  | 25 => ⟨S_, .f32⟩
  | 26 => ⟨S34816x1, .f32⟩
  | 27 => ⟨S34816x1, .f32⟩
  | 28 => ⟨S34816x1024, .f32⟩
  | 29 => ⟨S34816x1024, .f32⟩
  | 30 => ⟨S_, .f32⟩
  | 31 => ⟨S34816x1, .f32⟩
  | 32 => ⟨S34816x1, .f32⟩
  | 33 => ⟨S34816x1, .f32⟩
  | 34 => ⟨S34816x1024, .f32⟩
  | 35 => ⟨S34816x1024, .f32⟩
  | 36 => ⟨S1x1024, .f32⟩
  | 37 => ⟨S34816x1024, .f32⟩
  | 38 => ⟨S34816x1024, .f32⟩
  | 39 => ⟨S1x1024, .f32⟩
  | 40 => ⟨S34816x1024, .f32⟩
  | 41 => ⟨S34816x1024, .f32⟩
  | 42 => ⟨S68, .i32⟩
  | 43 => ⟨S_, .i32⟩
  | 44 => ⟨S68, .i32⟩
  | 45 => ⟨S68, .i1⟩
  | 46 => ⟨S68x512, .i1⟩
  | 47 => ⟨S34816, .i1⟩
  | 48 => ⟨S34816x1, .i1⟩
  | 49 => ⟨S_, .f32⟩
  | 50 => ⟨S_, .f32⟩
  | 51 => ⟨S34816x1024, .i1⟩
  | 52 => ⟨S34816x1024, .f32⟩
  | 53 => ⟨S34816x1024, .f32⟩
  | _ => ⟨S34816x1152, .f32⟩

abbrev hbmTy (i : Nat) : BufTy := match i / 128 with
  | 0 => hbmTy0_0 i
  | 1 => hbmTy0_1 i
  | _ => ⟨S34816x1152, .f32⟩

abbrev bufTy : (tb : Table) → Fin (tcTables nBuf tb) → BufTy
  | .hbm, ⟨i, _⟩ => hbmTy i
  | _, _ => ⟨S34816x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_call3_v0 : Ref sig .tc := ⟨.hbm, 90, rfl⟩
abbrev main_call3_v1 : Ref sig .tc := ⟨.hbm, 91, rfl⟩
abbrev main_call3_cst : Ref sig .tc := ⟨.hbm, 92, rfl⟩
abbrev main_call3_v2 : Ref sig .tc := ⟨.hbm, 93, rfl⟩
abbrev main_call3_v3 : Ref sig .tc := ⟨.hbm, 94, rfl⟩
abbrev main_call3_cst_0 : Ref sig .tc := ⟨.hbm, 95, rfl⟩
abbrev main_call3_v4 : Ref sig .tc := ⟨.hbm, 96, rfl⟩
abbrev main_call3_v5 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call4_v0 : Ref sig .tc := ⟨.hbm, 115, rfl⟩
abbrev main_call4_v1 : Ref sig .tc := ⟨.hbm, 116, rfl⟩
abbrev main_call4_cst : Ref sig .tc := ⟨.hbm, 117, rfl⟩
abbrev main_call4_v2 : Ref sig .tc := ⟨.hbm, 118, rfl⟩
abbrev main_call4_v3 : Ref sig .tc := ⟨.hbm, 119, rfl⟩
abbrev main_call4_cst_0 : Ref sig .tc := ⟨.hbm, 120, rfl⟩
abbrev main_call4_v4 : Ref sig .tc := ⟨.hbm, 121, rfl⟩
abbrev main_call4_v5 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_1 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_2 : Ref sig .tc := ⟨.hbm, 141, rfl⟩
abbrev main_v91 : Ref sig .tc := ⟨.hbm, 142, rfl⟩
abbrev main_v92 : Ref sig .tc := ⟨.hbm, 143, rfl⟩
abbrev main_cst_3 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_cst_4 : Ref sig .tc := ⟨.hbm, 150, rfl⟩
abbrev main_v98 : Ref sig .tc := ⟨.hbm, 151, rfl⟩
abbrev main_v99 : Ref sig .tc := ⟨.hbm, 152, rfl⟩
abbrev main_cst_5 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_cst_6 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_7 : Ref sig .tc := ⟨.hbm, 177, rfl⟩
abbrev main_call5_v0 : Ref sig .tc := ⟨.hbm, 178, rfl⟩
abbrev main_call5_v1 : Ref sig .tc := ⟨.hbm, 179, rfl⟩
abbrev main_call5_v2 : Ref sig .tc := ⟨.hbm, 180, rfl⟩
abbrev main_v122 : Ref sig .tc := ⟨.hbm, 181, rfl⟩

abbrev nD : Nat := 1
abbrev τ : Topo := Topo.v7x

variable {F : FTy → Type} [FloatOps F]
-- ==== Glu.lean ====
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GluRefIdeal.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768, .f32⟩
  | .hbm, ⟨26, _⟩ => ⟨S32768x1, .f32⟩
  | .hbm, ⟨27, _⟩ => ⟨S_, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x1, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024, .f32⟩
  | .hbm, ⟨51, _⟩ => ⟨S32768x1024, .f32⟩
  | .hbm, ⟨52, _⟩ => ⟨S32768x1024, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== OutProj.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutProjRefIdeal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S32768x512, .f32⟩
  | .hbm, ⟨7, _⟩ => ⟨S32768x512, .f32⟩
  | .hbm, ⟨8, _⟩ => ⟨S32768x1024, .f32⟩
  | .hbm, ⟨9, _⟩ => ⟨S32768x1024, .f32⟩
  | .hbm, ⟨10, _⟩ => ⟨S_, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== StateIn.lean ====
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S1024x1024, .bf16⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== StateInRefIdeal.lean ====
abbrev S32768x1024 : Shape := ⟨2, ![32768, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x1024, .f32⟩
  | .hbm, ⟨2, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenIn.lean ====
abbrev S32768x1024 : Shape := ⟨2, ![32768, 1024]⟩
abbrev S1024x2644 : Shape := ⟨2, ![1024, 2644]⟩
abbrev S1024x512 : Shape := ⟨2, ![1024, 512]⟩
abbrev S1024x128 : Shape := ⟨2, ![1024, 128]⟩
abbrev S1024x256 : Shape := ⟨2, ![1024, 256]⟩
abbrev S1024x64 : Shape := ⟨2, ![1024, 64]⟩
abbrev S1024x4 : Shape := ⟨2, ![1024, 4]⟩
abbrev S1024x16 : Shape := ⟨2, ![1024, 16]⟩
abbrev S_ : Shape := ⟨0, ![]⟩
abbrev S1024x44 : Shape := ⟨2, ![1024, 44]⟩
abbrev S1024x8x64 : Shape := ⟨3, ![1024, 8, 64]⟩
abbrev S1024x8x128 : Shape := ⟨3, ![1024, 8, 128]⟩
abbrev S1024x1024 : Shape := ⟨2, ![1024, 1024]⟩
abbrev S1024x2x64 : Shape := ⟨3, ![1024, 2, 64]⟩
abbrev S1024x2x128 : Shape := ⟨3, ![1024, 2, 128]⟩
abbrev S1024x1408 : Shape := ⟨2, ![1024, 1408]⟩
abbrev S1024x4x64 : Shape := ⟨3, ![1024, 4, 64]⟩
abbrev S1024x4x128 : Shape := ⟨3, ![1024, 4, 128]⟩
abbrev S1024x2688 : Shape := ⟨2, ![1024, 2688]⟩
abbrev S1024x4096 : Shape := ⟨2, ![1024, 4096]⟩
abbrev S32768x1408 : Shape := ⟨2, ![32768, 1408]⟩
abbrev S32768x2688 : Shape := ⟨2, ![32768, 2688]⟩
abbrev S512x1024 : Shape := ⟨2, ![512, 1024]⟩
abbrev S512x1408 : Shape := ⟨2, ![512, 1408]⟩
abbrev S512x2688 : Shape := ⟨2, ![512, 2688]⟩
abbrev S512x256 : Shape := ⟨2, ![512, 256]⟩
abbrev S512x128 : Shape := ⟨2, ![512, 128]⟩

abbrev nBuf : Space → Nat
  | .hbm => 47
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S1024x2644, .f32⟩
  | .hbm, ⟨2, _⟩ => ⟨S1024x512, .f32⟩
  | .hbm, ⟨3, _⟩ => ⟨S1024x128, .f32⟩
  | .hbm, ⟨4, _⟩ => ⟨S1024x128, .f32⟩
  | .hbm, ⟨5, _⟩ => ⟨S1024x256, .f32⟩
  | .hbm, ⟨6, _⟩ => ⟨S1024x64, .f32⟩
  | .hbm, ⟨7, _⟩ => ⟨S1024x4, .f32⟩
  | .hbm, ⟨8, _⟩ => ⟨S1024x256, .f32⟩
  | .hbm, ⟨9, _⟩ => ⟨S1024x256, .f32⟩
  | .hbm, ⟨10, _⟩ => ⟨S1024x512, .f32⟩
  | .hbm, ⟨11, _⟩ => ⟨S1024x16, .f32⟩
  | .hbm, ⟨12, _⟩ => ⟨S1024x512, .f32⟩
  | .hbm, ⟨13, _⟩ => ⟨S_, .f32⟩
  | .hbm, ⟨14, _⟩ => ⟨S1024x44, .f32⟩
  | .hbm, ⟨15, _⟩ => ⟨S1024x128, .f32⟩
  | .hbm, ⟨16, _⟩ => ⟨S1024x8x64, .f32⟩
  | .hbm, ⟨17, _⟩ => ⟨S_, .i32⟩
  | .hbm, ⟨18, _⟩ => ⟨S_, .f32⟩
  | .hbm, ⟨19, _⟩ => ⟨S1024x8x128, .f32⟩
  | .hbm, ⟨20, _⟩ => ⟨S1024x1024, .f32⟩
  | .hbm, ⟨21, _⟩ => ⟨S1024x2x64, .f32⟩
  | .hbm, ⟨22, _⟩ => ⟨S_, .i32⟩
  | .hbm, ⟨23, _⟩ => ⟨S_, .f32⟩
  | .hbm, ⟨24, _⟩ => ⟨S1024x2x128, .f32⟩
  | .hbm, ⟨25, _⟩ => ⟨S1024x256, .f32⟩
  | .hbm, ⟨26, _⟩ => ⟨S1024x1408, .f32⟩
  | .hbm, ⟨27, _⟩ => ⟨S1024x4x64, .f32⟩
  | .hbm, ⟨28, _⟩ => ⟨S_, .i32⟩
  | .hbm, ⟨29, _⟩ => ⟨S_, .f32⟩
  | .hbm, ⟨30, _⟩ => ⟨S1024x4x128, .f32⟩
  | .hbm, ⟨31, _⟩ => ⟨S1024x512, .f32⟩
  | .hbm, ⟨32, _⟩ => ⟨S1024x4x64, .f32⟩
  | .hbm, ⟨33, _⟩ => ⟨S_, .i32⟩
  | .hbm, ⟨34, _⟩ => ⟨S_, .f32⟩
  | .hbm, ⟨35, _⟩ => ⟨S1024x4x128, .f32⟩
  | .hbm, ⟨36, _⟩ => ⟨S1024x512, .f32⟩
  | .hbm, ⟨37, _⟩ => ⟨S1024x4x64, .f32⟩
  | .hbm, ⟨38, _⟩ => ⟨S_, .i32⟩
  | .hbm, ⟨39, _⟩ => ⟨S_, .f32⟩
  | .hbm, ⟨40, _⟩ => ⟨S1024x4x128, .f32⟩
  | .hbm, ⟨41, _⟩ => ⟨S1024x512, .f32⟩
  | .hbm, ⟨42, _⟩ => ⟨S1024x2688, .f32⟩
  | .hbm, ⟨43, _⟩ => ⟨S1024x4096, .f32⟩
  | .hbm, ⟨44, _⟩ => ⟨S1024x4096, .bf16⟩
  | .hbm, ⟨45, _⟩ => ⟨S32768x1408, .bf16⟩
  | .hbm, ⟨46, _⟩ => ⟨S32768x2688, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x1408, .bf16⟩
  | .local _ .vmem, ⟨4, _⟩ => ⟨S512x1408, .bf16⟩
  | .local _ .vmem, ⟨5, _⟩ => ⟨S512x2688, .f32⟩
  | .local _ .vmem, ⟨6, _⟩ => ⟨S512x2688, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_c : Ref sig .tc := ⟨.hbm, 17, rfl⟩
abbrev main_call0_v0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_call1_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_1 : Ref sig .tc := ⟨.hbm, 28, rfl⟩
abbrev main_call2_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_2 : Ref sig .tc := ⟨.hbm, 33, rfl⟩
abbrev main_call3_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_call4_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EvenInRefIdeal.lean ====
abbrev S32768x1024 : Shape := ⟨2, ![32768, 1024]⟩
abbrev S1024x2644 : Shape := ⟨2, ![1024, 2644]⟩
abbrev S32768x2644 : Shape := ⟨2, ![32768, 2644]⟩
abbrev S32768x512 : Shape := ⟨2, ![32768, 512]⟩
abbrev S32768x128 : Shape := ⟨2, ![32768, 128]⟩
abbrev S32768x256 : Shape := ⟨2, ![32768, 256]⟩
abbrev S32768x64 : Shape := ⟨2, ![32768, 64]⟩
abbrev S32768x4 : Shape := ⟨2, ![32768, 4]⟩
abbrev S32768x16 : Shape := ⟨2, ![32768, 16]⟩
abbrev S32768x8x64 : Shape := ⟨3, ![32768, 8, 64]⟩
abbrev S_ : Shape := ⟨0, ![]⟩
abbrev S32768x8x128 : Shape := ⟨3, ![32768, 8, 128]⟩
abbrev S32768x2x64 : Shape := ⟨3, ![32768, 2, 64]⟩
abbrev S32768x2x128 : Shape := ⟨3, ![32768, 2, 128]⟩
abbrev S32768x1408 : Shape := ⟨2, ![32768, 1408]⟩
abbrev S32768x4x64 : Shape := ⟨3, ![32768, 4, 64]⟩
abbrev S32768x4x128 : Shape := ⟨3, ![32768, 4, 128]⟩
abbrev S32768x44 : Shape := ⟨2, ![32768, 44]⟩
abbrev S32768x2688 : Shape := ⟨2, ![32768, 2688]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2644, .f32⟩
  | .hbm, ⟨2, _⟩ => ⟨S32768x2644, .f32⟩
  | .hbm, ⟨3, _⟩ => ⟨S32768x512, .f32⟩
  | .hbm, ⟨4, _⟩ => ⟨S32768x128, .f32⟩
  | .hbm, ⟨5, _⟩ => ⟨S32768x128, .f32⟩
  | .hbm, ⟨6, _⟩ => ⟨S32768x256, .f32⟩
  | .hbm, ⟨7, _⟩ => ⟨S32768x64, .f32⟩
  | .hbm, ⟨8, _⟩ => ⟨S32768x4, .f32⟩
  | .hbm, ⟨9, _⟩ => ⟨S32768x256, .f32⟩
  | .hbm, ⟨10, _⟩ => ⟨S32768x256, .f32⟩
  | .hbm, ⟨11, _⟩ => ⟨S32768x512, .f32⟩
  | .hbm, ⟨12, _⟩ => ⟨S32768x16, .f32⟩
  | .hbm, ⟨13, _⟩ => ⟨S32768x512, .f32⟩
  | .hbm, ⟨14, _⟩ => ⟨S32768x8x64, .f32⟩
  | .hbm, ⟨15, _⟩ => ⟨S_, .i32⟩
  | .hbm, ⟨16, _⟩ => ⟨S_, .f32⟩
  | .hbm, ⟨17, _⟩ => ⟨S32768x8x128, .f32⟩
  | .hbm, ⟨18, _⟩ => ⟨S32768x1024, .f32⟩
  | .hbm, ⟨19, _⟩ => ⟨S32768x2x64, .f32⟩
  | .hbm, ⟨20, _⟩ => ⟨S_, .i32⟩
  | .hbm, ⟨21, _⟩ => ⟨S_, .f32⟩
  | .hbm, ⟨22, _⟩ => ⟨S32768x2x128, .f32⟩
  | .hbm, ⟨23, _⟩ => ⟨S32768x256, .f32⟩
  | .hbm, ⟨24, _⟩ => ⟨S32768x1408, .f32⟩
  | .hbm, ⟨25, _⟩ => ⟨S32768x4x64, .f32⟩
  | .hbm, ⟨26, _⟩ => ⟨S_, .i32⟩
  | .hbm, ⟨27, _⟩ => ⟨S_, .f32⟩
  | .hbm, ⟨28, _⟩ => ⟨S32768x4x128, .f32⟩
  | .hbm, ⟨29, _⟩ => ⟨S32768x512, .f32⟩
  | .hbm, ⟨30, _⟩ => ⟨S32768x4x64, .f32⟩
  | .hbm, ⟨31, _⟩ => ⟨S_, .i32⟩
  | .hbm, ⟨32, _⟩ => ⟨S_, .f32⟩
  | .hbm, ⟨33, _⟩ => ⟨S32768x4x128, .f32⟩
  | .hbm, ⟨34, _⟩ => ⟨S32768x512, .f32⟩
  | .hbm, ⟨35, _⟩ => ⟨S32768x4x64, .f32⟩
  | .hbm, ⟨36, _⟩ => ⟨S_, .i32⟩
  | .hbm, ⟨37, _⟩ => ⟨S_, .f32⟩
  | .hbm, ⟨38, _⟩ => ⟨S32768x4x128, .f32⟩
  | .hbm, ⟨39, _⟩ => ⟨S32768x512, .f32⟩
  | .hbm, ⟨40, _⟩ => ⟨S_, .f32⟩
  | .hbm, ⟨41, _⟩ => ⟨S32768x44, .f32⟩
  | .hbm, ⟨42, _⟩ => ⟨S32768x2688, .f32⟩
  | .hbm, ⟨43, _⟩ => ⟨S32768x1408, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_c : Ref sig .tc := ⟨.hbm, 15, rfl⟩
abbrev main_call0_v0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_call1_v0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call2_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_call3_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call4_v0 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S4096x1 : Shape := ⟨2, ![4096, 1]⟩
abbrev S4096x16 : Shape := ⟨2, ![4096, 16]⟩

abbrev nBuf : Space → Nat
  | .hbm => 16
  | .vmem => 9
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x16, .f32⟩
  | .hbm, ⟨11, _⟩ => ⟨S4096x16, .f32⟩
  | .hbm, ⟨12, _⟩ => ⟨S4096x1, .f32⟩
  | .hbm, ⟨13, _⟩ => ⟨S4096x1, .f32⟩
  | .hbm, ⟨14, _⟩ => ⟨S4096x16, .f32⟩
  | .hbm, ⟨15, _⟩ => ⟨S4096x16, .f32⟩
  | .local _ .vmem, ⟨0, _⟩ => ⟨S4096x1, .f32⟩
  | .local _ .vmem, ⟨1, _⟩ => ⟨S4096x1, .f32⟩
  | .local _ .vmem, ⟨2, _⟩ => ⟨S4096x1, .f32⟩
  | .local _ .vmem, ⟨3, _⟩ => ⟨S4096x16, .f32⟩
  | .local _ .vmem, ⟨4, _⟩ => ⟨S4096x16, .f32⟩
  | .local _ .vmem, ⟨5, _⟩ => ⟨S4096x1, .f32⟩
  | .local _ .vmem, ⟨6, _⟩ => ⟨S4096x1, .f32⟩
  | .local _ .vmem, ⟨7, _⟩ => ⟨S4096x16, .f32⟩
  | .local _ .vmem, ⟨8, _⟩ => ⟨S4096x16, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== PrepRefIdeal.lean ====
abbrev S64x64 : Shape := ⟨2, ![64, 64]⟩
abbrev S64 : Shape := ⟨1, ![64]⟩
abbrev S64x64x16 : Shape := ⟨3, ![64, 64, 16]⟩
abbrev S_ : Shape := ⟨0, ![]⟩
abbrev S64x1 : Shape := ⟨2, ![64, 1]⟩
abbrev S64x64x1 : Shape := ⟨3, ![64, 64, 1]⟩
abbrev S4096x1 : Shape := ⟨2, ![4096, 1]⟩
abbrev S4096x16 : Shape := ⟨2, ![4096, 16]⟩

abbrev nBuf : Space → Nat
  | .hbm => 53
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S_, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x1, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64x1, .f32⟩
  | .hbm, ⟨36, _⟩ => ⟨S64x64x16, .f32⟩
  | .hbm, ⟨37, _⟩ => ⟨S64x64x16, .f32⟩
  | .hbm, ⟨38, _⟩ => ⟨S64x64x1, .f32⟩
  | .hbm, ⟨39, _⟩ => ⟨S64x64x16, .f32⟩
  | .hbm, ⟨40, _⟩ => ⟨S64x64x16, .f32⟩
  | .hbm, ⟨41, _⟩ => ⟨S64x64x16, .f32⟩
  | .hbm, ⟨42, _⟩ => ⟨S64x64x1, .f32⟩
  | .hbm, ⟨43, _⟩ => ⟨S64x64x16, .f32⟩
  | .hbm, ⟨44, _⟩ => ⟨S64x64x16, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S4096x1, .f32⟩
  | .hbm, ⟨50, _⟩ => ⟨S4096x1, .f32⟩
  | .hbm, ⟨51, _⟩ => ⟨S4096x16, .f32⟩
  | .hbm, ⟨52, _⟩ => ⟨S4096x16, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩

abbrev nD : Nat := 1
abbrev τ : Topo := Topo.v7x

variable {F : FTy → Type} [FloatOps F]
-- ==== Proof.Run.lean ====
/-
  A body that only loads from and stores into buffers it holds whole, run as a function of memory.

  `Runs c p σ a σ'` says that the program `p`, started on the memory `σ`, returns `a` and leaves `σ'`, loads and
  stores being the only effects. `Safe c S W p` says that every load of `p` is of a buffer in `S`, every store into a
  buffer in `W`, and that it has no other effect. `Safe.wp` turns the two into a `wp`: from the buffers `S` held whole at
  `σ`, `p` runs to some `σ'` it `Runs` to. Bodies printed in parts are gone through by `Safe.bind`, `Safe.ite`,
  `Safe.loop`, one rule per form of program, without the contents of a buffer ever being written down.
-/
module

public import Idealize.ShloMosaic.Lib.Pipeline.FrameBody
public import Idealize.ShloMosaic.Lib.Scf
public import Idealize.ShloMosaic.Lib.Tactic

@[expose] public section

noncomputable section

namespace Cert.Proof.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels} {p : Proc τ}

/-- The contents of every buffer a core names. -/
abbrev Mem (sig : RefSig) (Val : EltTy → Type) (κ : Kind) : Type := (b : Ref sig κ) → b.ty.Contents Val

/-- A program of loads and stores, its loads from `S`, its stores into `W`. -/
inductive Safe (S W : Finset (Ref sig p.kind)) : ∀ {α : Type}, Prog (TpuEff nD τ sig Val Λ p) α → Prop
  | ret {α : Type} (a : α) : Safe S W (.ret a)
  | load {α : Type} {cs : CoreSpace} {s : Shape} {e : EltTy} (m : Memref sig p.kind cs s e) (r : LoadRect s) (h : m.view.LoadsAt r)
      (k : (r.shape.Idx → Val e) → Prog (TpuEff nD τ sig Val Λ p) α) (hm : m.view.ref ∈ S) (hk : ∀ x, Safe S W (k x)) :
      Safe S W (.op (.load m r h) k)
  | store {α : Type} {cs : CoreSpace} {s : Shape} {e : EltTy} (m : Memref sig p.kind cs s e) (r : Rect s) (w : r.shape.Idx → Val e)
      (M : Finset r.shape.Idx) (h : (m.access r).Stores M) (hs : M = Finset.univ ∨ ∀ a, r.stride a = 1)
      (k : PUnit → Prog (TpuEff nD τ sig Val Λ p) α) (hm : m.view.ref ∈ W) (hk : Safe S W (k ⟨⟩)) :
      Safe S W (.op (.store m r w M h hs) k)

/-- The program runs from the first memory to the value and the second memory. -/
def Runs {α : Type} : Prog (TpuEff nD τ sig Val Λ p) α → Mem sig Val p.kind → α → Mem sig Val p.kind → Prop
  | .ret a, σ, a', σ' => a' = a ∧ σ' = σ
  | .op (.load m r _) k, σ, a', σ' => Runs (k (m.view.readAt Val r (σ m.view.ref))) σ a' σ'
  | .op (.store m r w M _ _) k, σ, a', σ' =>
    Runs (k ⟨⟩) (Function.update σ m.view.ref ((m.access r).write Val (σ m.view.ref) w M)) a' σ'
  | .op _ _, _, _, _ => False

section rules

variable {S W : Finset (Ref sig p.kind)} {α β : Type}

theorem Safe.bind {q : Prog (TpuEff nD τ sig Val Λ p) α} {k : α → Prog (TpuEff nD τ sig Val Λ p) β}
    (hq : Safe S W q) (hk : ∀ a, Safe S W (k a)) : Safe S W (q >>= k) := by
  induction hq with
  | ret a => exact hk a
  | load m r h k' hm _ ih => exact .load m r h _ hm fun x => ih x
  | store m r w M h hs k' hm _ ih => exact .store m r w M h hs _ hm ih

theorem Safe.liftLoad {cs : CoreSpace} {s : Shape} {e : EltTy} {m : Memref sig p.kind cs s e} {r : LoadRect s} {h : m.view.LoadsAt r}
    (hm : m.view.ref ∈ S) : Safe S W (Prog.lift (E := TpuEff nD τ sig Val Λ p) (.load m r h)) :=
  .load m r h _ hm fun x => .ret x

theorem Safe.liftStore {cs : CoreSpace} {s : Shape} {e : EltTy} {m : Memref sig p.kind cs s e} {r : Rect s} {w : r.shape.Idx → Val e}
    {M : Finset r.shape.Idx} {h : (m.access r).Stores M} {hs : M = Finset.univ ∨ ∀ a, r.stride a = 1}
    (hm : m.view.ref ∈ W) : Safe S W (Prog.lift (E := TpuEff nD τ sig Val Λ p) (.store m r w M h hs)) :=
  .store m r w M h hs _ hm (.ret _)

theorem Safe.loadBind {cs : CoreSpace} {s : Shape} {e : EltTy} {m : Memref sig p.kind cs s e} {r : LoadRect s} {h : m.view.LoadsAt r}
    {k : (r.shape.Idx → Val e) → Prog (TpuEff nD τ sig Val Λ p) α}
    (hm : m.view.ref ∈ S) (hk : ∀ x, Safe S W (k x)) :
    Safe S W ((Prog.lift (E := TpuEff nD τ sig Val Λ p) (.load m r h) : Prog (TpuEff nD τ sig Val Λ p) (r.shape.Idx → Val e)) >>= k) :=
  .load m r h _ hm hk

theorem Safe.storeBind {cs : CoreSpace} {s : Shape} {e : EltTy} {m : Memref sig p.kind cs s e} {r : Rect s} {w : r.shape.Idx → Val e}
    {M : Finset r.shape.Idx} {h : (m.access r).Stores M} {hs : M = Finset.univ ∨ ∀ a, r.stride a = 1}
    {k : PUnit → Prog (TpuEff nD τ sig Val Λ p) α}
    (hm : m.view.ref ∈ W) (hk : Safe S W (k ⟨⟩)) :
    Safe S W ((Prog.lift (E := TpuEff nD τ sig Val Λ p) (.store m r w M h hs) : Prog (TpuEff nD τ sig Val Λ p) PUnit) >>= k) :=
  .store m r w M h hs _ hm hk

theorem Safe.pure (a : α) : Safe S W (pure a : Prog (TpuEff nD τ sig Val Λ p) α) := .ret a

theorem Safe.dite {P : Prop} [Decidable P] {f : P → Prog (TpuEff nD τ sig Val Λ p) α} {g : ¬ P → Prog (TpuEff nD τ sig Val Λ p) α}
    (hf : ∀ h, Safe S W (f h)) (hg : ∀ h, Safe S W (g h)) : Safe S W (dite P f g) := by
  by_cases h : P
  · rw [dif_pos h]; exact hf h
  · rw [dif_neg h]; exact hg h

theorem Safe.ite {P : Prop} [Decidable P] {f g : Prog (TpuEff nD τ sig Val Λ p) α}
    (hf : Safe S W f) (hg : Safe S W g) : Safe S W (ite P f g) := by
  by_cases h : P
  · rw [if_pos h]; exact hf
  · rw [if_neg h]; exact hg

theorem Safe.forFrom {n : Nat} {body : Fin n → α → Prog (TpuEff nD τ sig Val Λ p) α}
    (hb : ∀ k acc, Safe S W (body k acc)) : ∀ (ks : List (Fin n)) (acc : α), Safe S W (Scf.forFrom body ks acc)
  | [], acc => .ret acc
  | k :: ks, acc => Safe.bind (hb k acc) fun acc' => Safe.forFrom hb ks acc'

theorem Safe.loop {w : Nat} {lb ub st : BitVec w} {hok : Scf.OK lb ub st} {init : α}
    {body : Fin (Scf.trips lb ub st) → α → Prog (TpuEff nD τ sig Val Λ p) α}
    (hb : ∀ k acc, Safe S W (body k acc)) : Safe S W (Scf.for lb ub st hok init body) := by
  rw [Scf.for_eq]; exact Safe.forFrom hb _ _

/-- A buffer outside `W` is left as it was. -/
theorem Safe.keeps {q : Prog (TpuEff nD τ sig Val Λ p) α} (hq : Safe S W q) {σ σ' : Mem sig Val p.kind} {a : α}
    (hr : Runs q σ a σ') {b : Ref sig p.kind} (hb : b ∉ W) : σ' b = σ b := by
  induction hq generalizing σ with
  | ret a => exact congrFun hr.2 b
  | load m r h k hm _ ih => exact ih _ hr
  | store m r w M h hs k hm _ ih =>
    refine (ih hr).trans (Function.update_of_ne ?_ _ _)
    rintro rfl; exact hb hm

end rules

section sound

variable {Ix : Type} [DecidableEq Ix] {Name : Type} [DecidableEq Name] {U : Type} [URA U] {Lvl : Type} [Preorder Lvl]
variable {defs : Defs nD τ sig Val Λ} (𝒱 : Variants) (c : Thread nD τ) (bd : Option 𝒱.V) (E : Set Name)

/-- The buffers `S` held whole, at the memory `σ`. -/
def held (S : Finset (Ref sig c.2.kind)) (σ : Mem sig Val c.2.kind) : sProp (MT nD τ sig Ix Val Name U Lvl) :=
  bigSep S fun b => (c.loc b) ↦{fullShare} (σ b)

theorem held_take {S : Finset (Ref sig c.2.kind)} {b : Ref sig c.2.kind} (hb : b ∈ S) (σ : Mem sig Val c.2.kind) :
    (held c S σ : sProp (MT nD τ sig Ix Val Name U Lvl)) = iprop(((c.loc b) ↦{fullShare} (σ b)) ∗ held c (S.erase b) σ) :=
  bigSep_erase hb

theorem held_update {S : Finset (Ref sig c.2.kind)} {b : Ref sig c.2.kind} (hb : b ∈ S) (σ : Mem sig Val c.2.kind) (f : b.ty.Contents Val) :
    (iprop(((c.loc b) ↦{fullShare} f) ∗ held c (S.erase b) σ) : sProp (MT nD τ sig Ix Val Name U Lvl))
      = held c S (Function.update σ b f) := by
  rw [held_take c hb, Function.update_self]
  congr 1
  refine bigSep_congr fun x hx => ?_
  rw [Function.update_of_ne (Finset.ne_of_mem_erase hx)]

/-- From the buffers held whole, the program runs to a memory it `Runs` to. -/
theorem Safe.wp {S W : Finset (Ref sig c.2.kind)} (hW : W ⊆ S) {α : Type} {q : Prog (TpuEff nD τ sig Val Λ c.2) α} (hq : Safe S W q)
    (σ : Mem sig Val c.2.kind) :
    (held c S σ : sProp (MT nD τ sig Ix Val Name U Lvl))
      ⊢ Sem.wp frame (wpE defs 𝒱 c bd) E q (fun a => iprop(∃ σ', ⌜Runs q σ a σ'⌝ ∗ held c S σ')) := by
  induction hq generalizing σ with
  | ret a =>
    rw [wp_ret]
    refine Entails.trans ?_ BI.fupd_intro
    iintro H; iexists σ; isplitr; · ipureintro; exact ⟨rfl, rfl⟩
    iexact H
  | load m r h k hm hk ih =>
    have h1 := wp_load (defs := defs) (Ix := Ix) (Name := Name) (U := U) (Lvl := Lvl) 𝒱 c bd (Γ := ∅) E (m := m) (r := r) (hl := h) (k := k) (q := fullShare)
      (Q := fun a => iprop(∃ σ', ⌜Runs (.op (.load m r h) k) σ a σ'⌝ ∗ held c S σ')) (f := σ m.view.ref) (S := Finset.univ) (Finset.subset_univ _)
    have h2 := ih (m.view.readAt Val r (σ m.view.ref)) σ
    rw [held_take c hm σ] at h2 ⊢
    iintro ⟨Hb, Hr⟩
    iapply h1 $$ Hb
    iintro Hb
    iapply h2
    isplitl [Hb] <;> iassumption
  | store m r w M h hs k hm hk ih =>
    have h1 := wp_store (defs := defs) (Ix := Ix) (Name := Name) (U := U) (Lvl := Lvl) 𝒱 c bd (Γ := ∅) E (m := m) (r := r) (w := w) (Mk := M) (hx := h) (hm := hs) (k := k)
      (Q := fun a => iprop(∃ σ', ⌜Runs (.op (.store m r w M h hs) k) σ a σ'⌝ ∗ held c S σ')) (f := σ m.view.ref) (S := Finset.univ) (Finset.subset_univ _)
    have h2 := ih (Function.update σ m.view.ref ((m.access r).write Val (σ m.view.ref) w M))
    rw [← held_update c (hW hm) σ] at h2
    rw [held_take c (hW hm) σ]
    iintro ⟨Hb, Hr⟩
    iapply h1 $$ Hb
    iintro Hb
    iapply h2
    isplitl [Hb] <;> iassumption

end sound

end Cert.Proof.Run

end
-- ==== Proof.RunSig.lean ====
/-
  Two more steps through a program's sequencing: a bind whose first part returns a dependent pair, and one whose first
  part returns a pair, the rest taken at the pair's components.
-/
module

public import proofs.«01_k».proof.Proof.Run

@[expose] public section

noncomputable section

namespace Cert.Proof.Run

open Idealize.ShloMosaic Idealize.ShloMosaic.TcCoe
open Idealize.SL Idealize.SL.Sem

variable {nD : Nat} {τ : Topo} {sig : RefSig} {Val : EltTy → Type} {Λ : Labels} {p : Proc τ}
variable {S W : Finset (Ref sig p.kind)} {β : Type}

theorem Safe.bindSig {A : Type} {B : A → Type} {q : Prog (TpuEff nD τ sig Val Λ p) (PSigma B)}
    {k : PSigma B → Prog (TpuEff nD τ sig Val Λ p) β} (hq : Safe S W q) (hk : ∀ a b, Safe S W (k ⟨a, b⟩)) :
    Safe S W (q >>= k) :=
  Safe.bind hq fun ⟨a, b⟩ => hk a b

theorem Safe.bindPair {A B : Type} {q : Prog (TpuEff nD τ sig Val Λ p) (A × B)}
    {k : A × B → Prog (TpuEff nD τ sig Val Λ p) β} (hq : Safe S W q) (hk : ∀ a b, Safe S W (k (a, b))) :
    Safe S W (q >>= k) :=
  Safe.bind hq fun ⟨a, b⟩ => hk a b

end Cert.Proof.Run

end
-- ==== Proof.PartsA.lean ====
module

public import proofs.«01_k».proof.Proof.Run
public import proofs.«01_k».proof.Proof.Gen.Kernel

@[expose] public section

set_option maxRecDepth 16384

noncomputable section

namespace Cert.Proof.Kernel

open Cert.Kernel Cert.Proof.Run
open Idealize.ShloMosaic Idealize.ShloMosaic.TcCoe
open Idealize.SL Idealize.SL.Sem

variable {F : FTy → Type} [BitOps F]

section parts

variable (S W : Finset (Ref sig .tc)) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
  (h2 : arg2.view.ref ∈ S) (h3 : arg3.view.ref ∈ S) (h4 : arg4.view.ref ∈ S) (h5 : arg5.view.ref ∈ S) (h6 : arg6.view.ref ∈ S) (h7 : arg7.view.ref ∈ S) (h8 : arg8.view.ref ∈ S) (h9 : arg9.view.ref ∈ S) (h10 : arg10.view.ref ∈ S) (h11 : arg11.view.ref ∈ S) (h12 : arg12.view.ref ∈ S) (h13 : arg13.view.ref ∈ S) (h14 : arg14.view.ref ∈ S) (h15 : arg15.view.ref ∈ S) (h16 : arg16.view.ref ∈ S) (w9 : arg9.view.ref ∈ W) (w10 : arg10.view.ref ∈ W) (w11 : arg11.view.ref ∈ W) (w12 : arg12.view.ref ∈ W) (w13 : arg13.view.ref ∈ W) (w14 : arg14.view.ref ∈ W) (w15 : arg15.view.ref ∈ W) (w16 : arg16.view.ref ∈ W)
include h2 h3 h4 h5 h6 h7 h8 h9 h10 h11 h12 h13 h14 h15 h16 w9 w10 w11 w12 w13 w14 w15 w16

theorem safe_k0_part1  :
    Safe S W (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part1
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part2 (v4 : IVec S256x128 32) (v7 : IVec S256x128 32) (v17 : FVec F S4x128 .f32) (v24 : FVec F S512x128 .bf16) :
    Safe S W (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part2
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part3 (v4 : IVec S256x128 32) (v7 : IVec S256x128 32) (v17 : FVec F S4x128 .f32) (v24 : FVec F S512x128 .bf16) (v565 : IVec S256x128 32) :
    Safe S W (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v565) := by
  unfold k0_part3
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part4 (v4 : IVec S256x128 32) (v7 : IVec S256x128 32) (v17 : FVec F S4x128 .f32) (v24 : FVec F S512x128 .bf16) (v614 : IVec S256x128 32) :
    Safe S W (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v614) := by
  unfold k0_part4
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part5 (v4 : IVec S256x128 32) (v7 : IVec S256x128 32) (v17 : FVec F S4x128 .f32) (v24 : FVec F S512x128 .bf16) (v619 : BitVec 32) (v663 : IVec S256x128 32) :
    Safe S W (k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v619 v663) := by
  unfold k0_part5
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part6 (v4 : IVec S256x128 32) (v7 : IVec S256x128 32) (v17 : FVec F S4x128 .f32) (v24 : FVec F S512x128 .bf16) (v668 : BitVec 32) (v707 : IVec S256x128 32) (v709 : IVec S256x128 1) (v710 : IVec S256x128 32) :
    Safe S W (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v668 v707 v709 v710) := by
  unfold k0_part6
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part7 (v4 : IVec S256x128 32) (v7 : IVec S256x128 32) (v17 : FVec F S4x128 .f32) (v24 : FVec F S512x128 .bf16) (v717 : BitVec 32) (v756 : IVec S256x128 32) (v758 : IVec S256x128 1) :
    Safe S W (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v717 v756 v758) := by
  unfold k0_part7
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part8 (v4 : IVec S256x128 32) (v7 : IVec S256x128 32) (v17 : FVec F S4x128 .f32) (v24 : FVec F S512x128 .bf16) (v766 : BitVec 32) (v805 : IVec S256x128 32) (c0_i32_371 : BitVec 32) :
    Safe S W (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v766 v805 c0_i32_371) := by
  unfold k0_part8
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part9 (v4 : IVec S256x128 32) (v7 : IVec S256x128 32) (v17 : FVec F S4x128 .f32) (v24 : FVec F S512x128 .bf16) (v815 : BitVec 32) (v853 : FVec F S256x128 .f32) :
    Safe S W (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v815 v853) := by
  unfold k0_part9
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part10 (v4 : IVec S256x128 32) (v7 : IVec S256x128 32) (v17 : FVec F S4x128 .f32) (v24 : FVec F S512x128 .bf16) :
    Safe S W (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part10
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part11 (v4 : IVec S256x128 32) (v7 : IVec S256x128 32) (v17 : FVec F S4x128 .f32) (v24 : FVec F S512x128 .bf16) (v565 : IVec S256x128 32) :
    Safe S W (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v565) := by
  unfold k0_part11
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part12 (v4 : IVec S256x128 32) (v7 : IVec S256x128 32) (v17 : FVec F S4x128 .f32) (v24 : FVec F S512x128 .bf16) (v614 : IVec S256x128 32) :
    Safe S W (k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v614) := by
  unfold k0_part12
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part13 (v4 : IVec S256x128 32) (v7 : IVec S256x128 32) (v17 : FVec F S4x128 .f32) (v24 : FVec F S512x128 .bf16) (v619 : BitVec 32) (v663 : IVec S256x128 32) :
    Safe S W (k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v619 v663) := by
  unfold k0_part13
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part14 (v4 : IVec S256x128 32) (v7 : IVec S256x128 32) (v17 : FVec F S4x128 .f32) (v24 : FVec F S512x128 .bf16) (v668 : BitVec 32) (v707 : IVec S256x128 32) (v709 : IVec S256x128 1) (v710 : IVec S256x128 32) :
    Safe S W (k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v668 v707 v709 v710) := by
  unfold k0_part14
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part15 (v4 : IVec S256x128 32) (v7 : IVec S256x128 32) (v17 : FVec F S4x128 .f32) (v24 : FVec F S512x128 .bf16) (v717 : BitVec 32) (v756 : IVec S256x128 32) (v758 : IVec S256x128 1) :
    Safe S W (k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v717 v756 v758) := by
  unfold k0_part15
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part16 (v4 : IVec S256x128 32) (v7 : IVec S256x128 32) (v17 : FVec F S4x128 .f32) (v24 : FVec F S512x128 .bf16) (v766 : BitVec 32) (v805 : IVec S256x128 32) (c0_i32_371 : BitVec 32) :
    Safe S W (k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v766 v805 c0_i32_371) := by
  unfold k0_part16
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part17 (v4 : IVec S256x128 32) (v7 : IVec S256x128 32) (v17 : FVec F S4x128 .f32) (v24 : FVec F S512x128 .bf16) :
    Safe S W (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part17
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part18 (v4 : IVec S256x128 32) (v7 : IVec S256x128 32) (v17 : FVec F S4x128 .f32) (v24 : FVec F S512x128 .bf16) (v563 : IVec S256x128 32) :
    Safe S W (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v563) := by
  unfold k0_part18
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part19 (v4 : IVec S256x128 32) (v7 : IVec S256x128 32) (v17 : FVec F S4x128 .f32) (v24 : FVec F S512x128 .bf16) (v612 : IVec S256x128 32) :
    Safe S W (k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v612) := by
  unfold k0_part19
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part20 (v4 : IVec S256x128 32) (v7 : IVec S256x128 32) (v17 : FVec F S4x128 .f32) (v24 : FVec F S512x128 .bf16) (v617 : BitVec 32) (v661 : IVec S256x128 32) :
    Safe S W (k0_part20 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v617 v661) := by
  unfold k0_part20
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part21 (v4 : IVec S256x128 32) (v7 : IVec S256x128 32) (v17 : FVec F S4x128 .f32) (v24 : FVec F S512x128 .bf16) (v666 : BitVec 32) (v705 : IVec S256x128 32) (v707 : IVec S256x128 1) (v708 : IVec S256x128 32) :
    Safe S W (k0_part21 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v666 v705 v707 v708) := by
  unfold k0_part21
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part22 (v4 : IVec S256x128 32) (v7 : IVec S256x128 32) (v17 : FVec F S4x128 .f32) (v24 : FVec F S512x128 .bf16) (v715 : BitVec 32) (v754 : IVec S256x128 32) (v756 : IVec S256x128 1) :
    Safe S W (k0_part22 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v715 v754 v756) := by
  unfold k0_part22
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part23 (v4 : IVec S256x128 32) (v7 : IVec S256x128 32) (v17 : FVec F S4x128 .f32) (v24 : FVec F S512x128 .bf16) :
    Safe S W (k0_part23 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part23
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part24 (v4 : IVec S256x128 32) (v7 : IVec S256x128 32) (v17 : FVec F S4x128 .f32) (v24 : FVec F S512x128 .bf16) (v561 : IVec S256x128 32) :
    Safe S W (k0_part24 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v561) := by
  unfold k0_part24
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part25 (v4 : IVec S256x128 32) (v7 : IVec S256x128 32) (v17 : FVec F S4x128 .f32) (v24 : FVec F S512x128 .bf16) (v610 : IVec S256x128 32) :
    Safe S W (k0_part25 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v610) := by
  unfold k0_part25
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part26 (v4 : IVec S256x128 32) (v7 : IVec S256x128 32) (v17 : FVec F S4x128 .f32) (v24 : FVec F S512x128 .bf16) (v615 : BitVec 32) (v659 : IVec S256x128 32) :
    Safe S W (k0_part26 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v615 v659) := by
  unfold k0_part26
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part27 (v4 : IVec S256x128 32) (v7 : IVec S256x128 32) (v17 : FVec F S4x128 .f32) (v24 : FVec F S512x128 .bf16) (v664 : BitVec 32) (v703 : IVec S256x128 32) (v705 : IVec S256x128 1) (v706 : IVec S256x128 32) :
    Safe S W (k0_part27 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v664 v703 v705 v706) := by
  unfold k0_part27
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part28 (v4 : IVec S256x128 32) (v7 : IVec S256x128 32) (v17 : FVec F S4x128 .f32) (v24 : FVec F S512x128 .bf16) :
    Safe S W (k0_part28 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part28
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part29 (v4 : IVec S256x128 32) (v7 : IVec S256x128 32) (v17 : FVec F S4x128 .f32) (v24 : FVec F S512x128 .bf16) (v559 : IVec S256x128 32) :
    Safe S W (k0_part29 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v559) := by
  unfold k0_part29
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part30 (v4 : IVec S256x128 32) (v7 : IVec S256x128 32) (v17 : FVec F S4x128 .f32) (v24 : FVec F S512x128 .bf16) (v608 : IVec S256x128 32) :
    Safe S W (k0_part30 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v608) := by
  unfold k0_part30
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part31 (v4 : IVec S256x128 32) (v7 : IVec S256x128 32) (v17 : FVec F S4x128 .f32) (v24 : FVec F S512x128 .bf16) (v613 : BitVec 32) (v657 : IVec S256x128 32) :
    Safe S W (k0_part31 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v613 v657) := by
  unfold k0_part31
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part32 (v4 : IVec S256x128 32) (v7 : IVec S256x128 32) (v17 : FVec F S4x128 .f32) (v24 : FVec F S512x128 .bf16) :
    Safe S W (k0_part32 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part32
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part33 (v4 : IVec S256x128 32) (v7 : IVec S256x128 32) (v17 : FVec F S4x128 .f32) (v24 : FVec F S512x128 .bf16) (v557 : IVec S256x128 32) :
    Safe S W (k0_part33 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v557) := by
  unfold k0_part33
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part34 (v4 : IVec S256x128 32) (v7 : IVec S256x128 32) (v17 : FVec F S4x128 .f32) (v24 : FVec F S512x128 .bf16) (v606 : IVec S256x128 32) :
    Safe S W (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v606) := by
  unfold k0_part34
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part35 (v4 : IVec S256x128 32) (v7 : IVec S256x128 32) (v17 : FVec F S4x128 .f32) (v24 : FVec F S512x128 .bf16) :
    Safe S W (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part35
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part36 (v4 : IVec S256x128 32) (v7 : IVec S256x128 32) (v17 : FVec F S4x128 .f32) (v24 : FVec F S512x128 .bf16) (v555 : IVec S256x128 32) :
    Safe S W (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24 v555) := by
  unfold k0_part36
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part37 (v4 : IVec S256x128 32) (v7 : IVec S256x128 32) (v17 : FVec F S4x128 .f32) (v24 : FVec F S512x128 .bf16) :
    Safe S W (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v7 v17 v24) := by
  unfold k0_part37
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part38  :
    Safe S W (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part38
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part39 (v588 : IVec S8x128 32) (v595 : IVec S32x8x128 32) :
    Safe S W (k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v588 v595) := by
  unfold k0_part39
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part40  :
    Safe S W (k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part40
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

end parts

end Cert.Proof.Kernel

end
-- ==== Proof.PartsB.lean ====
module

public import proofs.«01_k».proof.Proof.Run
public import proofs.«01_k».proof.Proof.Gen.Kernel
public import proofs.«01_k».proof.Proof.PartsA

@[expose] public section

set_option maxRecDepth 16384

noncomputable section

namespace Cert.Proof.Kernel

open Cert.Kernel Cert.Proof.Run
open Idealize.ShloMosaic Idealize.ShloMosaic.TcCoe
open Idealize.SL Idealize.SL.Sem

variable {F : FTy → Type} [BitOps F]

section parts

variable (S W : Finset (Ref sig .tc)) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
  (h2 : arg2.view.ref ∈ S) (h3 : arg3.view.ref ∈ S) (h4 : arg4.view.ref ∈ S) (h5 : arg5.view.ref ∈ S) (h6 : arg6.view.ref ∈ S) (h7 : arg7.view.ref ∈ S) (h8 : arg8.view.ref ∈ S) (h9 : arg9.view.ref ∈ S) (h10 : arg10.view.ref ∈ S) (h11 : arg11.view.ref ∈ S) (h12 : arg12.view.ref ∈ S) (h13 : arg13.view.ref ∈ S) (h14 : arg14.view.ref ∈ S) (h15 : arg15.view.ref ∈ S) (h16 : arg16.view.ref ∈ S) (w9 : arg9.view.ref ∈ W) (w10 : arg10.view.ref ∈ W) (w11 : arg11.view.ref ∈ W) (w12 : arg12.view.ref ∈ W) (w13 : arg13.view.ref ∈ W) (w14 : arg14.view.ref ∈ W) (w15 : arg15.view.ref ∈ W) (w16 : arg16.view.ref ∈ W)
include h2 h3 h4 h5 h6 h7 h8 h9 h10 h11 h12 h13 h14 h15 h16 w9 w10 w11 w12 w13 w14 w15 w16

theorem safe_k0_part41  :
    Safe S W (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part41
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part42  :
    Safe S W (k0_part42 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part42
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part43  :
    Safe S W (k0_part43 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part43
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part44 (v548 : IVec S256x128 32) :
    Safe S W (k0_part44 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v548) := by
  unfold k0_part44
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part45 (v548 : IVec S256x128 32) :
    Safe S W (k0_part45 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v548) := by
  unfold k0_part45
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part46 (v548 : IVec S256x128 32) :
    Safe S W (k0_part46 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v548) := by
  unfold k0_part46
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part47 (v548 : IVec S256x128 32) :
    Safe S W (k0_part47 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v548) := by
  unfold k0_part47
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part48 (v522 : IVec S256x128 32) :
    Safe S W (k0_part48 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part48
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part49 (v522 : IVec S256x128 32) :
    Safe S W (k0_part49 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part49
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part50 (v522 : IVec S256x128 32) :
    Safe S W (k0_part50 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part50
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part51 (v522 : IVec S256x128 32) :
    Safe S W (k0_part51 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part51
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part52 (v522 : IVec S256x128 32) :
    Safe S W (k0_part52 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part52
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part53 (v522 : IVec S256x128 32) :
    Safe S W (k0_part53 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part53
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part54 (v522 : IVec S256x128 32) :
    Safe S W (k0_part54 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part54
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part55 (v522 : IVec S256x128 32) :
    Safe S W (k0_part55 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v522) := by
  unfold k0_part55
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part56 (v4 : IVec S256x128 32) (v522 : IVec S256x128 32) (v551 : IVec S256x128 32) :
    Safe S W (k0_part56 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551) := by
  unfold k0_part56
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part57 (v4 : IVec S256x128 32) (v522 : IVec S256x128 32) (v551 : IVec S256x128 32) (v613 : IVec S8x128 32) (v614 : Vec F S256x128 .i32) (c768_i32 : BitVec 32) :
    Safe S W (k0_part57 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551 v613 v614 c768_i32) := by
  unfold k0_part57
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part58 (v4 : IVec S256x128 32) (v522 : IVec S256x128 32) (v551 : IVec S256x128 32) :
    Safe S W (k0_part58 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551) := by
  unfold k0_part58
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part59 (v4 : IVec S256x128 32) (v522 : IVec S256x128 32) (v551 : IVec S256x128 32) (v613 : IVec S8x128 32) (v614 : Vec F S256x128 .i32) (c768_i32 : BitVec 32) :
    Safe S W (k0_part59 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551 v613 v614 c768_i32) := by
  unfold k0_part59
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part60 (v4 : IVec S256x128 32) (v522 : IVec S256x128 32) (v551 : IVec S256x128 32) :
    Safe S W (k0_part60 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551) := by
  unfold k0_part60
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part61 (v4 : IVec S256x128 32) (v522 : IVec S256x128 32) (v551 : IVec S256x128 32) :
    Safe S W (k0_part61 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551) := by
  unfold k0_part61
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part62 (v4 : IVec S256x128 32) (v522 : IVec S256x128 32) (v551 : IVec S256x128 32) :
    Safe S W (k0_part62 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v4 v522 v551) := by
  unfold k0_part62
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part63 (c0_i32_167 : BitVec 32) (c1_i32_169 : BitVec 32) (k0_t5 : Fin (k0_t5_loop i).trips) (arg18 : FVec F S1x128 .f32) (arg19 : FVec F S1x128 .f32) (arg26 : FVec F S1x128 .f32) (arg27 : FVec F S1x128 .f32) :
    Safe S W (k0_part63 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 c0_i32_167 c1_i32_169 k0_t5 arg18 arg19 arg26 arg27) := by
  unfold k0_part63
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part64 (k0_t5 : Fin (k0_t5_loop i).trips) (arg20 : FVec F S1x128 .f32) (arg21 : FVec F S1x128 .f32) (arg28 : FVec F S1x128 .f32) (arg29 : FVec F S1x128 .f32) (arg17 : BitVec 32) (v509 : BitVec 32) (v546 : FVec F S256x128 .f32) :
    Safe S W (k0_part64 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t5 arg20 arg21 arg28 arg29 arg17 v509 v546) := by
  unfold k0_part64
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part65 (k0_t5 : Fin (k0_t5_loop i).trips) (arg22 : FVec F S1x128 .f32) (arg23 : FVec F S1x128 .f32) (arg30 : FVec F S1x128 .f32) (v509 : BitVec 32) (v519 : FVec F S1x128 .f32) (v530 : FVec F S256x128 .bf16) (v540 : FVec F S1x128 .f32) (v551 : FVec F S256x128 .bf16) (v561 : FVec F S1x128 .f32) (v572 : FVec F S256x128 .bf16) (v582 : FVec F S1x128 .f32) (v593 : FVec F S256x128 .bf16) :
    Safe S W (k0_part65 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t5 arg22 arg23 arg30 v509 v519 v530 v540 v551 v561 v572 v582 v593) := by
  unfold k0_part65
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part66 (k0_t5 : Fin (k0_t5_loop i).trips) (arg23 : FVec F S1x128 .f32) (arg24 : FVec F S1x128 .f32) (arg25 : FVec F S1x128 .f32) (arg31 : FVec F S1x128 .f32) (arg32 : FVec F S1x128 .f32) (v509 : BitVec 32) (v632 : FVec F S1x128 .f32) (v633 : FVec F S1x128 .f32) :
    Safe S W (k0_part66 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t5 arg23 arg24 arg25 arg31 arg32 v509 v632 v633) := by
  unfold k0_part66
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part67 (arg1 : BitVec 32) (k0_t5 : Fin (k0_t5_loop i).trips) (arg25 : FVec F S1x128 .f32) (arg33 : FVec F S1x128 .f32) (arg17 : BitVec 32) (v509 : BitVec 32) (v617 : FVec F S1x128 .f32) (v628 : FVec F S256x128 .bf16) (v638 : FVec F S1x128 .f32) (v649 : FVec F S256x128 .bf16) (v659 : FVec F S1x128 .f32) (v670 : FVec F S256x128 .bf16) (v674 : FVec F S1x128 .f32) (v676 : IVec S1x128 1) (cst_364 : F .f32) :
    Safe S W (k0_part67 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_t5 arg25 arg33 arg17 v509 v617 v628 v638 v649 v659 v670 v674 v676 cst_364) := by
  unfold k0_part67
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part68 (arg1 : BitVec 32) (v55 : FVec F S512x128 .bf16) (k0_t5 : Fin (k0_t5_loop i).trips) (v706 : BitVec 32) (v707 : BitVec 32) (v709 : BitVec 32) (v711 : Vec F S256x128 .f32) (v715 : BitVec 32) :
    Safe S W (k0_part68 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v55 k0_t5 v706 v707 v709 v711 v715) := by
  unfold k0_part68
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part69 (k0_t5 : Fin (k0_t5_loop i).trips) (v707 : BitVec 32) (v711 : Vec F S256x128 .f32) (v715 : BitVec 32) (v720 : BitVec 32) (v723 : FVec F S256x512 .f32) (v746 : FVec F S128x128 .f32) (v749 : FVec F S128x128 .f32) :
    Safe S W (k0_part69 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t5 v707 v711 v715 v720 v723 v746 v749) := by
  unfold k0_part69
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part70 (v62 : FVec F S512x128 .bf16) (k0_t5 : Fin (k0_t5_loop i).trips) (v707 : BitVec 32) (v709 : BitVec 32) (v711 : Vec F S256x128 .f32) (v715 : BitVec 32) (v720 : BitVec 32) (v723 : FVec F S256x512 .f32) :
    Safe S W (k0_part70 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v62 k0_t5 v707 v709 v711 v715 v720 v723) := by
  unfold k0_part70
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part71 (k0_t5 : Fin (k0_t5_loop i).trips) (v707 : BitVec 32) (v711 : Vec F S256x128 .f32) (v715 : BitVec 32) (v720 : BitVec 32) (v806 : FVec F S256x512 .f32) (v816 : FVec F S256x128 .f32) :
    Safe S W (k0_part71 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t5 v707 v711 v715 v720 v806 v816) := by
  unfold k0_part71
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part72 (arg1 : BitVec 32) (v55 : FVec F S512x128 .bf16) (v62 : FVec F S512x128 .bf16) (c0_i32_167 : BitVec 32) (c1_i32_169 : BitVec 32) (k0_t5 : Fin (k0_t5_loop i).trips) (arg18 : FVec F S1x128 .f32) (arg19 : FVec F S1x128 .f32) (arg20 : FVec F S1x128 .f32) (arg21 : FVec F S1x128 .f32) (arg22 : FVec F S1x128 .f32) (arg23 : FVec F S1x128 .f32) (arg24 : FVec F S1x128 .f32) (arg25 : FVec F S1x128 .f32) (arg26 : FVec F S1x128 .f32) (arg27 : FVec F S1x128 .f32) (arg28 : FVec F S1x128 .f32) (arg29 : FVec F S1x128 .f32) (arg30 : FVec F S1x128 .f32) (arg31 : FVec F S1x128 .f32) (arg32 : FVec F S1x128 .f32) (arg33 : FVec F S1x128 .f32) :
    Safe S W (k0_part72 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v55 v62 c0_i32_167 c1_i32_169 k0_t5 arg18 arg19 arg20 arg21 arg22 arg23 arg24 arg25 arg26 arg27 arg28 arg29 arg30 arg31 arg32 arg33) := by
  unfold k0_part72
  repeat' (first
    | exact Safe.pure _
    | (refine Safe.loadBind (by assumption) ?_; intro _)
    | (refine Safe.storeBind (by assumption) ?_)
    | (refine Safe.liftLoad (by assumption))
    | (refine Safe.liftStore (by assumption))
    | exact safe_k0_part63 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | exact safe_k0_part64 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part65 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _
    | exact safe_k0_part66 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _
    | exact safe_k0_part67 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _
    | exact safe_k0_part68 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part69 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part70 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part71 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | (refine Safe.bind ?_ ?_)
    | (refine Safe.dite ?_ ?_)
    | (refine Safe.loop ?_)
    | (intro _)
    | split)

theorem safe_k0_part73 (v248 : BitVec 32) (c1_i32_170 : BitVec 32) (k0_t6 : Fin (k0_t6_loop i).trips) (arg18 : FVec F S1x128 .f32) (arg19 : FVec F S1x128 .f32) (arg26 : FVec F S1x128 .f32) (arg27 : FVec F S1x128 .f32) :
    Safe S W (k0_part73 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v248 c1_i32_170 k0_t6 arg18 arg19 arg26 arg27) := by
  unfold k0_part73
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part74 (k0_t6 : Fin (k0_t6_loop i).trips) (arg20 : FVec F S1x128 .f32) (arg21 : FVec F S1x128 .f32) (arg28 : FVec F S1x128 .f32) (arg29 : FVec F S1x128 .f32) (arg17 : BitVec 32) (v509 : BitVec 32) (v546 : FVec F S256x128 .f32) :
    Safe S W (k0_part74 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t6 arg20 arg21 arg28 arg29 arg17 v509 v546) := by
  unfold k0_part74
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part75 (k0_t6 : Fin (k0_t6_loop i).trips) (arg22 : FVec F S1x128 .f32) (arg23 : FVec F S1x128 .f32) (arg30 : FVec F S1x128 .f32) (v509 : BitVec 32) (v519 : FVec F S1x128 .f32) (v530 : FVec F S256x128 .bf16) (v540 : FVec F S1x128 .f32) (v551 : FVec F S256x128 .bf16) (v561 : FVec F S1x128 .f32) (v572 : FVec F S256x128 .bf16) (v582 : FVec F S1x128 .f32) (v593 : FVec F S256x128 .bf16) :
    Safe S W (k0_part75 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t6 arg22 arg23 arg30 v509 v519 v530 v540 v551 v561 v572 v582 v593) := by
  unfold k0_part75
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part76 (k0_t6 : Fin (k0_t6_loop i).trips) (arg23 : FVec F S1x128 .f32) (arg24 : FVec F S1x128 .f32) (arg25 : FVec F S1x128 .f32) (arg31 : FVec F S1x128 .f32) (arg32 : FVec F S1x128 .f32) (v509 : BitVec 32) (v632 : FVec F S1x128 .f32) (v633 : FVec F S1x128 .f32) :
    Safe S W (k0_part76 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t6 arg23 arg24 arg25 arg31 arg32 v509 v632 v633) := by
  unfold k0_part76
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part77 (arg1 : BitVec 32) (k0_t6 : Fin (k0_t6_loop i).trips) (arg25 : FVec F S1x128 .f32) (arg33 : FVec F S1x128 .f32) (arg17 : BitVec 32) (v509 : BitVec 32) (v617 : FVec F S1x128 .f32) (v628 : FVec F S256x128 .bf16) (v638 : FVec F S1x128 .f32) (v649 : FVec F S256x128 .bf16) (v659 : FVec F S1x128 .f32) (v670 : FVec F S256x128 .bf16) (v674 : FVec F S1x128 .f32) (v676 : IVec S1x128 1) (cst_364 : F .f32) :
    Safe S W (k0_part77 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 k0_t6 arg25 arg33 arg17 v509 v617 v628 v638 v649 v659 v670 v674 v676 cst_364) := by
  unfold k0_part77
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part78 (arg1 : BitVec 32) (v55 : FVec F S512x128 .bf16) (k0_t6 : Fin (k0_t6_loop i).trips) (v706 : BitVec 32) (v707 : BitVec 32) (v709 : BitVec 32) (v711 : Vec F S256x128 .f32) (v715 : BitVec 32) :
    Safe S W (k0_part78 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v55 k0_t6 v706 v707 v709 v711 v715) := by
  unfold k0_part78
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part79 (k0_t6 : Fin (k0_t6_loop i).trips) (v707 : BitVec 32) (v711 : Vec F S256x128 .f32) (v715 : BitVec 32) (v720 : BitVec 32) (v723 : FVec F S256x512 .f32) (v746 : FVec F S128x128 .f32) (v749 : FVec F S128x128 .f32) :
    Safe S W (k0_part79 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t6 v707 v711 v715 v720 v723 v746 v749) := by
  unfold k0_part79
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part80 (v62 : FVec F S512x128 .bf16) (k0_t6 : Fin (k0_t6_loop i).trips) (v707 : BitVec 32) (v709 : BitVec 32) (v711 : Vec F S256x128 .f32) (v715 : BitVec 32) (v720 : BitVec 32) (v723 : FVec F S256x512 .f32) :
    Safe S W (k0_part80 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v62 k0_t6 v707 v709 v711 v715 v720 v723) := by
  unfold k0_part80
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part81 (k0_t6 : Fin (k0_t6_loop i).trips) (v707 : BitVec 32) (v711 : Vec F S256x128 .f32) (v715 : BitVec 32) (v720 : BitVec 32) (v806 : FVec F S256x512 .f32) (v816 : FVec F S256x128 .f32) :
    Safe S W (k0_part81 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 k0_t6 v707 v711 v715 v720 v806 v816) := by
  unfold k0_part81
  repeat' (first
    | exact Safe.pure _
    | (refine Safe.loadBind (by assumption) ?_; intro _)
    | (refine Safe.storeBind (by assumption) ?_)
    | (refine Safe.liftLoad (by assumption))
    | (refine Safe.liftStore (by assumption))
    | (refine Safe.bind ?_ ?_)
    | (refine Safe.dite ?_ ?_)
    | (refine Safe.loop ?_)
    | (intro _)
    | split)

theorem safe_k0_part82 (arg1 : BitVec 32) (v55 : FVec F S512x128 .bf16) (v62 : FVec F S512x128 .bf16) (v248 : BitVec 32) (c1_i32_170 : BitVec 32) (k0_t6 : Fin (k0_t6_loop i).trips) (arg18 : FVec F S1x128 .f32) (arg19 : FVec F S1x128 .f32) (arg20 : FVec F S1x128 .f32) (arg21 : FVec F S1x128 .f32) (arg22 : FVec F S1x128 .f32) (arg23 : FVec F S1x128 .f32) (arg24 : FVec F S1x128 .f32) (arg25 : FVec F S1x128 .f32) (arg26 : FVec F S1x128 .f32) (arg27 : FVec F S1x128 .f32) (arg28 : FVec F S1x128 .f32) (arg29 : FVec F S1x128 .f32) (arg30 : FVec F S1x128 .f32) (arg31 : FVec F S1x128 .f32) (arg32 : FVec F S1x128 .f32) (arg33 : FVec F S1x128 .f32) :
    Safe S W (k0_part82 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v55 v62 v248 c1_i32_170 k0_t6 arg18 arg19 arg20 arg21 arg22 arg23 arg24 arg25 arg26 arg27 arg28 arg29 arg30 arg31 arg32 arg33) := by
  unfold k0_part82
  repeat' (first
    | exact Safe.pure _
    | (refine Safe.loadBind (by assumption) ?_; intro _)
    | (refine Safe.storeBind (by assumption) ?_)
    | (refine Safe.liftLoad (by assumption))
    | (refine Safe.liftStore (by assumption))
    | exact safe_k0_part73 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | exact safe_k0_part74 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part75 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _
    | exact safe_k0_part76 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _
    | exact safe_k0_part77 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _
    | exact safe_k0_part78 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part79 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part80 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | exact safe_k0_part81 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | (refine Safe.bind ?_ ?_)
    | (refine Safe.dite ?_ ?_)
    | (refine Safe.loop ?_)
    | (intro _)
    | split)

end parts

end Cert.Proof.Kernel

end
-- ==== Proof.PartsC.lean ====
module

public import proofs.«01_k».proof.Proof.RunSig
public import proofs.«01_k».proof.Proof.Gen.Kernel
public import proofs.«01_k».proof.Proof.PartsB

@[expose] public section

set_option maxRecDepth 16384

noncomputable section

namespace Cert.Proof.Kernel

open Cert.Kernel Cert.Proof.Run
open Idealize.ShloMosaic Idealize.ShloMosaic.TcCoe
open Idealize.SL Idealize.SL.Sem

variable {F : FTy → Type} [BitOps F]

section parts

variable (S W : Finset (Ref sig .tc)) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
  (h2 : arg2.view.ref ∈ S) (h3 : arg3.view.ref ∈ S) (h4 : arg4.view.ref ∈ S) (h5 : arg5.view.ref ∈ S) (h6 : arg6.view.ref ∈ S) (h7 : arg7.view.ref ∈ S) (h8 : arg8.view.ref ∈ S) (h9 : arg9.view.ref ∈ S) (h10 : arg10.view.ref ∈ S) (h11 : arg11.view.ref ∈ S) (h12 : arg12.view.ref ∈ S) (h13 : arg13.view.ref ∈ S) (h14 : arg14.view.ref ∈ S) (h15 : arg15.view.ref ∈ S) (h16 : arg16.view.ref ∈ S) (w9 : arg9.view.ref ∈ W) (w10 : arg10.view.ref ∈ W) (w11 : arg11.view.ref ∈ W) (w12 : arg12.view.ref ∈ W) (w13 : arg13.view.ref ∈ W) (w14 : arg14.view.ref ∈ W) (w15 : arg15.view.ref ∈ W) (w16 : arg16.view.ref ∈ W)
include h2 h3 h4 h5 h6 h7 h8 h9 h10 h11 h12 h13 h14 h15 h16 w9 w10 w11 w12 w13 w14 w15 w16

set_option maxHeartbeats 1000000 in
theorem safe_k0_part83  :
    Safe S W (k0_part83 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold k0_part83
  repeat' (first
    | with_reducible exact Safe.pure _
    | (with_reducible refine Safe.dite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | with_reducible exact safe_k0_part1 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part2 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part3 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part4 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part5 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part6 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part7 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part8 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part9 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part10 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part11 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part12 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part13 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part14 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part15 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part16 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part17 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part18 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part19 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part20 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part21 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part22 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part23 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part24 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part25 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part26 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part27 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part28 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part29 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part30 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part31 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part32 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part33 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part34 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part35 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part36 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part37 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ )

end parts

end Cert.Proof.Kernel

end
-- ==== Proof.PartsD.lean ====
module

public import proofs.«01_k».proof.Proof.RunSig
public import proofs.«01_k».proof.Proof.Gen.Kernel
public import proofs.«01_k».proof.Proof.PartsC

@[expose] public section

set_option maxRecDepth 16384

noncomputable section

namespace Cert.Proof.Kernel

open Cert.Kernel Cert.Proof.Run
open Idealize.ShloMosaic Idealize.ShloMosaic.TcCoe
open Idealize.SL Idealize.SL.Sem

variable {F : FTy → Type} [BitOps F]

section parts

variable (S W : Finset (Ref sig .tc)) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
  (h2 : arg2.view.ref ∈ S) (h3 : arg3.view.ref ∈ S) (h4 : arg4.view.ref ∈ S) (h5 : arg5.view.ref ∈ S) (h6 : arg6.view.ref ∈ S) (h7 : arg7.view.ref ∈ S) (h8 : arg8.view.ref ∈ S) (h9 : arg9.view.ref ∈ S) (h10 : arg10.view.ref ∈ S) (h11 : arg11.view.ref ∈ S) (h12 : arg12.view.ref ∈ S) (h13 : arg13.view.ref ∈ S) (h14 : arg14.view.ref ∈ S) (h15 : arg15.view.ref ∈ S) (h16 : arg16.view.ref ∈ S) (w9 : arg9.view.ref ∈ W) (w10 : arg10.view.ref ∈ W) (w11 : arg11.view.ref ∈ W) (w12 : arg12.view.ref ∈ W) (w13 : arg13.view.ref ∈ W) (w14 : arg14.view.ref ∈ W) (w15 : arg15.view.ref ∈ W) (w16 : arg16.view.ref ∈ W)
include h2 h3 h4 h5 h6 h7 h8 h9 h10 h11 h12 h13 h14 h15 h16 w9 w10 w11 w12 w13 w14 w15 w16

set_option maxHeartbeats 8000000 in
theorem safe_k0_part84 (v0 : BitVec 32) (v3 : BitVec 32) (v4 : IVec S256x128 32) (v7 : IVec S256x128 32) :
    Safe S W (k0_part84 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v3 v4 v7) := by
  unfold k0_part84
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | with_reducible exact safe_k0_part38 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part39 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _
    | with_reducible exact safe_k0_part40 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part41 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part42 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part43 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part44 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part45 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part46 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part47 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part48 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part49 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part50 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part51 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part52 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part53 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part54 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part55 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _
    | with_reducible exact safe_k0_part56 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _
    | with_reducible exact safe_k0_part57 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part58 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _
    | with_reducible exact safe_k0_part59 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part60 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _
    | with_reducible exact safe_k0_part61 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _
    | with_reducible exact safe_k0_part62 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ )

end parts

end Cert.Proof.Kernel

end
-- ==== Proof.PartsE.lean ====
module

public import proofs.«01_k».proof.Proof.Run
public import proofs.«01_k».proof.Proof.Gen.Kernel
public import proofs.«01_k».proof.Proof.PartsD

@[expose] public section

set_option maxRecDepth 16384

noncomputable section

namespace Cert.Proof.Kernel

open Cert.Kernel Cert.Proof.Run
open Idealize.ShloMosaic Idealize.ShloMosaic.TcCoe
open Idealize.SL Idealize.SL.Sem

variable {F : FTy → Type} [BitOps F]

section parts

variable (S W : Finset (Ref sig .tc)) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
  (h2 : arg2.view.ref ∈ S) (h3 : arg3.view.ref ∈ S) (h4 : arg4.view.ref ∈ S) (h5 : arg5.view.ref ∈ S) (h6 : arg6.view.ref ∈ S) (h7 : arg7.view.ref ∈ S) (h8 : arg8.view.ref ∈ S) (h9 : arg9.view.ref ∈ S) (h10 : arg10.view.ref ∈ S) (h11 : arg11.view.ref ∈ S) (h12 : arg12.view.ref ∈ S) (h13 : arg13.view.ref ∈ S) (h14 : arg14.view.ref ∈ S) (h15 : arg15.view.ref ∈ S) (h16 : arg16.view.ref ∈ S) (w9 : arg9.view.ref ∈ W) (w10 : arg10.view.ref ∈ W) (w11 : arg11.view.ref ∈ W) (w12 : arg12.view.ref ∈ W) (w13 : arg13.view.ref ∈ W) (w14 : arg14.view.ref ∈ W) (w15 : arg15.view.ref ∈ W) (w16 : arg16.view.ref ∈ W)
include h2 h3 h4 h5 h6 h7 h8 h9 h10 h11 h12 h13 h14 h15 h16 w9 w10 w11 w12 w13 w14 w15 w16

theorem safe_k0_part85 (arg1 : BitVec 32) (v55 : FVec F S512x128 .bf16) (v63 : FVec F S2x64x512 .f32) (v64 : Vec F S2x64x512 .f32) :
    Safe S W (k0_part85 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v55 v63 v64) := by
  unfold k0_part85
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part86 (v85 : Vec F S256x128 .f32) (v88 : BitVec 32) (v92 : BitVec 32) (v95 : FVec F S256x512 .f32) :
    Safe S W (k0_part86 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v85 v88 v92 v95) := by
  unfold k0_part86
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part87 (v85 : Vec F S256x128 .f32) (v88 : BitVec 32) (v92 : BitVec 32) (v95 : FVec F S256x512 .f32) (v128 : FVec F S1x128 .f32) :
    Safe S W (k0_part87 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v85 v88 v92 v95 v128) := by
  unfold k0_part87
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part88 (v62 : FVec F S512x128 .bf16) (v83 : BitVec 32) (v85 : Vec F S256x128 .f32) (v88 : BitVec 32) (v92 : BitVec 32) (v159 : FVec F S256x128 .f32) :
    Safe S W (k0_part88 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v62 v83 v85 v88 v92 v159) := by
  unfold k0_part88
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part89 (v85 : Vec F S256x128 .f32) (v88 : BitVec 32) (v92 : BitVec 32) (v170 : FVec F S256x512 .f32) (v191 : FVec F S128x128 .f32) :
    Safe S W (k0_part89 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v85 v88 v92 v170 v191) := by
  unfold k0_part89
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part90 (arg1 : BitVec 32) (v3 : BitVec 32) (v55 : FVec F S512x128 .bf16) (v62 : FVec F S512x128 .bf16) (v67 : FVec F S1x128 .f32) (v68 : FVec F S1x128 .f32) (v69 : FVec F S1x128 .f32) (v70 : FVec F S1x128 .f32) (v71 : FVec F S1x128 .f32) (v72 : FVec F S1x128 .f32) (v73 : FVec F S1x128 .f32) (v74 : FVec F S1x128 .f32) (v75 : FVec F S1x128 .f32) (v76 : FVec F S1x128 .f32) (v77 : FVec F S1x128 .f32) (v78 : FVec F S1x128 .f32) (v79 : FVec F S1x128 .f32) (v80 : FVec F S1x128 .f32) (v81 : FVec F S1x128 .f32) (v82 : FVec F S1x128 .f32) (v85 : Vec F S256x128 .f32) (v88 : BitVec 32) (v92 : BitVec 32) (v170 : FVec F S256x512 .f32) (v221 : FVec F S1x128 .f32) :
    Safe S W (k0_part90 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v3 v55 v62 v67 v68 v69 v70 v71 v72 v73 v74 v75 v76 v77 v78 v79 v80 v81 v82 v85 v88 v92 v170 v221) := by
  unfold k0_part90
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | with_reducible exact safe_k0_part72 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _ _ _ _ _ _ _ _
    | with_reducible exact safe_k0_part82 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _ _ _ _ _ _ _ _
    | split)

theorem safe_k0_part91 (v250_0 : FVec F S1x128 .f32) (v250_1 : FVec F S1x128 .f32) (v250_2 : FVec F S1x128 .f32) (v250_8 : FVec F S1x128 .f32) (v250_9 : FVec F S1x128 .f32) (v252 : BitVec 32) (v256 : FVec F S1x128 .f32) (cst_175 : F .f32) :
    Safe S W (k0_part91 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v250_0 v250_1 v250_2 v250_8 v250_9 v252 v256 cst_175) := by
  unfold k0_part91
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part92 (v250_2 : FVec F S1x128 .f32) (v250_3 : FVec F S1x128 .f32) (v250_10 : FVec F S1x128 .f32) (v250_11 : FVec F S1x128 .f32) (v251 : BitVec 32) (v252 : BitVec 32) (v273 : FVec F S256x128 .bf16) (v294 : FVec F S256x128 .bf16) (v298 : FVec F S1x128 .f32) (v300 : IVec S1x128 1) :
    Safe S W (k0_part92 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v250_2 v250_3 v250_10 v250_11 v251 v252 v273 v294 v298 v300) := by
  unfold k0_part92
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part93 (v250_4 : FVec F S1x128 .f32) (v250_5 : FVec F S1x128 .f32) (v250_12 : FVec F S1x128 .f32) (v252 : BitVec 32) (v262 : FVec F S1x128 .f32) (v283 : FVec F S1x128 .f32) (v304 : FVec F S1x128 .f32) (v325 : FVec F S1x128 .f32) (v341 : FVec F S64x512 .f32) :
    Safe S W (k0_part93 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v250_4 v250_5 v250_12 v252 v262 v283 v304 v325 v341) := by
  unfold k0_part93
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part94 (v250_6 : FVec F S1x128 .f32) (v250_7 : FVec F S1x128 .f32) (v250_13 : FVec F S1x128 .f32) (v250_14 : FVec F S1x128 .f32) (v252 : BitVec 32) (v379 : FVec F S1x128 .f32) (v381 : FVec F S1x128 .f32) :
    Safe S W (k0_part94 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v250_6 v250_7 v250_13 v250_14 v252 v379 v381) := by
  unfold k0_part94
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part95 (v250_15 : FVec F S1x128 .f32) (v251 : BitVec 32) (v272 : FVec F S1x128 .f32) (v293 : FVec F S1x128 .f32) (v360 : FVec F S1x128 .f32) (v371 : FVec F S256x128 .bf16) (v381 : FVec F S1x128 .f32) (v392 : FVec F S256x128 .bf16) (v402 : FVec F S1x128 .f32) (v413 : FVec F S256x128 .bf16) (v421 : FVec F S1x128 .f32) (v423 : FVec F S1x128 .f32) (v426 : FVec F S256x128 .f32) :
    Safe S W (k0_part95 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v250_15 v251 v272 v293 v360 v371 v381 v392 v402 v413 v421 v423 v426) := by
  unfold k0_part95
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | split)

theorem safe_k0_part96 (v314 : FVec F S1x128 .f32) (v335 : FVec F S1x128 .f32) (v370 : FVec F S1x128 .f32) (v391 : FVec F S1x128 .f32) (v412 : FVec F S1x128 .f32) :
    Safe S W (k0_part96 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v314 v335 v370 v391 v412) := by
  unfold k0_part96
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | with_reducible exact safe_k0_part83 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part84 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part85 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part86 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part87 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part88 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part89 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part90 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _ _ _ _ _ _ _ _ _ _ _
    | with_reducible exact safe_k0_part91 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part92 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _
    | with_reducible exact safe_k0_part93 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _
    | with_reducible exact safe_k0_part94 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part95 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _
    | split)

set_option maxHeartbeats 40000000 in
theorem safe_cc0_dsa_attention  :
    Safe S W (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 ) := by
  unfold cc0_dsa_attention
  repeat' (first
    | (extract_lets -underBinder -merge +onlyGivenNames x
       first
       | (refine suffices hx : ∀ y, Safe S W (x y) from ?_; ?_
          on_goal 2 => (clear_value x)
          intro y; unfold x; try clear x)
       | clear_value x
       | skip)
    | (with_reducible apply_assumption; done)
    | with_reducible exact Safe.pure _
    | (with_reducible refine Safe.dite ?_ ?_)
    | (with_reducible refine Safe.ite ?_ ?_)
    | (with_reducible refine Safe.loop ?_)
    | (with_reducible refine Safe.loadBind (by assumption) ?_; intro _)
    | (with_reducible refine Safe.storeBind (by assumption) ?_)
    | (with_reducible refine Safe.liftLoad (by assumption))
    | (with_reducible refine Safe.liftStore (by assumption))
    | (with_reducible refine Safe.bindSig ?_ ?_)
    | (with_reducible refine Safe.bindPair ?_ ?_)
    | (with_reducible refine Safe.bind ?_ ?_)
    | (intro _)
    | with_reducible exact safe_k0_part83 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16
    | with_reducible exact safe_k0_part84 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part85 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part86 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _
    | with_reducible exact safe_k0_part87 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part88 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _
    | with_reducible exact safe_k0_part89 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | with_reducible exact safe_k0_part90 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _ _ _ _ _ _ _ _ _ _ _ _ _
    | with_reducible exact safe_k0_part91 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _
    | with_reducible exact safe_k0_part92 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _
    | with_reducible exact safe_k0_part93 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _
    | with_reducible exact safe_k0_part94 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _
    | with_reducible exact safe_k0_part95 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _ _ _ _ _ _ _ _ _
    | with_reducible exact safe_k0_part96 S W i arg2 harg2 arg3 harg3 arg4 harg4 arg5 harg5 arg6 harg6 arg7 harg7 arg8 harg8 arg9 harg9 arg10 harg10 arg11 harg11 arg12 harg12 arg13 harg13 arg14 harg14 arg15 harg15 arg16 harg16 h2 h3 h4 h5 h6 h7 h8 h9 h10 h11 h12 h13 h14 h15 h16 w9 w10 w11 w12 w13 w14 w15 w16 _ _ _ _ _
    | split)

end parts

end Cert.Proof.Kernel

end
-- ==== Proof.Held.lean ====
/-
  Between the buffers of a body obligation, owned one by one, and the buffers `held` at one memory (Run.lean).
-/
module

public import proofs.«01_k».proof.Proof.Run

@[expose] public section

noncomputable section

namespace Cert.Proof.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

variable {Ix : Type} [DecidableEq Ix] {Name : Type} [DecidableEq Name] {U : Type} [URA U] {Lvl : Type} [Preorder Lvl]
variable (c : Thread nD τ)

/-- One buffer with an element is not held whole twice. -/
theorem held_twice {b : Ref sig c.2.kind} (hb : Nonempty (Idx (c.loc b))) (f f' : b.ty.Contents Val) :
    (iprop(((c.loc b) ↦{fullShare} f) ∗ ((c.loc b) ↦{fullShare} f')) : sProp (MT nD τ sig Ix Val Name U Lvl)) ⊢ iprop(⌜False⌝) := by
  obtain ⟨i⟩ := hb
  exact pointsTo_full_full_false (Finset.mem_univ i) (Finset.mem_univ i)

/-- Whole buffers listed with their contents. -/
def heldL : List ((b : Ref sig c.2.kind) × b.ty.Contents Val) → sProp (MT nD τ sig Ix Val Name U Lvl)
  | [] => iprop(emp)
  | x :: l => iprop(((c.loc x.1) ↦{fullShare} x.2) ∗ heldL l)

theorem held_out {S : Finset (Ref sig c.2.kind)} {b : Ref sig c.2.kind} (hb : b ∈ S) (σ : Mem sig Val c.2.kind) :
    (held c S σ : sProp (MT nD τ sig Ix Val Name U Lvl)) ⊢ iprop(((c.loc b) ↦{fullShare} (σ b)) ∗ held c (S.erase b) σ) :=
  BIBase.Entails.of_eq (held_take c hb σ)

theorem held_insert {S : Finset (Ref sig c.2.kind)} {b : Ref sig c.2.kind} (hb : b ∉ S) (σ : Mem sig Val c.2.kind) :
    (held c (insert b S) σ : sProp (MT nD τ sig Ix Val Name U Lvl)) = iprop(((c.loc b) ↦{fullShare} (σ b)) ∗ held c S σ) :=
  bigSep_insert hb

theorem held_congr {S : Finset (Ref sig c.2.kind)} {σ σ' : Mem sig Val c.2.kind} (h : ∀ b ∈ S, σ b = σ' b) :
    (held c S σ : sProp (MT nD τ sig Ix Val Name U Lvl)) = held c S σ' :=
  bigSep_congr fun b hb => by rw [h b hb]

/-- Whole buffers listed are distinct, and are held at a memory. -/
theorem heldL_held (σ₀ : Mem sig Val c.2.kind) : ∀ l : List ((b : Ref sig c.2.kind) × b.ty.Contents Val),
    (∀ x ∈ l, Nonempty (Idx (c.loc x.1))) →
    ((heldL c l : sProp (MT nD τ sig Ix Val Name U Lvl))
      ⊢ iprop(∃ σ, ⌜(l.map Sigma.fst).Nodup ∧ ∀ x ∈ l, σ x.1 = x.2⌝ ∗ held c (l.map Sigma.fst).toFinset σ))
  | [], _ => by
    have h0 : (held c (∅ : Finset (Ref sig c.2.kind)) σ₀ : sProp (MT nD τ sig Ix Val Name U Lvl)) = iprop(emp) := bigSep_empty
    unfold heldL
    iintro H
    iexists σ₀
    isplitr
    · ipureintro; exact ⟨List.nodup_nil, fun x hx => absurd hx List.not_mem_nil⟩
    rw [List.map_nil, List.toFinset_nil, h0]; iexact H
  | x :: l, hne => by
    have ih := heldL_held σ₀ l fun y hy => hne y (List.mem_cons_of_mem _ hy)
    unfold heldL
    iintro ⟨Hx, Hl⟩
    ihave Hl := ih $$ Hl
    icases Hl with ⟨%σ, %hσ, Hl⟩
    obtain ⟨hn, hσ⟩ := hσ
    by_cases hx : x.1 ∈ (l.map Sigma.fst).toFinset
    · ihave Hl := held_out c hx σ $$ Hl
      icases Hl with ⟨Hb, Hl⟩
      ihave Hf := held_twice c (hne x List.mem_cons_self) x.2 (σ x.1) $$ [Hx Hb]
      · isplitl [Hx] <;> iassumption
      icases Hf with %hf
      exact hf.elim
    · iexists Function.update σ x.1 x.2
      have hx' : x.1 ∉ l.map Sigma.fst := fun h => hx (List.mem_toFinset.mpr h)
      have hc : ∀ b ∈ (l.map Sigma.fst).toFinset, Function.update σ x.1 x.2 b = σ b := fun b hb =>
        Function.update_of_ne (by intro h; subst h; exact hx hb) _ _
      isplitr
      · ipureintro
        refine ⟨by rw [List.map_cons]; exact List.nodup_cons.mpr ⟨hx', hn⟩, fun y hy => ?_⟩
        rcases List.mem_cons.mp hy with rfl | hy
        · rw [Function.update_self]
        · rw [Function.update_of_ne, hσ y hy]
          intro h; exact hx' (h ▸ List.mem_map.mpr ⟨y, hy, rfl⟩)
      rw [List.map_cons, List.toFinset_cons, held_insert c hx, Function.update_self,
        held_congr c hc]
      isplitl [Hx]; · iexact Hx
      iexact Hl

/-- Buffers held at a memory, one by one. -/
theorem held_heldL (σ : Mem sig Val c.2.kind) : ∀ l : List (Ref sig c.2.kind), l.Nodup →
    ((held c l.toFinset σ : sProp (MT nD τ sig Ix Val Name U Lvl)) ⊢ heldL c (l.map fun b => ⟨b, σ b⟩))
  | [], _ => BIBase.Entails.of_eq bigSep_empty
  | b :: l, h => by
    obtain ⟨hb, hn⟩ := List.nodup_cons.mp h
    have ih := held_heldL σ l hn
    rw [List.map_cons, List.toFinset_cons, held_insert c (fun hb' => hb (List.mem_toFinset.mp hb'))]
    unfold heldL
    iintro ⟨Hb, Hl⟩
    isplitl [Hb]; · iexact Hb
    iapply ih; iexact Hl

/-- A whole memref of a shape with an element is on a buffer with an element. -/
theorem whole_nonempty {sp : Space} {s : Shape} {e : EltTy} {m : Memref sig c.2.kind sp s e} (hm : m.IsWhole) (hs : 0 < s.numel) :
    Nonempty (Idx (c.loc m.view.ref)) := by
  obtain ⟨b, rfl, rfl, rfl, h⟩ := hm
  cases h
  exact Fintype.card_pos_iff.mp (by rw [← Shape.card_idx] at hs; exact hs)

/-- A whole memref owned is its buffer held. -/
theorem owns_buffer {sp : Space} {s : Shape} {e : EltTy} {m : Memref sig c.2.kind sp s e} (hm : m.IsWhole) (X : s.Idx → Val e) :
    (owns c m fullShare X : sProp (MT nD τ sig Ix Val Name U Lvl))
      ⊢ iprop(∃ f : m.view.ref.ty.Contents Val, ⌜m.view.read Val f = X⌝ ∗ ((c.loc m.view.ref) ↦{fullShare} f)) := by
  unfold owns
  rw [hm.set_eq_univ]

/-- A whole memref's buffer held is the memref owned at what it reads. -/
theorem buffer_owns {sp : Space} {s : Shape} {e : EltTy} {m : Memref sig c.2.kind sp s e} (hm : m.IsWhole) (f : m.view.ref.ty.Contents Val) :
    ((c.loc m.view.ref) ↦{fullShare} f : sProp (MT nD τ sig Ix Val Name U Lvl)) ⊢ owns c m fullShare (m.view.read Val f) := by
  have h := owns_intro (Ix := Ix) (Name := Name) (U := U) (Lvl := Lvl) c m fullShare f
  rwa [hm.set_eq_univ] at h

end Cert.Proof.Run

end
-- ==== Proof.DsaBody.lean ====
/-
  The frame of the sparse-attention call's body: from its staging buffers and its scratch buffers held whole, the body
  runs to its return, hands every input back as it was, and leaves something in the result's buffer and in the scratch.
-/
module

public import proofs.«01_k».proof.Proof.PartsE
public import proofs.«01_k».proof.Proof.Held
public import proofs.«01_k».proof.Proof.Gen.Kernel.Frame

@[expose] public section

set_option maxRecDepth 16384

noncomputable section

namespace Cert.Proof.Kernel

open Cert.Kernel Cert.Kernel.Gen Cert.Proof.Run
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [BitOps F]

local notation "𝕄" => MT nD τ sig Unit (Elt F) ℕ (UR sig nD τ) ℕ

/-- A memref's buffer on core `c`: its contents, and it held whole. -/
abbrev Bf (F : FTy → Type) {S : Shape} {e : EltTy} (M : Memref sig .tc .vmem S e) : Type := M.view.ref.ty.Contents (Elt F)
abbrev pt (c : Dev nD) {S : Shape} {e : EltTy} (M : Memref sig .tc .vmem S e) (f : Bf F M) : sProp 𝕄 :=
  ((c : Thread nD τ).loc M.view.ref) ↦{fullShare} f

set_option maxHeartbeats 2000000 in
theorem body_wp (c : Dev nD) (i : grid0.Coords) (arg2 : Memref sig .tc .vmem S128x1024 .bf16) (harg2 : arg2.IsWhole) (arg3 : Memref sig .tc .vmem S2048x256 .bf16) (harg3 : arg3.IsWhole) (arg4 : Memref sig .tc .vmem S2048x128 .bf16) (harg4 : arg4.IsWhole) (arg5 : Memref sig .tc .vmem S128x512 .f32) (harg5 : arg5.IsWhole) (arg6 : Memref sig .tc .vmem S2048x128 .f32) (harg6 : arg6.IsWhole) (arg7 : Memref sig .tc .vmem S128x128 .f32) (harg7 : arg7.IsWhole) (arg8 : Memref sig .tc .vmem S8x3x128x128 .f32) (harg8 : arg8.IsWhole) (arg9 : Memref sig .tc .vmem S128x512 .bf16) (harg9 : arg9.IsWhole) (arg10 : Memref sig .tc .vmem S2176x128 .i32) (harg10 : arg10.IsWhole) (arg11 : Memref sig .tc .vmem S2048x128 .f32) (harg11 : arg11.IsWhole) (arg12 : Memref sig .tc .vmem S8x128x256 .bf16) (harg12 : arg12.IsWhole) (arg13 : Memref sig .tc .vmem S2x64x512 .f32) (harg13 : arg13.IsWhole) (arg14 : Memref sig .tc .vmem S2x2x256x512 .f32) (harg14 : arg14.IsWhole) (arg15 : Memref sig .tc .vmem S2x8x128 .f32) (harg15 : arg15.IsWhole) (arg16 : Memref sig .tc .vmem S512x128 .f32) (harg16 : arg16.IsWhole)
    (f2 : Bf F arg2) (f3 : Bf F arg3) (f4 : Bf F arg4) (f5 : Bf F arg5) (f6 : Bf F arg6) (f7 : Bf F arg7) (f8 : Bf F arg8) (f9 : Bf F arg9) (f10 : Bf F arg10) (f11 : Bf F arg11) (f12 : Bf F arg12) (f13 : Bf F arg13) (f14 : Bf F arg14) (f15 : Bf F arg15) (f16 : Bf F arg16) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16)
      ⊢ wp frame (wpE (defs₀ (F := F)) Variants.none c none) Set.univ (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
        (fun _ => iprop(pt c arg2 f2 ∗ pt c arg3 f3 ∗ pt c arg4 f4 ∗ pt c arg5 f5 ∗ pt c arg6 f6 ∗ pt c arg7 f7 ∗ pt c arg8 f8 ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f))) := by
  let l : List ((b : Ref sig .tc) × b.ty.Contents (Elt F)) := [⟨arg2.view.ref, f2⟩, ⟨arg3.view.ref, f3⟩, ⟨arg4.view.ref, f4⟩, ⟨arg5.view.ref, f5⟩, ⟨arg6.view.ref, f6⟩, ⟨arg7.view.ref, f7⟩, ⟨arg8.view.ref, f8⟩, ⟨arg9.view.ref, f9⟩, ⟨arg10.view.ref, f10⟩, ⟨arg11.view.ref, f11⟩, ⟨arg12.view.ref, f12⟩, ⟨arg13.view.ref, f13⟩, ⟨arg14.view.ref, f14⟩, ⟨arg15.view.ref, f15⟩, ⟨arg16.view.ref, f16⟩]
  have hl : (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16) : sProp 𝕄) ⊢ heldL (c : Thread nD τ) l := by
    iintro ⟨H2, H3, H4, H5, H6, H7, H8, H9, H10, H11, H12, H13, H14, H15, H16⟩
    dsimp only [l, heldL]
    iframe
  refine hl.trans ?_
  have hne : ∀ x ∈ l, Nonempty (Idx ((c : Thread nD τ).loc x.1)) := by
    simp only [l, List.forall_mem_cons, List.not_mem_nil, false_imp_iff, implies_true, and_true]
    exact ⟨whole_nonempty (c : Thread nD τ) harg2 (by decide), whole_nonempty (c : Thread nD τ) harg3 (by decide), whole_nonempty (c : Thread nD τ) harg4 (by decide), whole_nonempty (c : Thread nD τ) harg5 (by decide), whole_nonempty (c : Thread nD τ) harg6 (by decide), whole_nonempty (c : Thread nD τ) harg7 (by decide), whole_nonempty (c : Thread nD τ) harg8 (by decide), whole_nonempty (c : Thread nD τ) harg9 (by decide), whole_nonempty (c : Thread nD τ) harg10 (by decide), whole_nonempty (c : Thread nD τ) harg11 (by decide), whole_nonempty (c : Thread nD τ) harg12 (by decide), whole_nonempty (c : Thread nD τ) harg13 (by decide), whole_nonempty (c : Thread nD τ) harg14 (by decide), whole_nonempty (c : Thread nD τ) harg15 (by decide), whole_nonempty (c : Thread nD τ) harg16 (by decide)⟩
  refine (heldL_held (c : Thread nD τ) (fun b => fun _ => Classical.choice inferInstance) l hne).trans ?_
  iintro ⟨%σ, %hσ, H⟩
  obtain ⟨hn, hσ⟩ := hσ
  have hS : ∀ b, b ∈ (l.map Sigma.fst).toFinset ↔ b ∈ l.map Sigma.fst := fun b => List.mem_toFinset
  let W : Finset (Ref sig .tc) := [arg9.view.ref, arg10.view.ref, arg11.view.ref, arg12.view.ref, arg13.view.ref, arg14.view.ref, arg15.view.ref, arg16.view.ref].toFinset
  have hW : W ⊆ (l.map Sigma.fst).toFinset := by
    intro b hb
    rw [hS]; rw [List.mem_toFinset] at hb
    simp only [l, List.map_cons, List.map_nil, List.mem_cons, List.not_mem_nil, or_false] at hb ⊢
    tauto
  have hsafe : Safe (l.map Sigma.fst).toFinset W (cc0_dsa_attention (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) := by
    apply safe_cc0_dsa_attention <;>
      simp only [l, W, List.mem_toFinset, List.map_cons, List.map_nil, List.mem_cons, true_or, or_true]
  have hwp := hsafe.wp (defs := defs₀ (F := F)) (Ix := Unit) (Name := ℕ) (U := UR sig nD τ) (Lvl := ℕ) Variants.none (c : Thread nD τ) none Set.univ hW σ
  iapply (wp_wand frame (wpE (defs₀ (F := F)) Variants.none (c : Thread nD τ) none) Set.univ) $$ [H]
  · iapply hwp; iexact H
  iintro %a ⟨%σ', %hr, H⟩
  have hk : ∀ b, b ∉ W → σ' b = σ b := fun b hb => hsafe.keeps hr hb
  have hheld : _ ⊢ (iprop(pt c arg2 (σ' arg2.view.ref) ∗ pt c arg3 (σ' arg3.view.ref) ∗ pt c arg4 (σ' arg4.view.ref) ∗ pt c arg5 (σ' arg5.view.ref) ∗ pt c arg6 (σ' arg6.view.ref) ∗ pt c arg7 (σ' arg7.view.ref) ∗ pt c arg8 (σ' arg8.view.ref) ∗ pt c arg9 (σ' arg9.view.ref) ∗ pt c arg10 (σ' arg10.view.ref) ∗ pt c arg11 (σ' arg11.view.ref) ∗ pt c arg12 (σ' arg12.view.ref) ∗ pt c arg13 (σ' arg13.view.ref) ∗ pt c arg14 (σ' arg14.view.ref) ∗ pt c arg15 (σ' arg15.view.ref) ∗ pt c arg16 (σ' arg16.view.ref) ∗ emp) : sProp 𝕄) := held_heldL (Ix := Unit) (Name := ℕ) (U := UR sig nD τ) (Lvl := ℕ) (c : Thread nD τ) σ' (l.map Sigma.fst) hn
  ihave H := hheld $$ H
  have hn' := hn
  simp only [l, List.map_cons, List.map_nil, List.nodup_cons, List.mem_cons, List.not_mem_nil, or_false, not_or, not_false_eq_true, List.nodup_nil, and_true] at hn'
  simp only [l, List.forall_mem_cons, List.not_mem_nil, false_imp_iff, implies_true, and_true] at hσ
  obtain ⟨e2, e3, e4, e5, e6, e7, e8, e9, e10, e11, e12, e13, e14, e15, e16⟩ := hσ
  obtain ⟨n2, n3, n4, n5, n6, n7, n8, n9, n10, n11, n12, n13, n14, n15⟩ := hn'
  have hw : ∀ b, b ∉ W ↔ b ≠ arg9.view.ref ∧ b ≠ arg10.view.ref ∧ b ≠ arg11.view.ref ∧ b ≠ arg12.view.ref ∧ b ≠ arg13.view.ref ∧ b ≠ arg14.view.ref ∧ b ≠ arg15.view.ref ∧ b ≠ arg16.view.ref := by
    intro b; simp only [W, List.mem_toFinset, List.mem_cons, List.not_mem_nil, or_false, not_or]
  have k2 : σ' arg2.view.ref = f2 := (hk _ ((hw _).mpr (by refine ⟨?_, ?_, ?_, ?_, ?_, ?_, ?_, ?_⟩ <;> simp only [ne_eq, n2, not_false_eq_true]))).trans e2
  have k3 : σ' arg3.view.ref = f3 := (hk _ ((hw _).mpr (by refine ⟨?_, ?_, ?_, ?_, ?_, ?_, ?_, ?_⟩ <;> simp only [ne_eq, n3, not_false_eq_true]))).trans e3
  have k4 : σ' arg4.view.ref = f4 := (hk _ ((hw _).mpr (by refine ⟨?_, ?_, ?_, ?_, ?_, ?_, ?_, ?_⟩ <;> simp only [ne_eq, n4, not_false_eq_true]))).trans e4
  have k5 : σ' arg5.view.ref = f5 := (hk _ ((hw _).mpr (by refine ⟨?_, ?_, ?_, ?_, ?_, ?_, ?_, ?_⟩ <;> simp only [ne_eq, n5, not_false_eq_true]))).trans e5
  have k6 : σ' arg6.view.ref = f6 := (hk _ ((hw _).mpr (by refine ⟨?_, ?_, ?_, ?_, ?_, ?_, ?_, ?_⟩ <;> simp only [ne_eq, n6, not_false_eq_true]))).trans e6
  have k7 : σ' arg7.view.ref = f7 := (hk _ ((hw _).mpr (by refine ⟨?_, ?_, ?_, ?_, ?_, ?_, ?_, ?_⟩ <;> simp only [ne_eq, n7, not_false_eq_true]))).trans e7
  have k8 : σ' arg8.view.ref = f8 := (hk _ ((hw _).mpr (by refine ⟨?_, ?_, ?_, ?_, ?_, ?_, ?_, ?_⟩ <;> simp only [ne_eq, n8, not_false_eq_true]))).trans e8
  rw [k2, k3, k4, k5, k6, k7, k8]
  icases H with ⟨H2, H3, H4, H5, H6, H7, H8, H9, H10, H11, H12, H13, H14, H15, H16, -⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iexists _; iexact H16

end Cert.Proof.Kernel

end
-- ==== Proof.DsaFrame.lean ====
/-
  The sparse-attention call's launch: its windows' data, the body at a point of the grid, and the run of the whole call.
  Nothing is named of what the result's array holds.
-/
module

public import proofs.«01_k».proof.Proof.DsaBody
public import Idealize.ShloMosaic.Adequacy
public import Idealize.ShloMosaic.Init

@[expose] public section

set_option maxRecDepth 16384

noncomputable section

namespace Cert.Proof.Kernel

open Cert.Kernel Cert.Kernel.Gen Cert.Proof.Run
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The call's data on core `c`: each input left at its block, the result's block not named. -/
def dat0 (c : Dev nD) : Dat τ (Elt F) Unit ℕ (UR sig nD τ) ℕ cfg0 c where
  A := fun w => V m c (Pipeline.arrRef spec0 w)
  after := fun
    | 0, t => X0_0 m c t
    | 1, t => X0_1 m c t
    | 2, t => iblk m c 2 t
    | 3, t => X0_3 m c t
    | 4, t => iblk m c 4 t
    | 5, t => iblk m c 5 t
    | 6, t => iblk m c 6 t
    | 7, t => Dat.unnamed (cfg := cfg0) 7 t
    | ⟨_ + 8, h⟩, _ => absurd h (Nat.not_lt.2 (Nat.le_add_left _ _))
  Φ := fun _ => Pipeline.ΦA spec0 c
  q := Pipeline.shareOf spec0
  owed := fun _ => 0

def dats : (p : Fin 1) → (c : Dev nD) → Dat τ (Elt F) Unit ℕ (UR sig nD τ) ℕ (cfgs p) c :=
  fun | 0 => fun c => dat0 m c | ⟨_ + 1, h⟩ => absurd h (Nat.not_lt.2 (Nat.le_add_left _ _))

/-- The result's window is the one not named. -/
def fgt0 : Fin cfg0.W → Bool := fun w => decide (w = 7)

theorem bef0_0 (c : Dev nD) (t : Fin cfg0.N) (d) : (dat0 m c).before 0 t d = X0_0 m c t :=
  before0_0_of m (dat0 m c) rfl (fun _ => rfl) t d

theorem bef0_1 (c : Dev nD) (t : Fin cfg0.N) (d) : (dat0 m c).before 1 t d = X0_1 m c t :=
  before0_1_of m (dat0 m c) rfl (fun _ => rfl) t d

theorem bef0_2 (c : Dev nD) (t : Fin cfg0.N) (d) : (dat0 m c).before 2 t d = iblk m c 2 t :=
  before0_2_of m (dat0 m c) rfl (fun _ => rfl) t d

theorem bef0_3 (c : Dev nD) (t : Fin cfg0.N) (d) : (dat0 m c).before 3 t d = X0_3 m c t :=
  before0_3_of m (dat0 m c) rfl (fun _ => rfl) t d

theorem bef0_4 (c : Dev nD) (t : Fin cfg0.N) (d) : (dat0 m c).before 4 t d = iblk m c 4 t :=
  before0_4_of m (dat0 m c) rfl (fun _ => rfl) t d

theorem bef0_5 (c : Dev nD) (t : Fin cfg0.N) (d) : (dat0 m c).before 5 t d = iblk m c 5 t :=
  before0_5_of m (dat0 m c) rfl (fun _ => rfl) t d

theorem bef0_6 (c : Dev nD) (t : Fin cfg0.N) (d) : (dat0 m c).before 6 t d = iblk m c 6 t :=
  before0_6_of m (dat0 m c) rfl (fun _ => rfl) t d

set_option maxHeartbeats 2000000 in
theorem body0 (c : Dev nD) : BodyObligation (dat0 m c) (defs₀ (F := F)) Variants.none () Set.univ fgt0 := by
  intro t
  have hb : defs₀ (F := F) .tc cfg0.body (cfg0.bodyArgs t (cfg0.slots t)) = bodyAt0 t := rfl
  rw [hb, bigSep_W0, bigSep_W0]
  show iprop(Pipeline.ΦA spec0 c ∗ (dat0 m c).owesAt () t.castSucc ∗ (∃ d, owns (c : Thread nD τ) (st0_0 t) fullShare ((dat0 m c).before 0 t d)) ∗ (∃ d, owns (c : Thread nD τ) (st0_1 t) fullShare ((dat0 m c).before 1 t d)) ∗ (∃ d, owns (c : Thread nD τ) (st0_2 t) fullShare ((dat0 m c).before 2 t d)) ∗ (∃ d, owns (c : Thread nD τ) (st0_3 t) fullShare ((dat0 m c).before 3 t d)) ∗ (∃ d, owns (c : Thread nD τ) (st0_4 t) fullShare ((dat0 m c).before 4 t d)) ∗ (∃ d, owns (c : Thread nD τ) (st0_5 t) fullShare ((dat0 m c).before 5 t d)) ∗ (∃ d, owns (c : Thread nD τ) (st0_6 t) fullShare ((dat0 m c).before 6 t d)) ∗ (∃ X, owns (c : Thread nD τ) (st0_7 t) fullShare X)) ⊢ wp frame (wpE (defs₀ (F := F)) Variants.none (c : Thread nD τ) none) Set.univ (bodyAt0 t) fun _ => iprop(Pipeline.ΦA spec0 c ∗ (dat0 m c).owesAt () t.castSucc ∗ owns (c : Thread nD τ) (st0_0 t) fullShare (X0_0 m c t) ∗ owns (c : Thread nD τ) (st0_1 t) fullShare (X0_1 m c t) ∗ owns (c : Thread nD τ) (st0_2 t) fullShare (iblk m c 2 t) ∗ owns (c : Thread nD τ) (st0_3 t) fullShare (X0_3 m c t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ (∃ X, owns (c : Thread nD τ) (st0_7 t) fullShare X))
  simp only [bef0_0, bef0_1, bef0_2, bef0_3, bef0_4, bef0_5, bef0_6]
  unfold Pipeline.ΦA
  rw [scopedRest0_eq]
  iintro ⟨⟨⟨⟨%g0, S0⟩, ⟨%g1, S1⟩, ⟨%g2, S2⟩, ⟨%g3, S3⟩, ⟨%g4, S4⟩, ⟨%g5, S5⟩, ⟨%g6, S6⟩⟩, R⟩, O, ⟨%d0, H0⟩, ⟨%d1, H1⟩, ⟨%d2, H2⟩, ⟨%d3, H3⟩, ⟨%d4, H4⟩, ⟨%d5, H5⟩, ⟨%d6, H6⟩, ⟨%d7, H7⟩⟩
  ihave H0 := (owns_buffer (m := st0_0 t) (Ix := Unit) (Name := ℕ) (U := UR sig nD τ) (Lvl := ℕ) (c : Thread nD τ) (hstage0_0 ((cfg0.slots t 0).cast nbuf0_0)) (X0_0 m c t)) $$ H0
  icases H0 with ⟨%f0, %e0, H0⟩
  ihave H1 := (owns_buffer (m := st0_1 t) (Ix := Unit) (Name := ℕ) (U := UR sig nD τ) (Lvl := ℕ) (c : Thread nD τ) (hstage0_1 ((cfg0.slots t 1).cast nbuf0_1)) (X0_1 m c t)) $$ H1
  icases H1 with ⟨%f1, %e1, H1⟩
  ihave H2 := (owns_buffer (m := st0_2 t) (Ix := Unit) (Name := ℕ) (U := UR sig nD τ) (Lvl := ℕ) (c : Thread nD τ) (hstage0_2 ((cfg0.slots t 2).cast nbuf0_2)) (iblk m c 2 t)) $$ H2
  icases H2 with ⟨%f2, %e2, H2⟩
  ihave H3 := (owns_buffer (m := st0_3 t) (Ix := Unit) (Name := ℕ) (U := UR sig nD τ) (Lvl := ℕ) (c : Thread nD τ) (hstage0_3 ((cfg0.slots t 3).cast nbuf0_3)) (X0_3 m c t)) $$ H3
  icases H3 with ⟨%f3, %e3, H3⟩
  ihave H4 := (owns_buffer (m := st0_4 t) (Ix := Unit) (Name := ℕ) (U := UR sig nD τ) (Lvl := ℕ) (c : Thread nD τ) (hstage0_4 ((cfg0.slots t 4).cast nbuf0_4)) (iblk m c 4 t)) $$ H4
  icases H4 with ⟨%f4, %e4, H4⟩
  ihave H5 := (owns_buffer (m := st0_5 t) (Ix := Unit) (Name := ℕ) (U := UR sig nD τ) (Lvl := ℕ) (c : Thread nD τ) (hstage0_5 ((cfg0.slots t 5).cast nbuf0_5)) (iblk m c 5 t)) $$ H5
  icases H5 with ⟨%f5, %e5, H5⟩
  ihave H6 := (owns_buffer (m := st0_6 t) (Ix := Unit) (Name := ℕ) (U := UR sig nD τ) (Lvl := ℕ) (c : Thread nD τ) (hstage0_6 ((cfg0.slots t 6).cast nbuf0_6)) (iblk m c 6 t)) $$ H6
  icases H6 with ⟨%f6, %e6, H6⟩
  ihave H7 := (owns_buffer (m := st0_7 t) (Ix := Unit) (Name := ℕ) (U := UR sig nD τ) (Lvl := ℕ) (c : Thread nD τ) (hstage0_7 ((cfg0.slots t 7).cast nbuf0_7)) d7) $$ H7
  icases H7 with ⟨%f7, %e7, H7⟩
  have hw := body_wp (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 g0 g1 g2 g3 g4 g5 g6
  iapply (wp_wand frame (wpE (defs₀ (F := F)) Variants.none (c : Thread nD τ) none) Set.univ) $$ [H0 H1 H2 H3 H4 H5 H6 H7 S0 S1 S2 S3 S4 S5 S6]
  · iapply hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    iexact S6
  iintro %a ⟨H0, H1, H2, H3, H4, H5, H6, ⟨%y, H7⟩, S0, S1, S2, S3, S4, S5, S6⟩
  isplitl [S0 S1 S2 S3 S4 S5 S6 R]
  · isplitr [R]
    · isplitl [S0]; · iexact S0
      isplitl [S1]; · iexact S1
      isplitl [S2]; · iexact S2
      isplitl [S3]; · iexact S3
      isplitl [S4]; · iexact S4
      isplitl [S5]; · iexact S5
      iexact S6
    · iexact R
  isplitl [O]; · iexact O
  ihave H0 := (buffer_owns (m := st0_0 t) (Ix := Unit) (Name := ℕ) (U := UR sig nD τ) (Lvl := ℕ) (c : Thread nD τ) (hstage0_0 ((cfg0.slots t 0).cast nbuf0_0)) f0) $$ H0
  rw [e0]
  isplitl [H0]; · iexact H0
  ihave H1 := (buffer_owns (m := st0_1 t) (Ix := Unit) (Name := ℕ) (U := UR sig nD τ) (Lvl := ℕ) (c : Thread nD τ) (hstage0_1 ((cfg0.slots t 1).cast nbuf0_1)) f1) $$ H1
  rw [e1]
  isplitl [H1]; · iexact H1
  ihave H2 := (buffer_owns (m := st0_2 t) (Ix := Unit) (Name := ℕ) (U := UR sig nD τ) (Lvl := ℕ) (c : Thread nD τ) (hstage0_2 ((cfg0.slots t 2).cast nbuf0_2)) f2) $$ H2
  rw [e2]
  isplitl [H2]; · iexact H2
  ihave H3 := (buffer_owns (m := st0_3 t) (Ix := Unit) (Name := ℕ) (U := UR sig nD τ) (Lvl := ℕ) (c : Thread nD τ) (hstage0_3 ((cfg0.slots t 3).cast nbuf0_3)) f3) $$ H3
  rw [e3]
  isplitl [H3]; · iexact H3
  ihave H4 := (buffer_owns (m := st0_4 t) (Ix := Unit) (Name := ℕ) (U := UR sig nD τ) (Lvl := ℕ) (c : Thread nD τ) (hstage0_4 ((cfg0.slots t 4).cast nbuf0_4)) f4) $$ H4
  rw [e4]
  isplitl [H4]; · iexact H4
  ihave H5 := (buffer_owns (m := st0_5 t) (Ix := Unit) (Name := ℕ) (U := UR sig nD τ) (Lvl := ℕ) (c : Thread nD τ) (hstage0_5 ((cfg0.slots t 5).cast nbuf0_5)) f5) $$ H5
  rw [e5]
  isplitl [H5]; · iexact H5
  ihave H6 := (buffer_owns (m := st0_6 t) (Ix := Unit) (Name := ℕ) (U := UR sig nD τ) (Lvl := ℕ) (c : Thread nD τ) (hstage0_6 ((cfg0.slots t 6).cast nbuf0_6)) f6) $$ H6
  rw [e6]
  isplitl [H6]; · iexact H6
  iexists _
  iapply (buffer_owns (m := st0_7 t) (Ix := Unit) (Name := ℕ) (U := UR sig nD τ) (Lvl := ℕ) (c : Thread nD τ) (hstage0_7 ((cfg0.slots t 7).cast nbuf0_7)) y); iexact H7

/-- The call runs to its end, every array it reads kept, every semaphore back at nought. -/
theorem run0 :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_frame_forget_shared cfgs (dats m) 0 launch₀0 defs₀ Variants.none fgt0 m ρ main
    (fun c => (body0 m c).loose) (fun _ _ _ => rfl) (fun _ _ => rfl) (V m) (hmain m Variants.none) (fun _ _ => rfl) (fun _ _ => rfl) _ ?_
  rintro r ⟨h, hs⟩
  refine ⟨fun c => ⟨?_, ?_, ?_⟩, hs⟩
  · have h2 := (h c).1 2
    rw [RDat.ArrAt_in _ 2 rfl] at h2
    exact h2.trans (V_main_arg0 m c)
  · have h2 := (h c).1 5
    rw [RDat.ArrAt_in _ 5 rfl] at h2
    exact h2.trans (V_main_arg1 m c)
  · have h2 := (h c).1 6
    rw [RDat.ArrAt_in _ 6 rfl] at h2
    exact h2.trans (V_main_arg2 m c)

end Cert.Proof.Kernel

end
-- ==== Proof.ExpRun.lean ====
/-
  The experts kernel's body at one grid point: run once per outcome of its two tests (are the weights loaded, is the
  tile in use), from whatever blocks its staging buffers hold.
-/
module

public import proofs.«01_k».proof.Proof.Gen.Experts.Skeleton
public import proofs.«01_k».proof.Proof.Gen.Experts.Launch
public import Idealize.ShloMosaic.Lib.Pipeline.Quiescent
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic

@[expose] public section

set_option maxRecDepth 16384
set_option Elab.async false

noncomputable section

namespace Cert.Proof.Experts

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables, each tile's group, its block of rows, and how many tiles are in use; and the three scratch buffers. -/
abbrev tbG : Memref sig .tc .smem S68 .i32 := Memref.whole main_arg1
abbrev tbJ : Memref sig .tc .smem S68 .i32 := Memref.whole main_arg2
abbrev tbN : Memref sig .tc .smem S1 .i32 := Memref.whole main_arg3
abbrev scG : Memref sig .tc .vmem S4x1024x512 .bf16 := Memref.whole cc0_scratch0
abbrev scU : Memref sig .tc .vmem S4x1024x512 .bf16 := Memref.whole cc0_scratch1
abbrev scD : Memref sig .tc .vmem S4x512x1024 .bf16 := Memref.whole cc0_scratch2

/-- The tile's group, the group of the tile before it, and the count of tiles, as the body reads them. -/
abbrev groupW (i : grid0.Coords) (T0 : S68.Idx → Elt F .i32) : BitVec 32 :=
  tbG.view.readAt (Elt F) (Rect.unit (s := S68) (k0_off1 i) S1.size (k0_off1_inb i)).toLoadRect T0 (Shape.Idx.first (numel1_S1.symm ▸ Nat.one_pos))
abbrev groupBeforeW (i : grid0.Coords) (T0 : S68.Idx → Elt F .i32) : BitVec 32 :=
  tbG.view.readAt (Elt F) (Rect.unit (s := S68) (k0_off2 i) S1.size (k0_off2_inb i)).toLoadRect T0 (Shape.Idx.first (numel1_S1.symm ▸ Nat.one_pos))
abbrev countW (T2 : S1.Idx → Elt F .i32) : BitVec 32 :=
  tbN.view.readAt (Elt F) (Rect.unit (s := S1) ![0] S1.size inb_S1_S1_0).toLoadRect T2 (Shape.Idx.first (numel1_S1.symm ▸ Nat.one_pos))

/-- Whether the body loads the group's weights at this point, and whether the tile is in use. -/
abbrev Loads (i : grid0.Coords) (T0 : S68.Idx → Elt F .i32) : Prop :=
  Scalar.cmpi .ne (Scalar.extui (Scalar.ori (Scalar.cmpi .eq (BitVec.ofNat 32 (i 0).val) 0#32) (Scalar.cmpi .ne (groupW i T0) (groupBeforeW i T0)))) 0#32 = 1#1
abbrev InUse (i : grid0.Coords) (T2 : S1.Idx → Elt F .i32) : Prop := k0_cond2 i (countW T2) = 1#1
abbrev Unused (i : grid0.Coords) (T2 : S1.Idx → Elt F .i32) : Prop := k0_cond3 i (countW T2) = 1#1

section
variable (c : Dev nD) (i : grid0.Coords) (arg4 : Memref sig .tc .vmem S512x1152 .f32) (harg4 : arg4.IsWhole) (arg5 : Memref sig .tc .vmem S1x1x4x1024x512 .f32) (harg5 : arg5.IsWhole) (arg6 : Memref sig .tc .vmem S1x1x4x1024x512 .f32) (harg6 : arg6.IsWhole) (arg7 : Memref sig .tc .vmem S1x1x4x512x1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S512x1024 .f32) (harg10 : arg10.IsWhole)
  (T0 : S68.Idx → Elt F .i32) (T1 : S68.Idx → Elt F .i32) (T2 : S1.Idx → Elt F .i32)
  (x0 : S512x1152.Idx → Elt F .f32) (x1 : S1x1x4x1024x512.Idx → Elt F .f32) (x2 : S1x1x4x1024x512.Idx → Elt F .f32) (x3 : S1x1x4x512x1024.Idx → Elt F .f32) (x4 : S1024.Idx → Elt F .f32) (x5 : S1024.Idx → Elt F .f32)

/-- The inputs and the tables, as the body finds and leaves them. -/
abbrev Kept : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (arg8.view.loc (c : Thread nD τ) ↦[arg8.view.set]{fullShare} arg8.view.rep x4)
    ∗ (arg9.view.loc (c : Thread nD τ) ↦[arg9.view.set]{fullShare} arg9.view.rep x5)
    ∗ (tbG.view.loc (c : Thread nD τ) ↦{fullShare.right} T0)
    ∗ (tbJ.view.loc (c : Thread nD τ) ↦{fullShare.right} T1)
    ∗ (tbN.view.loc (c : Thread nD τ) ↦{fullShare.right} T2))

/-- The scratch buffers at the contents `a0`, `a1`, `a2`. -/
abbrev Scratch (a0 : Buf (Elt F) ((c : Thread nD τ).loc cc0_scratch0)) (a1 : Buf (Elt F) ((c : Thread nD τ).loc cc0_scratch1)) (a2 : Buf (Elt F) ((c : Thread nD τ).loc cc0_scratch2)) : sProp 𝕄 :=
  iprop((scG.view.loc (c : Thread nD τ) ↦{fullShare} a0) ∗ (scU.view.loc (c : Thread nD τ) ↦{fullShare} a1) ∗ (scD.view.loc (c : Thread nD τ) ↦{fullShare} a2))

/-- From the scratch at `a`, the body leaves the pieces `o` in the result's block and the scratch at `b`. -/
def Trip (a0 b0 : Buf (Elt F) ((c : Thread nD τ).loc cc0_scratch0)) (a1 b1 : Buf (Elt F) ((c : Thread nD τ).loc cc0_scratch1)) (a2 b2 : Buf (Elt F) ((c : Thread nD τ).loc cc0_scratch2))
    (o : List (View.Piece (Elt F) S512x1024 .f32)) : Prop :=
  ∀ K : PUnit → sProp 𝕄,
    iprop(Kept c arg4 arg5 arg6 arg7 arg8 arg9 T0 T1 T2 x0 x1 x2 x3 x4 x5
        ∗ (∃ d, owns (c : Thread nD τ) arg10 fullShare d)
        ∗ Scratch c a0 a1 a2
        ∗ (iprop(Kept c arg4 arg5 arg6 arg7 arg8 arg9 T0 T1 T2 x0 x1 x2 x3 x4 x5
            ∗ (∃ f, arg10.view.loc (c : Thread nD τ) ↦[arg10.view.set]{fullShare} arg10.view.writes (Elt F) f o)
            ∗ Scratch c b0 b1 b2) -∗ K ⟨⟩))
      ⊢ wp frame (wpE (defs₀ (F := F)) Variants.none c none) Set.univ (cc0_moe_experts i tbG (Memref.isWhole_whole _) tbJ (Memref.isWhole_whole _) tbN (Memref.isWhole_whole _) arg4 harg4 arg5 harg5 arg6 harg6 arg7 harg7 arg8 harg8 arg9 harg9 arg10 harg10 scG (Memref.isWhole_whole _) scU (Memref.isWhole_whole _) scD (Memref.isWhole_whole _)) K

set_option backward.proofsInPublic true in
set_option maxHeartbeats 8000000 in
/-- Weights loaded, tile in use. -/
noncomputable def runLoadUse (h1 : Loads i T0) (h2 : InUse i T2) (h3 : ¬Unused i T2) :
    Σ' (o : List (View.Piece (Elt F) S512x1024 .f32)) (b0 : Buf (Elt F) ((c : Thread nD τ).loc cc0_scratch0)) (b1 : Buf (Elt F) ((c : Thread nD τ).loc cc0_scratch1)),
      { b2 : Buf (Elt F) ((c : Thread nD τ).loc cc0_scratch2) // ∀ a0 a1 a2, Trip c i arg4 harg4 arg5 harg5 arg6 harg6 arg7 harg7 arg8 harg8 arg9 harg9 arg10 harg10 T0 T1 T2 x0 x1 x2 x3 x4 x5 a0 b0 a1 b1 a2 b2 o } :=
  ⟨_, _, _, _, fun a0 a1 a2 K => by
    unfold owns
    rw [cc0_moe_experts_eq_skeleton]; unfold cc0_moe_experts_skel
    iintro ⟨⟨H0, H1, H2, H3, H4, H5, HT0, HT1, HT2⟩, ⟨%d6, %f6, -, HO6⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbG.IsWhole := Memref.isWhole_whole _
    have hT1 : tbJ.IsWhole := Memref.isWhole_whole _
    have hT2 : tbN.IsWhole := Memref.isWhole_whole _
    sl_exec! (disch := first | exact h1 | exact h2 | exact h3)
    sl_step
    iapply Hk
    isplitl [H0 H1 H2 H3 H4 H5 HT0 HT1 HT2]
    · unfold Kept; iframe
    isplitl [HO6]
    · iexists _; iexact HO6
    isplitl [HS0]; · iexact HS0
    isplitl [HS1]; · iexact HS1
    iexact HS2⟩

set_option backward.proofsInPublic true in
set_option maxHeartbeats 8000000 in
/-- Weights loaded, tile not in use. -/
noncomputable def runLoadRest (h1 : Loads i T0) (h2 : ¬InUse i T2) (h3 : Unused i T2) :
    Σ' (o : List (View.Piece (Elt F) S512x1024 .f32)) (b0 : Buf (Elt F) ((c : Thread nD τ).loc cc0_scratch0)) (b1 : Buf (Elt F) ((c : Thread nD τ).loc cc0_scratch1)),
      { b2 : Buf (Elt F) ((c : Thread nD τ).loc cc0_scratch2) // ∀ a0 a1 a2, Trip c i arg4 harg4 arg5 harg5 arg6 harg6 arg7 harg7 arg8 harg8 arg9 harg9 arg10 harg10 T0 T1 T2 x0 x1 x2 x3 x4 x5 a0 b0 a1 b1 a2 b2 o } :=
  ⟨_, _, _, _, fun a0 a1 a2 K => by
    unfold owns
    rw [cc0_moe_experts_eq_skeleton]; unfold cc0_moe_experts_skel
    iintro ⟨⟨H0, H1, H2, H3, H4, H5, HT0, HT1, HT2⟩, ⟨%d6, %f6, -, HO6⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbG.IsWhole := Memref.isWhole_whole _
    have hT1 : tbJ.IsWhole := Memref.isWhole_whole _
    have hT2 : tbN.IsWhole := Memref.isWhole_whole _
    sl_exec! (disch := first | exact h1 | exact h2 | exact h3)
    sl_step
    iapply Hk
    isplitl [H0 H1 H2 H3 H4 H5 HT0 HT1 HT2]
    · unfold Kept; iframe
    isplitl [HO6]
    · iexists _; iexact HO6
    isplitl [HS0]; · iexact HS0
    isplitl [HS1]; · iexact HS1
    iexact HS2⟩

set_option backward.proofsInPublic true in
set_option maxHeartbeats 8000000 in
/-- Weights kept, tile in use. -/
noncomputable def runKeepUse (a0 : Buf (Elt F) ((c : Thread nD τ).loc cc0_scratch0)) (a1 : Buf (Elt F) ((c : Thread nD τ).loc cc0_scratch1)) (a2 : Buf (Elt F) ((c : Thread nD τ).loc cc0_scratch2)) (h1 : ¬Loads i T0) (h2 : InUse i T2) (h3 : ¬Unused i T2) :
    { o : List (View.Piece (Elt F) S512x1024 .f32) // Trip c i arg4 harg4 arg5 harg5 arg6 harg6 arg7 harg7 arg8 harg8 arg9 harg9 arg10 harg10 T0 T1 T2 x0 x1 x2 x3 x4 x5 a0 a0 a1 a1 a2 a2 o } :=
  ⟨_, fun K => by
    unfold owns
    rw [cc0_moe_experts_eq_skeleton]; unfold cc0_moe_experts_skel
    iintro ⟨⟨H0, H1, H2, H3, H4, H5, HT0, HT1, HT2⟩, ⟨%d6, %f6, -, HO6⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbG.IsWhole := Memref.isWhole_whole _
    have hT1 : tbJ.IsWhole := Memref.isWhole_whole _
    have hT2 : tbN.IsWhole := Memref.isWhole_whole _
    sl_exec! (disch := first | exact h1 | exact h2 | exact h3)
    sl_step
    iapply Hk
    isplitl [H0 H1 H2 H3 H4 H5 HT0 HT1 HT2]
    · unfold Kept; iframe
    isplitl [HO6]
    · iexists _; iexact HO6
    isplitl [HS0]; · iexact HS0
    isplitl [HS1]; · iexact HS1
    iexact HS2⟩

set_option backward.proofsInPublic true in
set_option maxHeartbeats 8000000 in
/-- Weights kept, tile not in use. -/
noncomputable def runKeepRest (a0 : Buf (Elt F) ((c : Thread nD τ).loc cc0_scratch0)) (a1 : Buf (Elt F) ((c : Thread nD τ).loc cc0_scratch1)) (a2 : Buf (Elt F) ((c : Thread nD τ).loc cc0_scratch2)) (h1 : ¬Loads i T0) (h2 : ¬InUse i T2) (h3 : Unused i T2) :
    { o : List (View.Piece (Elt F) S512x1024 .f32) // Trip c i arg4 harg4 arg5 harg5 arg6 harg6 arg7 harg7 arg8 harg8 arg9 harg9 arg10 harg10 T0 T1 T2 x0 x1 x2 x3 x4 x5 a0 a0 a1 a1 a2 a2 o } :=
  ⟨_, fun K => by
    unfold owns
    rw [cc0_moe_experts_eq_skeleton]; unfold cc0_moe_experts_skel
    iintro ⟨⟨H0, H1, H2, H3, H4, H5, HT0, HT1, HT2⟩, ⟨%d6, %f6, -, HO6⟩, ⟨HS0, HS1, HS2⟩, Hk⟩
    have hS0 : scG.IsWhole := Memref.isWhole_whole _
    have hS1 : scU.IsWhole := Memref.isWhole_whole _
    have hS2 : scD.IsWhole := Memref.isWhole_whole _
    have hT0 : tbG.IsWhole := Memref.isWhole_whole _
    have hT1 : tbJ.IsWhole := Memref.isWhole_whole _
    have hT2 : tbN.IsWhole := Memref.isWhole_whole _
    sl_exec! (disch := first | exact h1 | exact h2 | exact h3)
    sl_step
    iapply Hk
    isplitl [H0 H1 H2 H3 H4 H5 HT0 HT1 HT2]
    · unfold Kept; iframe
    isplitl [HO6]
    · iexists _; iexact HO6
    isplitl [HS0]; · iexact HS0
    isplitl [HS1]; · iexact HS1
    iexact HS2⟩

end

end Cert.Proof.Experts

end
-- ==== Proof.ExpVal.lean ====
/-
  What the experts kernel's body leaves, in closed form: the weights of a group rounded into the scratch, and the tile
  computed from its block, the scratch and the norm's scale and shift; and one statement of the body's run for both of
  its tests, from a scratch that holds the group's weights already whenever they are not loaded again.
-/
module

public import proofs.«01_k».proof.Proof.ExpRun
public import Idealize.ShloMosaic.Lib.WordCmp

@[expose] public section

set_option maxRecDepth 16384
set_option Elab.async false

noncomputable section

namespace Cert.Proof.Experts

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The gate weights of a group, rounded: the four experts one under another. -/
def wG (x : S1x1x4x1024x512.Idx → Elt F .f32) : S4x1024x512.Idx → Elt F .bf16 :=
  View.canon [⟨Rect.unit ![3, 0, 0] S1x1024x512.size inb_S4x1024x512_S1x1024x512_3_0_0, k0_pay12 (View.ld (Val := Elt F) x (Rect.unit ![0, 0, 3, 0, 0] S1x1x1x1024x512.size inb_S1x1x4x1024x512_S1x1x1x1024x512_0_0_3_0_0))⟩,
    ⟨Rect.unit ![2, 0, 0] S1x1024x512.size inb_S4x1024x512_S1x1024x512_2_0_0, k0_pay9 (View.ld (Val := Elt F) x (Rect.unit ![0, 0, 2, 0, 0] S1x1x1x1024x512.size inb_S1x1x4x1024x512_S1x1x1x1024x512_0_0_2_0_0))⟩,
    ⟨Rect.unit ![1, 0, 0] S1x1024x512.size inb_S4x1024x512_S1x1024x512_1_0_0, k0_pay6 (View.ld (Val := Elt F) x (Rect.unit ![0, 0, 1, 0, 0] S1x1x1x1024x512.size inb_S1x1x4x1024x512_S1x1x1x1024x512_0_0_1_0_0))⟩,
    ⟨Rect.unit ![0, 0, 0] S1x1024x512.size inb_S4x1024x512_S1x1024x512_0_0_0, k0_pay3 (View.ld (Val := Elt F) x (Rect.unit ![0, 0, 0, 0, 0] S1x1x1x1024x512.size inb_S1x1x4x1024x512_S1x1x1x1024x512_0_0_0_0_0))⟩]

/-- The up weights of a group, rounded. -/
def wU (x : S1x1x4x1024x512.Idx → Elt F .f32) : S4x1024x512.Idx → Elt F .bf16 :=
  View.canon [⟨Rect.unit ![3, 0, 0] S1x1024x512.size inb_S4x1024x512_S1x1024x512_3_0_0, k0_pay13 (View.ld (Val := Elt F) x (Rect.unit ![0, 0, 3, 0, 0] S1x1x1x1024x512.size inb_S1x1x4x1024x512_S1x1x1x1024x512_0_0_3_0_0))⟩,
    ⟨Rect.unit ![2, 0, 0] S1x1024x512.size inb_S4x1024x512_S1x1024x512_2_0_0, k0_pay10 (View.ld (Val := Elt F) x (Rect.unit ![0, 0, 2, 0, 0] S1x1x1x1024x512.size inb_S1x1x4x1024x512_S1x1x1x1024x512_0_0_2_0_0))⟩,
    ⟨Rect.unit ![1, 0, 0] S1x1024x512.size inb_S4x1024x512_S1x1024x512_1_0_0, k0_pay7 (View.ld (Val := Elt F) x (Rect.unit ![0, 0, 1, 0, 0] S1x1x1x1024x512.size inb_S1x1x4x1024x512_S1x1x1x1024x512_0_0_1_0_0))⟩,
    ⟨Rect.unit ![0, 0, 0] S1x1024x512.size inb_S4x1024x512_S1x1024x512_0_0_0, k0_pay4 (View.ld (Val := Elt F) x (Rect.unit ![0, 0, 0, 0, 0] S1x1x1x1024x512.size inb_S1x1x4x1024x512_S1x1x1x1024x512_0_0_0_0_0))⟩]

/-- The down weights of a group, rounded. -/
def wD (x : S1x1x4x512x1024.Idx → Elt F .f32) : S4x512x1024.Idx → Elt F .bf16 :=
  View.canon [⟨Rect.unit ![3, 0, 0] S1x512x1024.size inb_S4x512x1024_S1x512x1024_3_0_0, k0_pay14 (View.ld (Val := Elt F) x (Rect.unit ![0, 0, 3, 0, 0] S1x1x1x512x1024.size inb_S1x1x4x512x1024_S1x1x1x512x1024_0_0_3_0_0))⟩,
    ⟨Rect.unit ![2, 0, 0] S1x512x1024.size inb_S4x512x1024_S1x512x1024_2_0_0, k0_pay11 (View.ld (Val := Elt F) x (Rect.unit ![0, 0, 2, 0, 0] S1x1x1x512x1024.size inb_S1x1x4x512x1024_S1x1x1x512x1024_0_0_2_0_0))⟩,
    ⟨Rect.unit ![1, 0, 0] S1x512x1024.size inb_S4x512x1024_S1x512x1024_1_0_0, k0_pay8 (View.ld (Val := Elt F) x (Rect.unit ![0, 0, 1, 0, 0] S1x1x1x512x1024.size inb_S1x1x4x512x1024_S1x1x1x512x1024_0_0_1_0_0))⟩,
    ⟨Rect.unit ![0, 0, 0] S1x512x1024.size inb_S4x512x1024_S1x512x1024_0_0_0, k0_pay5 (View.ld (Val := Elt F) x (Rect.unit ![0, 0, 0, 0, 0] S1x1x1x512x1024.size inb_S1x1x4x512x1024_S1x1x1x512x1024_0_0_0_0_0))⟩]

/-- One expert's rows of the scratch. -/
abbrev rowA (e : ℕ) (inb : ∀ a, (![e, 0, 0] : Fin 3 → ℕ) a + S1x1024x512.size a ≤ S4x1024x512.size a) (g : S4x1024x512.Idx → Elt F .bf16) : Vec F S1x1024x512 .bf16 :=
  View.ld (Val := Elt F) g (Rect.unit ![e, 0, 0] S1x1024x512.size inb)
abbrev rowD (e : ℕ) (inb : ∀ a, (![e, 0, 0] : Fin 3 → ℕ) a + S1x512x1024.size a ≤ S4x512x1024.size a) (g : S4x512x1024.Idx → Elt F .bf16) : Vec F S1x512x1024 .bf16 :=
  View.ld (Val := Elt F) g (Rect.unit ![e, 0, 0] S1x512x1024.size inb)

/-- The rows of a tile, and their sorting columns. -/
abbrev colsX (x0 : S512x1152.Idx → Elt F .f32) : Vec F S512x1024 .f32 :=
  View.ld (Val := Elt F) x0 (Rect.unit ![0, 0] S512x1024.size inb_S512x1152_S512x1024_0_0)
abbrev colsH (x0 : S512x1152.Idx → Elt F .f32) : Vec F S512x128 .f32 :=
  View.ld (Val := Elt F) x0 (Rect.unit ![0, 1024] S512x128.size inb_S512x1152_S512x128_0_1024)

/-- The tile after its first two experts. -/
def twoUse (x0 : S512x1152.Idx → Elt F .f32) (g u : S4x1024x512.Idx → Elt F .bf16) (d : S4x512x1024.Idx → Elt F .bf16) : FVec F S512x1024 .f32 :=
  k0_pay19 (colsH x0) (k0_pay15 (colsX x0)) (k0_pay16 (colsX x0) (colsH x0) (rowA 0 inb_S4x1024x512_S1x1024x512_0_0_0 g) (rowA 0 inb_S4x1024x512_S1x1024x512_0_0_0 u) (rowD 0 inb_S4x512x1024_S1x512x1024_0_0_0 d))
    (k0_pay17 (colsX x0) (rowA 1 inb_S4x1024x512_S1x1024x512_1_0_0 g)) (k0_pay18 (rowA 1 inb_S4x1024x512_S1x1024x512_1_0_0 u)) (constant S512x512 .f32 0x00000000#32) (rowD 1 inb_S4x512x1024_S1x512x1024_1_0_0 d)

/-- The tile in use. -/
def outUse (x0 : S512x1152.Idx → Elt F .f32) (g u : S4x1024x512.Idx → Elt F .bf16) (d : S4x512x1024.Idx → Elt F .bf16) (x4 x5 : S1024.Idx → Elt F .f32) : FVec F S512x1024 .f32 :=
  k0_pay1 (View.ld (Val := Elt F) x4 (Rect.unit ![0] S1024.size inb_S1024_S1024_0)) (View.ld (Val := Elt F) x5 (Rect.unit ![0] S1024.size inb_S1024_S1024_0))
    (k0_pay22 (colsX x0) (colsH x0) (k0_pay15 (colsX x0)) (twoUse x0 g u d) (k0_pay20 (colsH x0) (k0_pay15 (colsX x0)) (rowA 2 inb_S4x1024x512_S1x1024x512_2_0_0 g) (rowA 2 inb_S4x1024x512_S1x1024x512_2_0_0 u)) (k0_pay21 (rowD 2 inb_S4x512x1024_S1x512x1024_2_0_0 d)) (rowA 3 inb_S4x1024x512_S1x1024x512_3_0_0 g) (rowA 3 inb_S4x1024x512_S1x1024x512_3_0_0 u) (rowD 3 inb_S4x512x1024_S1x512x1024_3_0_0 d))
    (k0_pay23 (colsX x0) (colsH x0) (k0_pay15 (colsX x0)) (twoUse x0 g u d) (k0_pay20 (colsH x0) (k0_pay15 (colsX x0)) (rowA 2 inb_S4x1024x512_S1x1024x512_2_0_0 g) (rowA 2 inb_S4x1024x512_S1x1024x512_2_0_0 u)) (k0_pay21 (rowD 2 inb_S4x512x1024_S1x512x1024_2_0_0 d)) (rowA 3 inb_S4x1024x512_S1x1024x512_3_0_0 g) (rowA 3 inb_S4x1024x512_S1x1024x512_3_0_0 u) (rowD 3 inb_S4x512x1024_S1x512x1024_3_0_0 d))

/-- The whole block as one piece. -/
abbrev wholeOut (o : FVec F S512x1024 .f32) : List (View.Piece (Elt F) S512x1024 .f32) :=
  [⟨Rect.unit ![0, 0] S512x1024.size inb_S512x1024_S512x1024_0_0, o⟩]

theorem readAt_rep_ld {sp : Space} {s : Shape} {e : EltTy} (v : Memref sig .tc sp s e) (x : s.Idx → Elt F e) (r : Rect s) :
    v.view.readAt (Elt F) r.toLoadRect (v.view.rep x) = View.ld (Val := Elt F) x r := by
  rw [View.readAt_eq_ld, View.read_rep]

theorem readCov_ld {sp : Space} {s : Shape} {e : EltTy} (v : View sig .tc sp s e) (L : List (View.Piece (Elt F) s e)) (r : Rect s) :
    v.readCov L r.toLoadRect = View.ld (Val := Elt F) (View.canon L) r := View.readCov_eq_canon' _ _ _

section
variable (c : Dev nD) (i : grid0.Coords) (arg4 : Memref sig .tc .vmem S512x1152 .f32) (harg4 : arg4.IsWhole) (arg5 : Memref sig .tc .vmem S1x1x4x1024x512 .f32) (harg5 : arg5.IsWhole) (arg6 : Memref sig .tc .vmem S1x1x4x1024x512 .f32) (harg6 : arg6.IsWhole) (arg7 : Memref sig .tc .vmem S1x1x4x512x1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S512x1024 .f32) (harg10 : arg10.IsWhole)
  (T0 : S68.Idx → Elt F .i32) (T1 : S68.Idx → Elt F .i32) (T2 : S1.Idx → Elt F .i32)
  (x0 : S512x1152.Idx → Elt F .f32) (x1 : S1x1x4x1024x512.Idx → Elt F .f32) (x2 : S1x1x4x1024x512.Idx → Elt F .f32) (x3 : S1x1x4x512x1024.Idx → Elt F .f32) (x4 : S1024.Idx → Elt F .f32) (x5 : S1024.Idx → Elt F .f32)
  (a0 : Buf (Elt F) ((c : Thread nD τ).loc cc0_scratch0)) (a1 : Buf (Elt F) ((c : Thread nD τ).loc cc0_scratch1)) (a2 : Buf (Elt F) ((c : Thread nD τ).loc cc0_scratch2))

theorem runLoadUse_scG (h1 : Loads i T0) (h2 : InUse i T2) (h3 : ¬Unused i T2) : scG.view.read (Elt F) (runLoadUse c i arg4 harg4 arg5 harg5 arg6 harg6 arg7 harg7 arg8 harg8 arg9 harg9 arg10 harg10 T0 T1 T2 x0 x1 x2 x3 x4 x5 h1 h2 h3).2.1 = wG x1 := by
  delta runLoadUse; dsimp only
  rw [View.read_writes_junk_eq_canon]; delta runLoadUse.sl.HS0_4 wG; simp only [readAt_rep_ld]

theorem runLoadUse_scU (h1 : Loads i T0) (h2 : InUse i T2) (h3 : ¬Unused i T2) : scU.view.read (Elt F) (runLoadUse c i arg4 harg4 arg5 harg5 arg6 harg6 arg7 harg7 arg8 harg8 arg9 harg9 arg10 harg10 T0 T1 T2 x0 x1 x2 x3 x4 x5 h1 h2 h3).2.2.1 = wU x2 := by
  delta runLoadUse; dsimp only
  rw [View.read_writes_junk_eq_canon]; delta runLoadUse.sl.HS1_4 wU; simp only [readAt_rep_ld]

theorem runLoadUse_scD (h1 : Loads i T0) (h2 : InUse i T2) (h3 : ¬Unused i T2) : scD.view.read (Elt F) (runLoadUse c i arg4 harg4 arg5 harg5 arg6 harg6 arg7 harg7 arg8 harg8 arg9 harg9 arg10 harg10 T0 T1 T2 x0 x1 x2 x3 x4 x5 h1 h2 h3).2.2.2.1 = wD x3 := by
  delta runLoadUse; dsimp only
  rw [View.read_writes_junk_eq_canon]; delta runLoadUse.sl.HS2_4 wD; simp only [readAt_rep_ld]

theorem runLoadRest_scG (h1 : Loads i T0) (h2 : ¬InUse i T2) (h3 : Unused i T2) : scG.view.read (Elt F) (runLoadRest c i arg4 harg4 arg5 harg5 arg6 harg6 arg7 harg7 arg8 harg8 arg9 harg9 arg10 harg10 T0 T1 T2 x0 x1 x2 x3 x4 x5 h1 h2 h3).2.1 = wG x1 := by
  delta runLoadRest; dsimp only
  rw [View.read_writes_junk_eq_canon]; delta runLoadRest.sl.HS0_4 wG; simp only [readAt_rep_ld]

theorem runLoadRest_scU (h1 : Loads i T0) (h2 : ¬InUse i T2) (h3 : Unused i T2) : scU.view.read (Elt F) (runLoadRest c i arg4 harg4 arg5 harg5 arg6 harg6 arg7 harg7 arg8 harg8 arg9 harg9 arg10 harg10 T0 T1 T2 x0 x1 x2 x3 x4 x5 h1 h2 h3).2.2.1 = wU x2 := by
  delta runLoadRest; dsimp only
  rw [View.read_writes_junk_eq_canon]; delta runLoadRest.sl.HS1_4 wU; simp only [readAt_rep_ld]

theorem runLoadRest_scD (h1 : Loads i T0) (h2 : ¬InUse i T2) (h3 : Unused i T2) : scD.view.read (Elt F) (runLoadRest c i arg4 harg4 arg5 harg5 arg6 harg6 arg7 harg7 arg8 harg8 arg9 harg9 arg10 harg10 T0 T1 T2 x0 x1 x2 x3 x4 x5 h1 h2 h3).2.2.2.1 = wD x3 := by
  delta runLoadRest; dsimp only
  rw [View.read_writes_junk_eq_canon]; delta runLoadRest.sl.HS2_4 wD; simp only [readAt_rep_ld]

theorem runLoadUse_out (h1 : Loads i T0) (h2 : InUse i T2) (h3 : ¬Unused i T2) :
    (runLoadUse c i arg4 harg4 arg5 harg5 arg6 harg6 arg7 harg7 arg8 harg8 arg9 harg9 arg10 harg10 T0 T1 T2 x0 x1 x2 x3 x4 x5 h1 h2 h3).1 = wholeOut (outUse x0 (wG x1) (wU x2) (wD x3) x4 x5) := by
  show runLoadUse.sl.HO6_1 arg4 arg5 arg6 arg7 arg8 arg9 x0 x1 x2 x3 x4 x5 = _
  delta runLoadUse.sl.HO6_1 runLoadUse.sl.r_3 runLoadUse.sl.r_4 runLoadUse.sl.r_5 runLoadUse.sl.r_6 runLoadUse.sl.r_7 runLoadUse.sl.r_8 runLoadUse.sl.r_9 runLoadUse.sl.r_10 runLoadUse.sl.r_11 runLoadUse.sl.r_12 runLoadUse.sl.r_13 runLoadUse.sl.r_14 runLoadUse.sl.r_15 runLoadUse.sl.cst_29 runLoadUse.sl.v23 runLoadUse.sl.v26 runLoadUse.sl.v42 runLoadUse.sl.v46 runLoadUse.sl.v49 runLoadUse.sl.v65 runLoadUse.sl.v69 runLoadUse.sl.v72 runLoadUse.sl.v88 runLoadUse.sl.v92 runLoadUse.sl.v95 runLoadUse.sl.v111 runLoadUse.sl.HS0_4 runLoadUse.sl.HS1_4 runLoadUse.sl.HS2_4 wholeOut outUse twoUse rowA rowD colsX colsH wG wU wD
  simp only [readCov_ld, readAt_rep_ld]

theorem runKeepUse_out (h1 : ¬Loads i T0) (h2 : InUse i T2) (h3 : ¬Unused i T2) :
    (runKeepUse c i arg4 harg4 arg5 harg5 arg6 harg6 arg7 harg7 arg8 harg8 arg9 harg9 arg10 harg10 T0 T1 T2 x0 x1 x2 x3 x4 x5 a0 a1 a2 h1 h2 h3).1 = wholeOut (outUse x0 (scG.view.read (Elt F) a0) (scU.view.read (Elt F) a1) (scD.view.read (Elt F) a2) x4 x5) := by
  show runKeepUse.sl.HO6_1 c arg4 arg8 arg9 x0 x4 x5 a0 a1 a2 = _
  delta runKeepUse.sl.HO6_1 runKeepUse.sl.r_3 runKeepUse.sl.r_4 runKeepUse.sl.r_5 runKeepUse.sl.r_6 runKeepUse.sl.r_7 runKeepUse.sl.r_8 runKeepUse.sl.r_9 runKeepUse.sl.r_10 runKeepUse.sl.r_11 runKeepUse.sl.r_12 runKeepUse.sl.r_13 runKeepUse.sl.r_14 runKeepUse.sl.r_15 runKeepUse.sl.cst_29 wholeOut outUse twoUse rowA rowD colsX colsH
  simp only [readAt_rep_ld, View.readAt_eq_ld (View.whole cc0_scratch0), View.readAt_eq_ld (View.whole cc0_scratch1), View.readAt_eq_ld (View.whole cc0_scratch2)]
  rfl

theorem runLoadRest_out (h1 : Loads i T0) (h2 : ¬InUse i T2) (h3 : Unused i T2) :
    (runLoadRest c i arg4 harg4 arg5 harg5 arg6 harg6 arg7 harg7 arg8 harg8 arg9 harg9 arg10 harg10 T0 T1 T2 x0 x1 x2 x3 x4 x5 h1 h2 h3).1 = wholeOut k0_pay2 := rfl

theorem runKeepRest_out (h1 : ¬Loads i T0) (h2 : ¬InUse i T2) (h3 : Unused i T2) :
    (runKeepRest c i arg4 harg4 arg5 harg5 arg6 harg6 arg7 harg7 arg8 harg8 arg9 harg9 arg10 harg10 T0 T1 T2 x0 x1 x2 x3 x4 x5 a0 a1 a2 h1 h2 h3).1 = wholeOut k0_pay2 := rfl

omit [FloatOps F] in
/-- The body's two tests of the count are each other's contraries. -/
theorem unused_iff : Unused i T2 ↔ ¬InUse i T2 := by
  generalize hn : countW T2 = n
  unfold Unused InUse; rw [hn]; unfold k0_cond3 k0_cond2
  generalize BitVec.ofNat 32 (i 0).val = a
  show IntOp.cmpi .ne ((IntOp.cmpi .sge a n).setWidth 32) 0#32 = 1#1 ↔ ¬IntOp.cmpi .ne ((IntOp.cmpi .slt a n).setWidth 32) 0#32 = 1#1
  rw [WordCmp.cmpi_sge_eq, WordCmp.cmpi_slt_eq]
  by_cases h : a.toInt < n.toInt
  · rw [decide_eq_true h, decide_eq_false (not_le.mpr h)]; decide
  · rw [decide_eq_false h, decide_eq_true (not_lt.mp h)]; decide

/-- What the body leaves in the result's block. -/
def outAt : FVec F S512x1024 .f32 :=
  if InUse i T2 then outUse x0 (wG x1) (wU x2) (wD x3) x4 x5 else k0_pay2

/-- The body's run from a scratch that holds the group's weights already, when it does not load them. -/
theorem trip (hk : ¬Loads i T0 → scG.view.read (Elt F) a0 = wG x1 ∧ scU.view.read (Elt F) a1 = wU x2 ∧ scD.view.read (Elt F) a2 = wD x3) :
    ∃ b0 b1 b2, (scG.view.read (Elt F) b0 = wG x1 ∧ scU.view.read (Elt F) b1 = wU x2 ∧ scD.view.read (Elt F) b2 = wD x3)
      ∧ Trip c i arg4 harg4 arg5 harg5 arg6 harg6 arg7 harg7 arg8 harg8 arg9 harg9 arg10 harg10 T0 T1 T2 x0 x1 x2 x3 x4 x5 a0 b0 a1 b1 a2 b2 (wholeOut (outAt i T2 x0 x1 x2 x3 x4 x5)) := by
  by_cases h1 : Loads i T0 <;> by_cases h2 : InUse i T2
  · have h3 : ¬Unused i T2 := fun h => (unused_iff i T2).mp h h2
    refine ⟨_, _, _, ⟨runLoadUse_scG c i arg4 harg4 arg5 harg5 arg6 harg6 arg7 harg7 arg8 harg8 arg9 harg9 arg10 harg10 T0 T1 T2 x0 x1 x2 x3 x4 x5 h1 h2 h3, runLoadUse_scU c i arg4 harg4 arg5 harg5 arg6 harg6 arg7 harg7 arg8 harg8 arg9 harg9 arg10 harg10 T0 T1 T2 x0 x1 x2 x3 x4 x5 h1 h2 h3, runLoadUse_scD c i arg4 harg4 arg5 harg5 arg6 harg6 arg7 harg7 arg8 harg8 arg9 harg9 arg10 harg10 T0 T1 T2 x0 x1 x2 x3 x4 x5 h1 h2 h3⟩, ?_⟩
    rw [outAt, if_pos h2, ← runLoadUse_out c i arg4 harg4 arg5 harg5 arg6 harg6 arg7 harg7 arg8 harg8 arg9 harg9 arg10 harg10 T0 T1 T2 x0 x1 x2 x3 x4 x5 h1 h2 h3]
    exact (runLoadUse c i arg4 harg4 arg5 harg5 arg6 harg6 arg7 harg7 arg8 harg8 arg9 harg9 arg10 harg10 T0 T1 T2 x0 x1 x2 x3 x4 x5 h1 h2 h3).2.2.2.2 a0 a1 a2
  · have h3 : Unused i T2 := (unused_iff i T2).mpr h2
    refine ⟨_, _, _, ⟨runLoadRest_scG c i arg4 harg4 arg5 harg5 arg6 harg6 arg7 harg7 arg8 harg8 arg9 harg9 arg10 harg10 T0 T1 T2 x0 x1 x2 x3 x4 x5 h1 h2 h3, runLoadRest_scU c i arg4 harg4 arg5 harg5 arg6 harg6 arg7 harg7 arg8 harg8 arg9 harg9 arg10 harg10 T0 T1 T2 x0 x1 x2 x3 x4 x5 h1 h2 h3, runLoadRest_scD c i arg4 harg4 arg5 harg5 arg6 harg6 arg7 harg7 arg8 harg8 arg9 harg9 arg10 harg10 T0 T1 T2 x0 x1 x2 x3 x4 x5 h1 h2 h3⟩, ?_⟩
    rw [outAt, if_neg h2, ← runLoadRest_out c i arg4 harg4 arg5 harg5 arg6 harg6 arg7 harg7 arg8 harg8 arg9 harg9 arg10 harg10 T0 T1 T2 x0 x1 x2 x3 x4 x5 h1 h2 h3]
    exact (runLoadRest c i arg4 harg4 arg5 harg5 arg6 harg6 arg7 harg7 arg8 harg8 arg9 harg9 arg10 harg10 T0 T1 T2 x0 x1 x2 x3 x4 x5 h1 h2 h3).2.2.2.2 a0 a1 a2
  · have h3 : ¬Unused i T2 := fun h => (unused_iff i T2).mp h h2
    obtain ⟨hg, hu, hd⟩ := hk h1
    refine ⟨a0, a1, a2, ⟨hg, hu, hd⟩, ?_⟩
    rw [outAt, if_pos h2, ← hg, ← hu, ← hd, ← runKeepUse_out c i arg4 harg4 arg5 harg5 arg6 harg6 arg7 harg7 arg8 harg8 arg9 harg9 arg10 harg10 T0 T1 T2 x0 x1 x2 x3 x4 x5 a0 a1 a2 h1 h2 h3]
    exact (runKeepUse c i arg4 harg4 arg5 harg5 arg6 harg6 arg7 harg7 arg8 harg8 arg9 harg9 arg10 harg10 T0 T1 T2 x0 x1 x2 x3 x4 x5 a0 a1 a2 h1 h2 h3).2
  · have h3 : Unused i T2 := (unused_iff i T2).mpr h2
    refine ⟨a0, a1, a2, hk h1, ?_⟩
    rw [outAt, if_neg h2, ← runKeepRest_out c i arg4 harg4 arg5 harg5 arg6 harg6 arg7 harg7 arg8 harg8 arg9 harg9 arg10 harg10 T0 T1 T2 x0 x1 x2 x3 x4 x5 a0 a1 a2 h1 h2 h3]
    exact (runKeepRest c i arg4 harg4 arg5 harg5 arg6 harg6 arg7 harg7 arg8 harg8 arg9 harg9 arg10 harg10 T0 T1 T2 x0 x1 x2 x3 x4 x5 a0 a1 a2 h1 h2 h3).2

end

end Cert.Proof.Experts

end
-- ==== Proof.ExpFrame.lean ====
/-
  The experts kernel's pipeline: what its windows and its scratch hold at each grid point, whatever its tables say, and
  the run of the whole call.
-/
module

public import proofs.«01_k».proof.Proof.ExpVal
public import Idealize.ShloMosaic.Lib.Pipeline.Kit
public import Idealize.ShloMosaic.Adequacy
public import Idealize.ShloMosaic.Init

@[expose] public section

set_option maxRecDepth 16384
set_option Elab.async false

noncomputable section

namespace Cert.Proof.Experts

open Cert.Experts Cert.Experts.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The tables' words at a point -/

/-- The offset of the group before, in closed form. -/
theorem off2_val : ∀ i : grid0.Coords, k0_off2 i = ![(i 0).val - 1] := by decide +kernel

/-- An entry of a table of 68 words. -/
def entry (n : Nat) (h : n < 68) : S68.Idx := fun a => match a with | ⟨0, _⟩ => ⟨n, h⟩ | ⟨_ + 1, h'⟩ => absurd h' (Nat.not_lt.2 (Nat.le_add_left _ _))

theorem coord_lt (i : grid0.Coords) : (i 0).val < 68 := (i 0).isLt
theorem coord_pred_lt (i : grid0.Coords) : (i 0).val - 1 < 68 := lt_of_le_of_lt (Nat.sub_le _ _) (coord_lt i)

theorem at_entry (T : S68.Idx → Elt F .i32) (o : Fin 1 → Nat) (h : ∀ a, o a + S1.size a ≤ S68.size a) (n : Nat) (hn : n < 68) (e : o = ![n]) :
    T ((Rect.unit (s := S68) o S1.size h).emb (Shape.Idx.first (numel1_S1.symm ▸ Nat.one_pos))) = T (entry n hn) := by
  subst e; refine congrArg T (funext fun a => Fin.ext ?_); fin_cases a; rfl

theorem groupW_eq (i : grid0.Coords) (T0 : S68.Idx → Elt F .i32) : groupW i T0 = T0 (entry (i 0).val (coord_lt i)) :=
  at_entry T0 (k0_off1 i) (k0_off1_inb i) _ (coord_lt i) (k0_off1_eq i)
theorem groupBeforeW_eq (i : grid0.Coords) (T0 : S68.Idx → Elt F .i32) : groupBeforeW i T0 = T0 (entry ((i 0).val - 1) (coord_pred_lt i)) :=
  at_entry T0 (k0_off2 i) (k0_off2_inb i) _ (coord_pred_lt i) (off2_val i)

/-- A point where the body does not load the weights is not the first, and its tile's group is the one before's. -/
theorem of_not_loads (i : grid0.Coords) (T0 : S68.Idx → Elt F .i32) (h : ¬Loads i T0) :
    (i 0).val ≠ 0 ∧ T0 (entry (i 0).val (coord_lt i)) = T0 (entry ((i 0).val - 1) (coord_pred_lt i)) := by
  rw [← groupW_eq i T0, ← groupBeforeW_eq i T0]
  generalize hg : groupW i T0 = g
  generalize hb : groupBeforeW i T0 = b
  have h' : ¬IntOp.cmpi .ne (((IntOp.cmpi .eq (BitVec.ofNat 32 (i 0).val) 0#32) ||| (IntOp.cmpi .ne g b)).setWidth 32) 0#32 = 1#1 := by
    rw [← hg, ← hb]; exact h
  have hi : (i 0).val < 68 := (i 0).isLt
  constructor
  · intro e; rw [e] at h'
    refine h' ?_
    generalize IntOp.cmpi .ne g b = w
    revert w; decide
  · by_contra hne
    refine h' ?_
    rw [show IntOp.cmpi .ne g b = 1#1 from (by show BitVec.ofBool (g != b) = 1#1; rw [bne_iff_ne.mpr hne]; rfl)]
    generalize IntOp.cmpi .eq (BitVec.ofNat 32 (i 0).val) 0#32 = w
    revert w; decide

variable (a : (pcfg0 (F := F)).Adm) (m : (ℓ : Loc nD τ sig) → Buf (Elt F) ℓ) (ρ : Dev nD → PrngReg)

abbrev cfgA : Pipeline.Cfg sig Λ₀ := cfg0 a
abbrev pcs : Fin 1 → Pipeline.Cfg sig Λ₀ := Pipeline.pin (pcfgs (F := F)) fun _ => a

/-- The tables the pipeline runs at. -/
abbrev tG : S68.Idx → Elt F .i32 := a.1 0
abbrev tJ : S68.Idx → Elt F .i32 := a.1 1
abbrev tN : S1.Idx → Elt F .i32 := a.1 2

/-- Point `t`'s coordinates. -/
abbrev crd (t : Fin (cfgA a).N) : (cfgA a).grid.Coords := (cfgA a).grid.coords t

theorem crd_val (t : Fin (cfgA a).N) : ((crd a t) 0).val = t.val := by
  have h : t.val < 68 := lt_of_lt_of_eq t.isLt N_0
  have e := Pipeline.Grid.coords_val (G := grid0) t 0 (S := 1) (B := 68) (by decide) rfl
  rw [Nat.div_one, Nat.mod_eq_of_lt h] at e; exact e

/-! ## The windows' staging memrefs and blocks -/

abbrev ms_0 (t : Fin (cfgA a).N) : Memref sig .tc .vmem S512x1152 .f32 := spec0_0.stage ((cfgA a).slots t (0 : Fin 7))
abbrev hs_0 (t : Fin (cfgA a).N) : (ms_0 a t).IsWhole := hstage0_0 (((cfgA a).slots t (0 : Fin 7)).cast nbuf0_0)
abbrev ms_1 (t : Fin (cfgA a).N) : Memref sig .tc .vmem S1x1x4x1024x512 .f32 := spec0_1.stage ((cfgA a).slots t (1 : Fin 7))
abbrev hs_1 (t : Fin (cfgA a).N) : (ms_1 a t).IsWhole := hstage0_1 (((cfgA a).slots t (1 : Fin 7)).cast nbuf0_1)
abbrev ms_2 (t : Fin (cfgA a).N) : Memref sig .tc .vmem S1x1x4x1024x512 .f32 := spec0_2.stage ((cfgA a).slots t (2 : Fin 7))
abbrev hs_2 (t : Fin (cfgA a).N) : (ms_2 a t).IsWhole := hstage0_2 (((cfgA a).slots t (2 : Fin 7)).cast nbuf0_2)
abbrev ms_3 (t : Fin (cfgA a).N) : Memref sig .tc .vmem S1x1x4x512x1024 .f32 := spec0_3.stage ((cfgA a).slots t (3 : Fin 7))
abbrev hs_3 (t : Fin (cfgA a).N) : (ms_3 a t).IsWhole := hstage0_3 (((cfgA a).slots t (3 : Fin 7)).cast nbuf0_3)
abbrev ms_4 (t : Fin (cfgA a).N) : Memref sig .tc .vmem S1024 .f32 := spec0_4.stage ((cfgA a).slots t (4 : Fin 7))
abbrev hs_4 (t : Fin (cfgA a).N) : (ms_4 a t).IsWhole := hstage0_4 (((cfgA a).slots t (4 : Fin 7)).cast nbuf0_4)
abbrev ms_5 (t : Fin (cfgA a).N) : Memref sig .tc .vmem S1024 .f32 := spec0_5.stage ((cfgA a).slots t (5 : Fin 7))
abbrev hs_5 (t : Fin (cfgA a).N) : (ms_5 a t).IsWhole := hstage0_5 (((cfgA a).slots t (5 : Fin 7)).cast nbuf0_5)
abbrev ms_6 (t : Fin (cfgA a).N) : Memref sig .tc .vmem S512x1024 .f32 := spec0_6.stage ((cfgA a).slots t (6 : Fin 7))
abbrev hs_6 (t : Fin (cfgA a).N) : (ms_6 a t).IsWhole := hstage0_6 (((cfgA a).slots t (6 : Fin 7)).cast nbuf0_6)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The inputs' blocks at their shapes. -/
abbrev in_0 (c : Dev nD) (t : Fin (cfgA a).N) : S512x1152.Idx → Elt F .f32 := iblk a m c (0 : Fin 7) t
abbrev in_1 (c : Dev nD) (t : Fin (cfgA a).N) : S1x1x4x1024x512.Idx → Elt F .f32 := iblk a m c (1 : Fin 7) t
abbrev in_2 (c : Dev nD) (t : Fin (cfgA a).N) : S1x1x4x1024x512.Idx → Elt F .f32 := iblk a m c (2 : Fin 7) t
abbrev in_3 (c : Dev nD) (t : Fin (cfgA a).N) : S1x1x4x512x1024.Idx → Elt F .f32 := iblk a m c (3 : Fin 7) t
abbrev in_4 (c : Dev nD) (t : Fin (cfgA a).N) : S1024.Idx → Elt F .f32 := iblk a m c (4 : Fin 7) t
abbrev in_5 (c : Dev nD) (t : Fin (cfgA a).N) : S1024.Idx → Elt F .f32 := iblk a m c (5 : Fin 7) t

/-- What point `t` leaves in the result's block. -/
def oblk (c : Dev nD) (t : Fin (cfgA a).N) : S512x1024.Idx → Elt F .f32 :=
  outAt (crd a t) (tN a) (in_0 a m c t) (in_1 a m c t) (in_2 a m c t) (in_3 a m c t) (in_4 a m c t) (in_5 a m c t)

/-- The scratch holds the weights of the group of the point before `n`, once there is one. -/
def HoldsAt (c : Dev nD) (n : Nat) (a0 : Buf (Elt F) ((c : Thread nD τ).loc cc0_scratch0)) (a1 : Buf (Elt F) ((c : Thread nD τ).loc cc0_scratch1)) (a2 : Buf (Elt F) ((c : Thread nD τ).loc cc0_scratch2)) : Prop :=
  ∀ t : Fin (cfgA a).N, n = t.val + 1 →
    scG.view.read (Elt F) a0 = wG (in_1 a m c t) ∧ scU.view.read (Elt F) a1 = wU (in_2 a m c t) ∧ scD.view.read (Elt F) a2 = wD (in_3 a m c t)

/-- What is held between the points: the scratch, and a half of each table. -/
def Phi (c : Dev nD) (n : Nat) : sProp 𝕄 :=
  iprop((∃ a0 a1 a2, ⌜HoldsAt a m c n a0 a1 a2⌝ ∗ Scratch c a0 a1 a2)
    ∗ (tbG.view.loc (c : Thread nD τ) ↦{fullShare.right} tG a) ∗ (tbJ.view.loc (c : Thread nD τ) ↦{fullShare.right} tJ a) ∗ (tbN.view.loc (c : Thread nD τ) ↦{fullShare.right} tN a))

/-- The pipeline's proof data on core `c`. -/
def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 7) t
    | ⟨1, _⟩ => iblk a m c (1 : Fin 7) t
    | ⟨2, _⟩ => iblk a m c (2 : Fin 7) t
    | ⟨3, _⟩ => iblk a m c (3 : Fin 7) t
    | ⟨4, _⟩ => iblk a m c (4 : Fin 7) t
    | ⟨5, _⟩ => iblk a m c (5 : Fin 7) t
    | ⟨6, _⟩ => oblk a m c t
  Φ t := Phi a m c t.val
  q _ := fullShare
  owed _ := 0

theorem after_0 (c : Dev nD) (t : Fin (cfgA a).N) : (dats a m 0 c).after (0 : Fin 7) t = iblk a m c (0 : Fin 7) t := rfl
theorem after_1 (c : Dev nD) (t : Fin (cfgA a).N) : (dats a m 0 c).after (1 : Fin 7) t = iblk a m c (1 : Fin 7) t := rfl
theorem after_2 (c : Dev nD) (t : Fin (cfgA a).N) : (dats a m 0 c).after (2 : Fin 7) t = iblk a m c (2 : Fin 7) t := rfl
theorem after_3 (c : Dev nD) (t : Fin (cfgA a).N) : (dats a m 0 c).after (3 : Fin 7) t = iblk a m c (3 : Fin 7) t := rfl
theorem after_4 (c : Dev nD) (t : Fin (cfgA a).N) : (dats a m 0 c).after (4 : Fin 7) t = iblk a m c (4 : Fin 7) t := rfl
theorem after_5 (c : Dev nD) (t : Fin (cfgA a).N) : (dats a m 0 c).after (5 : Fin 7) t = iblk a m c (5 : Fin 7) t := rfl
theorem after_6 (c : Dev nD) (t : Fin (cfgA a).N) : (dats a m 0 c).after (6 : Fin 7) t = oblk a m c t := rfl

theorem before_0 (c : Dev nD) (t : Fin (cfgA a).N) (d) : (dats a m 0 c).before (0 : Fin 7) t d = iblk a m c (0 : Fin 7) t :=
  ((dats a m 0 c).before_in_eq_fetched (0 : Fin 7) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m 0 c).before (1 : Fin 7) t d = iblk a m c (1 : Fin 7) t :=
  ((dats a m 0 c).before_in_eq_fetched (1 : Fin 7) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m 0 c).before (2 : Fin 7) t d = iblk a m c (2 : Fin 7) t :=
  ((dats a m 0 c).before_in_eq_fetched (2 : Fin 7) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m 0 c).before (3 : Fin 7) t d = iblk a m c (3 : Fin 7) t :=
  ((dats a m 0 c).before_in_eq_fetched (3 : Fin 7) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m 0 c).before (4 : Fin 7) t d = iblk a m c (4 : Fin 7) t :=
  ((dats a m 0 c).before_in_eq_fetched (4 : Fin 7) rfl (fun _ => rfl) (fun _ _ _ => rfl) (fun t => by rw [after_4]; unfold Dat.blockOf iblk; rfl) t d).trans
    (by unfold Dat.fetched Dat.blockOf iblk; rfl)
theorem before_5 (c : Dev nD) (t : Fin (cfgA a).N) (d) : (dats a m 0 c).before (5 : Fin 7) t d = iblk a m c (5 : Fin 7) t :=
  ((dats a m 0 c).before_in_eq_fetched (5 : Fin 7) rfl (fun _ => rfl) (fun _ _ _ => rfl) (fun t => by rw [after_5]; unfold Dat.blockOf iblk; rfl) t d).trans
    (by unfold Dat.fetched Dat.blockOf iblk; rfl)

/-! ## The weights' blocks over two points of one group -/

theorem iblk_1_congr (c : Dev nD) (t t' : Fin (cfgA a).N) (h : ((cfgA a).win (1 : Fin 7)).index t = ((cfgA a).win (1 : Fin 7)).index t') : in_1 a m c t = in_1 a m c t' :=
  (dats a m 0 c).fetched_congr (1 : Fin 7) h rfl (iblk a m c (1 : Fin 7) t)
theorem index_1 (t : Fin (cfgA a).N) : ((cfgA a).win (1 : Fin 7)).index t = ![0, (tG a (entry t.val (lt_of_lt_of_eq t.isLt N_0))).toNat, 0, 0, 0] := by
  have e : a.1.at 0 (Rect.unit (s := S68) (k0_off1 (crd a t)) S1.size (k0_off1_inb (crd a t))) numel1_S1 = tG a (entry t.val (lt_of_lt_of_eq t.isLt N_0)) :=
    at_entry (tG a) (k0_off1 (crd a t)) (k0_off1_inb (crd a t)) _ _ ((k0_off1_eq _).trans (by rw [crd_val]))
  rw [← e]; rfl
theorem iblk_2_congr (c : Dev nD) (t t' : Fin (cfgA a).N) (h : ((cfgA a).win (2 : Fin 7)).index t = ((cfgA a).win (2 : Fin 7)).index t') : in_2 a m c t = in_2 a m c t' :=
  (dats a m 0 c).fetched_congr (2 : Fin 7) h rfl (iblk a m c (2 : Fin 7) t)
theorem index_2 (t : Fin (cfgA a).N) : ((cfgA a).win (2 : Fin 7)).index t = ![0, (tG a (entry t.val (lt_of_lt_of_eq t.isLt N_0))).toNat, 0, 0, 0] := by
  have e : a.1.at 0 (Rect.unit (s := S68) (k0_off1 (crd a t)) S1.size (k0_off1_inb (crd a t))) numel1_S1 = tG a (entry t.val (lt_of_lt_of_eq t.isLt N_0)) :=
    at_entry (tG a) (k0_off1 (crd a t)) (k0_off1_inb (crd a t)) _ _ ((k0_off1_eq _).trans (by rw [crd_val]))
  rw [← e]; rfl
theorem iblk_3_congr (c : Dev nD) (t t' : Fin (cfgA a).N) (h : ((cfgA a).win (3 : Fin 7)).index t = ((cfgA a).win (3 : Fin 7)).index t') : in_3 a m c t = in_3 a m c t' :=
  (dats a m 0 c).fetched_congr (3 : Fin 7) h rfl (iblk a m c (3 : Fin 7) t)
theorem index_3 (t : Fin (cfgA a).N) : ((cfgA a).win (3 : Fin 7)).index t = ![0, (tG a (entry t.val (lt_of_lt_of_eq t.isLt N_0))).toNat, 0, 0, 0] := by
  have e : a.1.at 0 (Rect.unit (s := S68) (k0_off1 (crd a t)) S1.size (k0_off1_inb (crd a t))) numel1_S1 = tG a (entry t.val (lt_of_lt_of_eq t.isLt N_0)) :=
    at_entry (tG a) (k0_off1 (crd a t)) (k0_off1_inb (crd a t)) _ _ ((k0_off1_eq _).trans (by rw [crd_val]))
  rw [← e]; rfl
theorem index_0 (t : Fin (cfgA a).N) : ((cfgA a).win (0 : Fin 7)).index t = ![(tJ a (entry t.val (lt_of_lt_of_eq t.isLt N_0))).toNat, 0] := by
  have e : a.1.at 1 (Rect.unit (s := S68) (k0_off1 (crd a t)) S1.size (k0_off1_inb (crd a t))) numel1_S1 = tJ a (entry t.val (lt_of_lt_of_eq t.isLt N_0)) :=
    at_entry (tJ a) (k0_off1 (crd a t)) (k0_off1_inb (crd a t)) _ _ ((k0_off1_eq _).trans (by rw [crd_val]))
  rw [← e]; rfl

theorem entry_congr (T : S68.Idx → Elt F .i32) {n n' : Nat} (e : n = n') (h : n < 68) (h' : n' < 68) : T (entry n h) = T (entry n' h') := by subst e; rfl

/-- A scratch that holds the weights of the point before holds this point's, where they are not loaded. -/
theorem holds_of_not_loads (c : Dev nD) (t : Fin (cfgA a).N) (a0 a1 a2) (H : HoldsAt a m c t.val a0 a1 a2) (h : ¬Loads (crd a t) (tG a)) :
    scG.view.read (Elt F) a0 = wG (in_1 a m c t) ∧ scU.view.read (Elt F) a1 = wU (in_2 a m c t) ∧ scD.view.read (Elt F) a2 = wD (in_3 a m c t) := by
  have h0 := (of_not_loads (crd a t) (tG a) h).1
  have he := (of_not_loads (crd a t) (tG a) h).2
  have hv := crd_val a t
  have ht : t.val ≠ 0 := fun e => h0 (hv.trans e)
  have hlt : t.val < 68 := lt_of_lt_of_eq t.isLt N_0
  have he' : tG a (entry t.val hlt) = tG a (entry (t.val - 1) (by omega)) :=
    (entry_congr (tG a) hv.symm _ _).trans (he.trans (entry_congr (tG a) (by rw [hv]) _ _))
  obtain ⟨hg, hu, hd⟩ := H ⟨t.val - 1, by have := t.isLt; omega⟩ (by show t.val = t.val - 1 + 1; omega)
  rw [hg, hu, hd]

  rw [iblk_1_congr a m c t ⟨t.val - 1, by have := t.isLt; omega⟩ (by rw [index_1, index_1, he'])]
  rw [iblk_2_congr a m c t ⟨t.val - 1, by have := t.isLt; omega⟩ (by rw [index_2, index_2, he'])]
  rw [iblk_3_congr a m c t ⟨t.val - 1, by have := t.isLt; omega⟩ (by rw [index_3, index_3, he'])]
  exact ⟨rfl, rfl, rfl⟩

/-- The two tests of the count, as a store happens at one or the other. -/
theorem stored_or (i : grid0.Coords) (n : BitVec 32) : (!(k0_cond2 i n == 1#1) && !(k0_cond3 i n == 1#1)) = false := by
  unfold k0_cond3 k0_cond2
  generalize BitVec.ofNat 32 (i 0).val = x
  show (!(IntOp.cmpi .ne ((IntOp.cmpi .slt x n).setWidth 32) 0#32 == 1#1) && !(IntOp.cmpi .ne ((IntOp.cmpi .sge x n).setWidth 32) 0#32 == 1#1)) = false
  rw [WordCmp.cmpi_sge_eq, WordCmp.cmpi_slt_eq]
  by_cases h : x.toInt < n.toInt
  · rw [decide_eq_true h, decide_eq_false (not_le.mpr h)]; decide
  · rw [decide_eq_false h, decide_eq_true (not_lt.mp h)]; decide

/-- The result's window is stored at every point. -/
theorem idle_6 (t : Fin (cfgA a).N) : (cfgA a).idle (6 : Fin 7) (crd a t) = false := by
  show (!(k0_cond2 (crd a t) (a.1.atD 2 ![0]) == 1#1) && !(k0_cond3 (crd a t) (a.1.atD 2 ![0]) == 1#1)) = false
  exact stored_or _ _

/-- One piece over the whole block, read back. -/
theorem read_wholeOut (M : Memref sig .tc .vmem S512x1024 .f32) (f) (o : FVec F S512x1024 .f32) : M.view.read (Elt F) (M.view.writes (Elt F) f (wholeOut o)) = o := by
  funext x
  have e : x = (Rect.unit (s := S512x1024) ![0, 0] S512x1024.size inb_S512x1024_S512x1024_0_0).emb x := by
    funext a; apply Fin.ext; fin_cases a <;> (show _ = 0 + 1 * _; omega)
  refine (congrArg _ e).trans ?_
  exact View.read_writes_cons_emb ..

set_option maxHeartbeats 4000000 in
/-- The body's obligation at point `t`. -/
theorem sound_body (c : Dev nD) (t : Fin (cfgA a).N) :
    iprop((dats a m 0 c).Φ t.castSucc ∗ (dats a m 0 c).owesAt () t.castSucc
        ∗ (∃ d, owns (c : Thread nD τ) (ms_0 a t) fullShare ((dats a m 0 c).before (0 : Fin 7) t d))
        ∗ (∃ d, owns (c : Thread nD τ) (ms_1 a t) fullShare ((dats a m 0 c).before (1 : Fin 7) t d))
        ∗ (∃ d, owns (c : Thread nD τ) (ms_2 a t) fullShare ((dats a m 0 c).before (2 : Fin 7) t d))
        ∗ (∃ d, owns (c : Thread nD τ) (ms_3 a t) fullShare ((dats a m 0 c).before (3 : Fin 7) t d))
        ∗ (∃ d, owns (c : Thread nD τ) (ms_4 a t) fullShare ((dats a m 0 c).before (4 : Fin 7) t d))
        ∗ (∃ d, owns (c : Thread nD τ) (ms_5 a t) fullShare ((dats a m 0 c).before (5 : Fin 7) t d))
        ∗ (∃ d, owns (c : Thread nD τ) (ms_6 a t) fullShare ((dats a m 0 c).before (6 : Fin 7) t d)))
      ⊢ wp frame (wpE (defs₀ (F := F)) Variants.none c none) Set.univ (cc0_moe_experts (crd a t) tbG (Memref.isWhole_whole _) tbJ (Memref.isWhole_whole _) tbN (Memref.isWhole_whole _) (ms_0 a t) (hs_0 a t) (ms_1 a t) (hs_1 a t) (ms_2 a t) (hs_2 a t) (ms_3 a t) (hs_3 a t) (ms_4 a t) (hs_4 a t) (ms_5 a t) (hs_5 a t) (ms_6 a t) (hs_6 a t) scG (Memref.isWhole_whole _) scU (Memref.isWhole_whole _) scD (Memref.isWhole_whole _)) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_6]
  simp only [before_0, before_1, before_2, before_3, before_4, before_5, after_0, after_1, after_2, after_3, after_4, after_5, after_6]
  rewrite [show (dats a m 0 c).Φ t.succ = Phi a m c (t.val + 1) from rfl, show (dats a m 0 c).Φ t.castSucc = Phi a m c t.val from rfl,
    show (dats a m 0 c).owesAt () t.succ = (dats a m 0 c).owesAt () t.castSucc from rfl]
  unfold Phi
  iintro ⟨⟨⟨%a0, %a1, %a2, %hH, HS⟩, HT0, HT1, HT2⟩, Ho, ⟨%d0, H0⟩, ⟨%d1, H1⟩, ⟨%d2, H2⟩, ⟨%d3, H3⟩, ⟨%d4, H4⟩, ⟨%d5, H5⟩, ⟨%d6, H6⟩⟩
  obtain ⟨b0, b1, b2, hb, hT⟩ := trip c (crd a t) (ms_0 a t) (hs_0 a t) (ms_1 a t) (hs_1 a t) (ms_2 a t) (hs_2 a t) (ms_3 a t) (hs_3 a t) (ms_4 a t) (hs_4 a t) (ms_5 a t) (hs_5 a t) (ms_6 a t) (hs_6 a t) (tG a) (tJ a) (tN a) (in_0 a m c t) (in_1 a m c t) (in_2 a m c t) (in_3 a m c t) (in_4 a m c t) (in_5 a m c t) a0 a1 a2 (holds_of_not_loads a m c t a0 a1 a2 hH)
  iapply (hT _)
  unfold Kept
  isplitl [H0 H1 H2 H3 H4 H5 HT0 HT1 HT2]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    iexact HT2
  isplitl [H6]; · iexists _; iexact H6
  isplitl [HS]; · iexact HS
  iintro ⟨⟨H0, H1, H2, H3, H4, H5, HT0, HT1, HT2⟩, ⟨%e6, H6⟩, HS⟩
  isplitl [HS HT0 HT1 HT2]
  · isplitl [HS]
    · iexists b0; iexists b1; iexists b2; isplitr; swap
      · iexact HS
      · ipureintro; intro t' ht'
        have : t' = t := Fin.ext (by omega)
        subst this; exact hb
    isplitl [HT0]; · iexact HT0
    isplitl [HT1]; · iexact HT1
    iexact HT2
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  unfold owns; iexists _; isplitr; swap
  · iexact H6
  · ipureintro; exact read_wholeOut _ _ _

/-- At every point. -/
theorem body_obligation (c : Dev nD) : BodyObligation (dats a m 0 c) (defs₀ (F := F)) Variants.none () Set.univ := fun t => by
  rw [bigSep_W0]
  exact sound_body a m c t

/-! ## The launch -/

/-- The launch's share of the rounds' resource. -/
def u₀ : UR sig nD τ :=
  initOf (Pipeline.cells (pcs a) ((launch0 (F := F)).cellOf_inj fun _ => a)) (Pipeline.launchToks (pcs a) ((launch0 (F := F)).cellOf_inj fun _ => a))

abbrev EP : Emb (UR sig nD τ) 𝕄 := emb₁

theorem share_eq (c : Dev nD) (w : Fin (cfgA a).W) : (dats a m 0 c).share w = fullShare := by unfold Dat.share; split <;> rfl

/-- The tables one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Before the first point the scratch holds anything. -/
theorem phi_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  iintro ⟨-, ⟨HT0, HT1, HT2⟩, ⟨%a0, HS0⟩, ⟨%a1, HS1⟩, ⟨%a2, HS2⟩⟩
  isplitl [HS0 HS1 HS2]
  · iexists a0; iexists a1; iexists a2; isplitr; swap
    · isplitl [HS0]; · iexact HS0
      isplitl [HS1]; · iexact HS1
      iexact HS2
    · ipureintro; intro t ht; exact absurd ht (by omega)
  isplitl [HT0]; · iexact HT0
  isplitl [HT1]; · iexact HT1
  iexact HT2

/-- After the last point it is given back. -/
theorem phi_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (cfgA a).N from rfl]
  unfold Phi
  iintro ⟨⟨%a0, %a1, %a2, -, ⟨HS0, HS1, HS2⟩⟩, -, -, -⟩
  isplitr; · iempintro
  isplitl [HS0]; · iexists a0; iexact HS0
  isplitl [HS1]; · iexists a1; iexact HS1
  iexists a2; iexact HS2

/-- After the call: every window's array as the pipeline leaves it, the tables unchanged. -/
def Post : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

set_option backward.isDefEq.respectTransparency.types false in
set_option maxHeartbeats 4000000 in
/-- The call from any memory whose tables are `a`. -/
theorem run_main (hp : ∀ (c : Dev nD) j, m ((c : Thread nD τ).loc (pre0.ref j)) = a.1 j) :
    θ_run (defs (F := F)) (onTc (τ := τ) (main (F := F))) ⟨m, fun _ => 0, ρ⟩ (fun r => Post a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi_intro a m)
    (hout := phi_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments at device `c` are `m`'s. -/
def Unchanged (m' : (ℓ : Loc nD τ sig) → Buf (Elt F) ℓ) (c : Dev nD) : Prop :=

m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)

/-- A run that ends as `Post` says leaves every argument as it was. -/
theorem unchanged_of_post (hp : ∀ (c : Dev nD) j, m ((c : Thread nD τ).loc (pre0.ref j)) = a.1 j) (r : PUnit × MemSt nD τ sig (Elt F)) (h : Post a m r) (c : Dev nD) : Unchanged m r.2.mem c :=
  ⟨((h c).1 (0 : Fin 7)).trans ((dats a m 0 c).arrAt_in (0 : Fin 7) rfl _), ((h c).2 0).trans (hp c 0).symm, ((h c).2 1).trans (hp c 1).symm, ((h c).2 2).trans (hp c 2).symm, ((h c).1 (1 : Fin 7)).trans ((dats a m 0 c).arrAt_in (1 : Fin 7) rfl _), ((h c).1 (2 : Fin 7)).trans ((dats a m 0 c).arrAt_in (2 : Fin 7) rfl _), ((h c).1 (3 : Fin 7)).trans ((dats a m 0 c).arrAt_in (3 : Fin 7) rfl _), ((h c).1 (4 : Fin 7)).trans ((dats a m 0 c).arrAt_in (4 : Fin 7) rfl _), ((h c).1 (5 : Fin 7)).trans ((dats a m 0 c).arrAt_in (5 : Fin 7) rfl _)⟩

end Cert.Proof.Experts

end
-- ==== Proof.ExpClaim.lean ====
/-
  The experts kernel's tables in range, from the precondition, and its frame at both instances.
-/
module

public import proofs.«01_k».proof.Defs
public import proofs.«01_k».proof.Proof.ExpFrame
public import proofs.«01_k».proof.Proof.Gen.ExpertsIdeal
public import proofs.«01_k».proof.Proof.Gen.Pre_tiles_in_range
public import Idealize.ShloMosaic.Lib.Pipeline.Regions
public import Idealize.ShloMosaic.Lib.StableHlo.Predicate
public import Idealize.ShloMosaic.PureOps.Ideal

@[expose] public section

noncomputable section

namespace Cert.Proof.Experts

open Cert.Experts Cert.Experts.Gen
open Idealize.ShloMosaic Idealize.ShloMosaic.TcCoe Idealize.SL.Sem

variable {F : FTy → Type} [FloatOps F]

/-- Every tile's group is one of the four, its block of rows one of the 68. -/
def InRange (T0 T1 : S68.Idx → BitVec 32) : Prop := ∀ x, (T0 x).toNat < 4 ∧ (T1 x).toNat < 68

theorem word_lt (w : BitVec 32) (k : Nat) (hk : k < 100) (h0 : IntOp.cmpi .sge w 0#32 = 1#1) (h1 : IntOp.cmpi .slt w (BitVec.ofNat 32 k) = 1#1) : w.toNat < k := by
  rw [WordCmp.cmpi_sge_eq] at h0; rw [WordCmp.cmpi_slt_eq] at h1
  have a0 : (0#32).toInt ≤ w.toInt := by by_contra h; rw [decide_eq_false h] at h0; exact absurd h0 (by decide)
  have a1 : w.toInt < (BitVec.ofNat 32 k).toInt := by by_contra h; rw [decide_eq_false h] at h1; exact absurd h1 (by decide)
  have e0 : (0#32).toInt = 0 := by decide
  have ek : (BitVec.ofNat 32 k).toInt = k := by
    rw [BitVec.toInt_ofNat', Int.bmod_eq_of_le (by omega) (by omega)] <;> omega
  rw [e0] at a0; rw [ek] at a1
  rw [BitVec.toInt_eq_toNat_cond] at a0 a1
  split at a0 <;> omega

/-- The precondition says so. -/
theorem inRange_of_pre (x0 : FVec F Pre_tiles_in_range.S34816x1152 .f32) (T0 T1 : IVec Pre_tiles_in_range.S68 32) (T2 : IVec Pre_tiles_in_range.S1 32) (x4 x5 : FVec F Pre_tiles_in_range.S2x4x4x1024x512 .f32)
    (x6 : FVec F Pre_tiles_in_range.S2x4x4x512x1024 .f32) (x7 x8 : FVec F Pre_tiles_in_range.S1024 .f32)
    (h : Pre_tiles_in_range.fn x0 T0 T1 T2 x4 x5 x6 x7 x8 = fun _ => 1#1) : InRange T0 T1 := by
  intro x
  have e := congrFun h x
  unfold Pre_tiles_in_range.fn at e
  have e' : ((IntOp.cmpi .sge (T0 x) 0#32 &&& IntOp.cmpi .slt (T0 x) 4#32) &&& IntOp.cmpi .sge (T1 x) 0#32) &&& IntOp.cmpi .slt (T1 x) 68#32 = 1#1 := e
  have key : ∀ p q r s : BitVec 1, ((p &&& q) &&& r) &&& s = 1#1 → p = 1#1 ∧ q = 1#1 ∧ r = 1#1 ∧ s = 1#1 := by decide
  obtain ⟨h1, h2, h3, h4⟩ := key _ _ _ _ e'
  exact ⟨word_lt _ 4 (by omega) h1 h2, word_lt _ 68 (by omega) h3 h4⟩

/-- A block of rows below the 68th lies in the array; a group below the fourth lies in the weights. -/
theorem rows_inb (w : Nat) (h : w < 68) : ∀ a, ((![w, 0] : Fin 2 → Nat) a + 1) * S512x1152.size a ≤ S34816x1152.size a
  | ⟨0, _⟩ => by show (w + 1) * 512 ≤ 34816; omega
  | ⟨1, _⟩ => by show (0 + 1) * 1152 ≤ 1152; omega
theorem up_inb (w : Nat) (h : w < 4) : ∀ a, ((![0, w, 0, 0, 0] : Fin 5 → Nat) a + 1) * S1x1x4x1024x512.size a ≤ S2x4x4x1024x512.size a
  | ⟨0, _⟩ => by show (0 + 1) * 1 ≤ 2; omega
  | ⟨1, _⟩ => by show (w + 1) * 1 ≤ 4; omega
  | ⟨2, _⟩ => by show (0 + 1) * 4 ≤ 4; omega
  | ⟨3, _⟩ => by show (0 + 1) * 1024 ≤ 1024; omega
  | ⟨4, _⟩ => by show (0 + 1) * 512 ≤ 512; omega
theorem down_inb (w : Nat) (h : w < 4) : ∀ a, ((![0, w, 0, 0, 0] : Fin 5 → Nat) a + 1) * S1x1x4x512x1024.size a ≤ S2x4x4x512x1024.size a
  | ⟨0, _⟩ => by show (0 + 1) * 1 ≤ 2; omega
  | ⟨1, _⟩ => by show (w + 1) * 1 ≤ 4; omega
  | ⟨2, _⟩ => by show (0 + 1) * 4 ≤ 4; omega
  | ⟨3, _⟩ => by show (0 + 1) * 512 ≤ 512; omega
  | ⟨4, _⟩ => by show (0 + 1) * 1024 ≤ 1024; omega

/-- The table entry a window's index map reads at a point. -/
abbrev wordAt (i : grid0.Coords) : S68.Idx := (Rect.unit (s := S68) (k0_off1 i) S1.size (k0_off1_inb i)).emb (Shape.Idx.first (numel1_S1.symm ▸ Nat.one_pos))

/-- The pipeline's condition on its tables, from their range. -/
theorem ok_of_inRange (pf : pre0.Contents (Elt F)) (h : InRange (pf 0) (pf 1)) : ok0 pf := by
  unfold ok0
  exact ⟨fun i => ⟨rows_inb _ (h (wordAt i)).2, .inl rfl⟩, fun i => ⟨up_inb _ (h (wordAt i)).1, .inl rfl⟩,
    fun i => ⟨up_inb _ (h (wordAt i)).1, .inl rfl⟩, fun i => ⟨down_inb _ (h (wordAt i)).1, .inl rfl⟩⟩

variable (m : (ℓ : Loc nD τ sig) → Buf (Elt F) ℓ) (ρ : Dev nD → PrngReg)

/-- The tables in the memory `m`. -/
def tables : pre0.Contents (Elt F) := fun j => m (((0 : Dev nD) : Thread nD τ).loc (pre0.ref j))

/-- They are in range. -/
abbrev MemInRange : Prop := InRange (tables m 0) (tables m 1)

/-- The pipeline's admissible tables. -/
def adm (h : MemInRange m) : (pcfg0 (F := F)).Adm := ⟨tables m, ok_of_inRange _ h⟩

theorem adm_tables (h : MemInRange m) (c : Dev nD) (j : Fin 3) : m ((c : Thread nD τ).loc (pre0.ref j)) = (adm m h).1 j := by
  have e : c = 0 := Subsingleton.elim _ _
  subst e; rfl

/-- The call from a memory whose tables are in range. -/
theorem run (h : MemInRange m) : θ_run (defs (F := F)) (onTc (τ := τ) (main (F := F))) ⟨m, fun _ => 0, ρ⟩ (fun r => Post (adm m h) m r ∧ r.2.sem = fun _ => 0) :=
  run_main (adm m h) m ρ (adm_tables m h)

/-- The frame, at any instance. -/
theorem frame (h : MemInRange m) : θ_run (defs (F := F)) (onTc (τ := τ) (main (F := F))) ⟨m, fun _ => 0, ρ⟩ (fun r => (∀ c, Unchanged m r.2.mem c) ∧ r.2.sem = fun _ => 0) :=
  (θ_run defs _ _).mono (fun r hr => ⟨fun c => unchanged_of_post (adm m h) m (adm_tables m h) r hr.1 c, hr.2⟩) (run m ρ h)

theorem inRange_of_Pre (m : (ℓ : Loc nD τ sig) → Buf (Elt Bits) ℓ) (h : Cert.Pre_Experts m) : MemInRange m := inRange_of_pre _ _ _ _ _ _ _ _ _ (h 0)
theorem inRange_of_PreIdeal (m : (ℓ : Loc nD τ sig) → Buf (Elt Ideal) ℓ) (h : Cert.Pre_ExpertsIdeal m) : MemInRange m := inRange_of_pre _ _ _ _ _ _ _ _ _ (h 0)

/-- The program's two texts run alike. -/
theorem run_ideal (m : (ℓ : Loc nD τ sig) → Buf (Elt Ideal) ℓ) (g : Dev nD → PrngReg) (Q : PUnit × MemSt nD τ sig (Elt Ideal) → Prop) :
    (θ_run (Cert.Experts.defs (F := Ideal)) (onTc (τ := Cert.Experts.τ) (Cert.Experts.main (F := Ideal))) ⟨m, fun _ => 0, g⟩ Q)
    = (θ_run (Cert.ExpertsIdeal.defs (F := Ideal)) (onTc (τ := Cert.ExpertsIdeal.τ) (Cert.ExpertsIdeal.main (F := Ideal))) ⟨m, fun _ => 0, g⟩ Q) := by chain_rfl

theorem frame_bits : Cert.quiescent_Experts := fun m g h => frame m g (inRange_of_Pre m h)
theorem frame_ideal : Cert.quiescent_ExpertsIdeal := fun m g h => (run_ideal m g _).mp (frame m g (inRange_of_PreIdeal m h))

end Cert.Proof.Experts

end
-- ==== Proof.HierFrame.lean ====
/-
  The reference's frame.
-/
module

public import proofs.«01_k».proof.Defs
public import proofs.«01_k».proof.Proof.Gen.HierIdeal.Run

@[expose] public section

namespace Cert.Proof.Hier

open Idealize.ShloMosaic Idealize.ShloMosaic.TcCoe Idealize.SL.Sem

/-- The reference keeps its arguments; it declares no semaphore. -/
theorem frame : Cert.quiescent_HierIdeal := fun m ρ _ =>
  (θ_run _ _ _).mono (fun r h => ⟨fun c => (h c).2, sem_eq_zero_of_no_sems (by decide) r.2⟩) (Cert.HierIdeal.Value.run m ρ)

end Cert.Proof.Hier
-- ==== Proof.ExpArr.lean ====
/-
  The experts call's array after its run, and its blocks, in terms of the memory at launch.
-/
module

public import proofs.«01_k».proof.Proof.ExpFrame
public import Idealize.ShloMosaic.Lib.Pointwise
public import Idealize.ShloMosaic.Lib.Pipeline.ValueKit.Geometry

@[expose] public section

set_option maxRecDepth 16384

noncomputable section

namespace Cert.Proof.Experts

open Cert.Experts Cert.Experts.Gen
open Idealize.ShloMosaic Idealize.ShloMosaic.TcCoe
open Idealize.ShloMosaic.Pipeline (Dat)

variable {F : FTy → Type} [FloatOps F]
variable (a : (pcfg0 (F := F)).Adm) (m : (ℓ : Loc nD τ sig) → Buf (Elt F) ℓ)

/-- The result's block at a point is the point's own. -/
theorem index_6 (t : Fin (cfgA a).N) : ((cfgA a).win (6 : Fin 7)).index t = ![t.val, 0] := by
  have h : t.val < 68 := lt_of_lt_of_eq t.isLt N_0
  have e : (BitVec.ofNat 32 ((crd a t) 0).val).toNat = t.val := by
    rw [crd_val, BitVec.toNat_ofNat]; exact Nat.mod_eq_of_lt (by omega)
  have e' : ((cfgA a).win (6 : Fin 7)).index t = ![(BitVec.ofNat 32 ((crd a t) 0).val).toNat, 0] := rfl
  rw [e', e]

theorem flush_6 (t : Fin (cfgA a).N) : ((cfgA a).win (6 : Fin 7)).flush t = true := by
  unfold Pipeline.Window.flush
  have ho : ((cfgA a).win (6 : Fin 7)).isOut = true := rfl
  rw [ho, Bool.true_and, Bool.or_eq_true]
  by_cases h : t.val + 1 = (cfgA a).grid.N
  · exact .inl (decide_eq_true h)
  · refine .inr (decide_eq_true ⟨lt_of_le_of_ne t.isLt h, fun e => ?_⟩)
    rw [index_6, index_6] at e
    have := congrFun e 0
    exact absurd this (Nat.succ_ne_self t.val)

/-- Two points' result blocks have no entry in common. -/
theorem disj_6 : ∀ t t' : Fin (cfgA a).N, ((cfgA a).win (6 : Fin 7)).flush t = true → ((cfgA a).win (6 : Fin 7)).flush t' = true → t ≠ t' →
    Disjoint (((cfgA a).win (6 : Fin 7)).blk t).view.set (((cfgA a).win (6 : Fin 7)).blk t').view.set :=
  Pipeline.Window.hdisj_of_index_inj _ fun t t' _ _ e => by
    rw [index_6, index_6] at e
    exact Fin.ext (congrFun e 0)

/-- The result's array after the run: row `512 t + r` is row `r` of what point `t` left. -/
theorem arr_out (c : Dev nD) (t : Fin (cfgA a).N) (r : Fin 512) (k : Fin 1024) (n : Fin 34816) (hn : n.val = t.val * 512 + r.val) :
    (dats a m 0 c).arrAt (6 : Fin 7) (cfgA a).N (ix2 n k) = oblk a m c t (ix2 r k) := by
  have h := (dats a m 0 c).arrAt_emb_eq_flushed (6 : Fin 7) (disj_6 a) t (flush_6 a t) (ix2 r k)
  have e : (((cfgA a).win (6 : Fin 7)).blk t).view.emb (ix2 r k) = ix2 n k := by
    refine funext fun x => Fin.ext ?_
    have hv := Pipeline.Window.rect_emb_val ((cfgA a).win (6 : Fin 7)) t (ix2 r k) x
    rw [index_6] at hv
    match x with
    | ⟨0, _⟩ => exact hv.trans hn.symm
    | ⟨1, _⟩ => exact hv.trans (by show 0 * 1024 + k.val = k.val; omega)
  rw [e] at h
  exact h

/-- Row `r` of the rows' block at point `t` is row `512 j + r` of the rows, `j` the point's block number. -/
theorem in_0_apply (c : Dev nD) (t : Fin (cfgA a).N) (r : Fin 512) (d : Fin 1152) (n : Fin 34816) (hn : n.val = (tJ a (entry t.val (lt_of_lt_of_eq t.isLt N_0))).toNat * 512 + r.val) :
    in_0 a m c t (ix2 r d) = m ((c : Thread nD τ).loc main_arg0) (ix2 n d) := by
  have e : (((cfgA a).win (0 : Fin 7)).blk t).view.emb (ix2 r d) = ix2 n d := by
    refine funext fun x => Fin.ext ?_
    have hv := Pipeline.Window.rect_emb_val ((cfgA a).win (0 : Fin 7)) t (ix2 r d) x
    rw [index_0] at hv
    match x with
    | ⟨0, _⟩ => exact hv.trans hn.symm
    | ⟨1, _⟩ => exact hv.trans (by show 0 * 1152 + d.val = d.val; omega)
  exact congrArg (m ((c : Thread nD τ).loc main_arg0)) e

/-- A block of the gate weights is one group's. -/
theorem in_1_apply (c : Dev nD) (t : Fin (cfgA a).N) (e : Fin 4) (i : Fin 1024) (f : Fin 512) (q : Fin 4) (hq : q.val = (tG a (entry t.val (lt_of_lt_of_eq t.isLt N_0))).toNat) :
    in_1 a m c t (ix5 0 0 e i f) = m ((c : Thread nD τ).loc main_arg4) (ix5 0 q e i f) := by
  have h : (((cfgA a).win (1 : Fin 7)).blk t).view.emb (ix5 0 0 e i f) = ix5 0 q e i f := by
    refine funext fun x => Fin.ext ?_
    have hv := Pipeline.Window.rect_emb_val ((cfgA a).win (1 : Fin 7)) t (ix5 0 0 e i f) x
    rw [index_1] at hv
    match x with
    | ⟨0, _⟩ => exact hv
    | ⟨1, _⟩ => exact hv.trans ((Nat.mul_one _).trans hq.symm)
    | ⟨2, _⟩ => exact hv.trans (by show 0 * 4 + e.val = e.val; omega)
    | ⟨3, _⟩ => exact hv.trans (by show 0 * 1024 + i.val = i.val; omega)
    | ⟨4, _⟩ => exact hv.trans (by show 0 * 512 + f.val = f.val; omega)
  exact congrArg (m ((c : Thread nD τ).loc main_arg4)) h

/-- A block of the up weights is one group's. -/
theorem in_2_apply (c : Dev nD) (t : Fin (cfgA a).N) (e : Fin 4) (i : Fin 1024) (f : Fin 512) (q : Fin 4) (hq : q.val = (tG a (entry t.val (lt_of_lt_of_eq t.isLt N_0))).toNat) :
    in_2 a m c t (ix5 0 0 e i f) = m ((c : Thread nD τ).loc main_arg5) (ix5 0 q e i f) := by
  have h : (((cfgA a).win (2 : Fin 7)).blk t).view.emb (ix5 0 0 e i f) = ix5 0 q e i f := by
    refine funext fun x => Fin.ext ?_
    have hv := Pipeline.Window.rect_emb_val ((cfgA a).win (2 : Fin 7)) t (ix5 0 0 e i f) x
    rw [index_2] at hv
    match x with
    | ⟨0, _⟩ => exact hv
    | ⟨1, _⟩ => exact hv.trans ((Nat.mul_one _).trans hq.symm)
    | ⟨2, _⟩ => exact hv.trans (by show 0 * 4 + e.val = e.val; omega)
    | ⟨3, _⟩ => exact hv.trans (by show 0 * 1024 + i.val = i.val; omega)
    | ⟨4, _⟩ => exact hv.trans (by show 0 * 512 + f.val = f.val; omega)
  exact congrArg (m ((c : Thread nD τ).loc main_arg5)) h

/-- A block of the down weights is one group's. -/
theorem in_3_apply (c : Dev nD) (t : Fin (cfgA a).N) (e : Fin 4) (f : Fin 512) (i : Fin 1024) (q : Fin 4) (hq : q.val = (tG a (entry t.val (lt_of_lt_of_eq t.isLt N_0))).toNat) :
    in_3 a m c t (ix5 0 0 e f i) = m ((c : Thread nD τ).loc main_arg6) (ix5 0 q e f i) := by
  have h : (((cfgA a).win (3 : Fin 7)).blk t).view.emb (ix5 0 0 e f i) = ix5 0 q e f i := by
    refine funext fun x => Fin.ext ?_
    have hv := Pipeline.Window.rect_emb_val ((cfgA a).win (3 : Fin 7)) t (ix5 0 0 e f i) x
    rw [index_3] at hv
    match x with
    | ⟨0, _⟩ => exact hv
    | ⟨1, _⟩ => exact hv.trans ((Nat.mul_one _).trans hq.symm)
    | ⟨2, _⟩ => exact hv.trans (by show 0 * 4 + e.val = e.val; omega)
    | ⟨3, _⟩ => exact hv.trans (by show 0 * 512 + f.val = f.val; omega)
    | ⟨4, _⟩ => exact hv.trans (by show 0 * 1024 + i.val = i.val; omega)
  exact congrArg (m ((c : Thread nD τ).loc main_arg6)) h

/-- The scale and the shift are whole. -/
theorem in_4_apply (c : Dev nD) (t : Fin (cfgA a).N) (i : Fin 1024) : in_4 a m c t (ix1 i) = m ((c : Thread nD τ).loc main_arg7) (ix1 i) := by
  have h : (((cfgA a).win (4 : Fin 7)).blk t).view.emb (ix1 i) = ix1 i := by
    refine funext fun x => Fin.ext ?_
    have hv := Pipeline.Window.rect_emb_val_of_index_zero ((cfgA a).win (4 : Fin 7)) t x (by match x with | ⟨0, _⟩ => rfl) (ix1 i)
    exact hv
  exact congrArg (m ((c : Thread nD τ).loc main_arg7)) h
theorem in_5_apply (c : Dev nD) (t : Fin (cfgA a).N) (i : Fin 1024) : in_5 a m c t (ix1 i) = m ((c : Thread nD τ).loc main_arg8) (ix1 i) := by
  have h : (((cfgA a).win (5 : Fin 7)).blk t).view.emb (ix1 i) = ix1 i := by
    refine funext fun x => Fin.ext ?_
    have hv := Pipeline.Window.rect_emb_val_of_index_zero ((cfgA a).win (5 : Fin 7)) t x (by match x with | ⟨0, _⟩ => rfl) (ix1 i)
    exact hv
  exact congrArg (m ((c : Thread nD τ).loc main_arg8)) h

end Cert.Proof.Experts

end
-- ==== Proof.ExpPure.lean ====
/-
  The values of the experts call over the reals: what its tile computes at a row and a column.
-/
module

public import proofs.«01_k».proof.Proof.ExpVal
public import Idealize.ShloMosaic.Lib.Pointwise
public import Idealize.ShloMosaic.Lib.Pipeline.ValueKit.Tiles

@[expose] public section

set_option maxRecDepth 16384

noncomputable section

namespace Cert.Proof.Experts

open Cert.Experts Cert.Experts.Gen
open Idealize.ShloMosaic Idealize.ShloMosaic.TcCoe

/-- One hidden unit of an expert at a row: the gated product of its two projections, times the row's weight. -/
def hidden (x : Fin 1024 → EReal) (w : EReal) (a b : Fin 1024 → Fin 512 → EReal) (f : Fin 512) : EReal :=
  (∑ d, x d * a d f) * Ideal.div 1 (1 + Ideal.exp (-(∑ d, x d * a d f))) * (∑ d, x d * b d f) * w

/-- One expert's share of a row's entry. -/
def part (x : Fin 1024 → EReal) (w : EReal) (a b : Fin 1024 → Fin 512 → EReal) (d : Fin 512 → Fin 1024 → EReal) (k : Fin 1024) : EReal :=
  ∑ f, hidden x w a b f * d f k

/-- A row scaled and its experts' shares added. -/
def blend (x y : Fin 1024 → EReal) (k : Fin 1024) : EReal := Ideal.ofBits .f32 0x3FB504F3#32 * x k + y k

/-- A row less its mean. -/
def centred (z : Fin 1024 → EReal) (k : Fin 1024) : EReal := z k - Ideal.div (∑ i, z i) (Ideal.ofBits .f32 0x44800000#32)

/-- A row normalized, scaled and shifted. -/
def normed (z g b : Fin 1024 → EReal) (k : Fin 1024) : EReal :=
  centred z k * Ideal.rsqrt (Ideal.div (∑ i, centred z i * centred z i) (Ideal.ofBits .f32 0x44800000#32) + Ideal.ofBits .f32 0x3727C5AC#32) * g k + b k

theorem pay16_apply (X : Vec Ideal S512x1024 .f32) (H : Vec Ideal S512x128 .f32) (g u : Vec Ideal S1x1024x512 .bf16) (d : Vec Ideal S1x512x1024 .bf16) (r : Fin 512) (k : Fin 1024) :
    k0_pay16 X H g u d (ix2 r k) = 0 + part (fun i => X (ix2 r i)) (H (ix2 r 0)) (fun i f => g (ix3 0 i f)) (fun i f => u (ix3 0 i f)) (fun f i => d (ix3 0 f i)) k := by
  pointwise [k0_pay16, k0_pay15, part, hidden]
  simp only [zero_sub]

theorem pay19_apply (X : Vec Ideal S512x1024 .f32) (H : Vec Ideal S512x128 .f32) (y : FVec Ideal S512x1024 .f32) (g u : Vec Ideal S1x1024x512 .bf16) (d : Vec Ideal S1x512x1024 .bf16) (r : Fin 512) (k : Fin 1024) :
    k0_pay19 H (k0_pay15 X) y (k0_pay17 X g) (k0_pay18 u) (constant S512x512 .f32 0x00000000#32) d (ix2 r k) = y (ix2 r k) + part (fun i => X (ix2 r i)) (H (ix2 r 1)) (fun i f => g (ix3 0 i f)) (fun i f => u (ix3 0 i f)) (fun f i => d (ix3 0 f i)) k := by
  pointwise [k0_pay19, k0_pay15, k0_pay17, k0_pay18, part, hidden]
  simp only [zero_sub]

theorem pay22_apply (X : Vec Ideal S512x1024 .f32) (H : Vec Ideal S512x128 .f32) (y : FVec Ideal S512x1024 .f32) (g2 u2 : Vec Ideal S1x1024x512 .bf16) (d2 : Vec Ideal S1x512x1024 .bf16) (g3 u3 : Vec Ideal S1x1024x512 .bf16) (d3 : Vec Ideal S1x512x1024 .bf16) (r : Fin 512) (k : Fin 1024) :
    k0_pay22 X H (k0_pay15 X) y (k0_pay20 H (k0_pay15 X) g2 u2) (k0_pay21 d2) g3 u3 d3 (ix2 r k)
      = centred (blend (fun i => X (ix2 r i)) fun i => y (ix2 r i) + part (fun i => X (ix2 r i)) (H (ix2 r 2)) (fun i f => g2 (ix3 0 i f)) (fun i f => u2 (ix3 0 i f)) (fun f i => d2 (ix3 0 f i)) i
          + part (fun i => X (ix2 r i)) (H (ix2 r 3)) (fun i f => g3 (ix3 0 i f)) (fun i f => u3 (ix3 0 i f)) (fun f i => d3 (ix3 0 f i)) i) k := by
  pointwise [k0_pay22, k0_pay20, k0_pay21, k0_pay15, part, hidden, centred, blend]
  simp only [zero_sub]

theorem pay1_apply (lg lb : Vec Ideal S1024 .f32) (z : FVec Ideal S512x1024 .f32) (s : FVec Ideal S512 .f32) (r : Fin 512) (k : Fin 1024) :
    k0_pay1 lg lb z s (ix2 r k) = z (ix2 r k) * Ideal.rsqrt (Ideal.div (s (ix1 r)) (Ideal.ofBits .f32 0x44800000#32) + Ideal.ofBits .f32 0x3727C5AC#32) * lg (ix1 k) + lb (ix1 k) := by
  pointwise [k0_pay1]

theorem pay23_apply (X : Vec Ideal S512x1024 .f32) (H : Vec Ideal S512x128 .f32) (x1 : FVec Ideal S512x1024 .bf16) (y : FVec Ideal S512x1024 .f32) (h : FVec Ideal S512x512 .bf16) (d2 : FVec Ideal S512x1024 .bf16) (g3 u3 : Vec Ideal S1x1024x512 .bf16) (d3 : Vec Ideal S1x512x1024 .bf16) (r : Fin 512) :
    k0_pay23 X H x1 y h d2 g3 u3 d3 (ix1 r) = ∑ k, k0_pay22 X H x1 y h d2 g3 u3 d3 (ix2 r k) * k0_pay22 X H x1 y h d2 g3 u3 d3 (ix2 r k) := by
  pointwise [k0_pay23]

section

variable {F : FTy → Type} [FloatOps F]

/-- Two experts' slabs of a scratch have no entry in common. -/
theorem slabA_off (e e' : ℕ) (h : e ≠ e') (inb : ∀ a, (![e, 0, 0] : Fin 3 → ℕ) a + S1x1024x512.size a ≤ S4x1024x512.size a) (inb' : ∀ a, (![e', 0, 0] : Fin 3 → ℕ) a + S1x1024x512.size a ≤ S4x1024x512.size a) (y : S1x1024x512.Idx) :
    (Rect.unit (s := S4x1024x512) ![e, 0, 0] S1x1024x512.size inb).emb y ∉ (Rect.unit (s := S4x1024x512) ![e', 0, 0] S1x1024x512.size inb').set := by
  intro hm
  have h0 := (Rect.mem_set_unit.mp hm) 0
  have hv : (((Rect.unit (s := S4x1024x512) ![e, 0, 0] S1x1024x512.size inb).emb y 0 : Fin _) : ℕ) = e + (y 0).val := Rect.idx_unit_val (s := S4x1024x512) ![e, 0, 0] S1x1024x512.size inb y 0
  have hy : (y 0).val < 1 := (y 0).isLt
  have hl : e' ≤ (((Rect.unit (s := S4x1024x512) ![e, 0, 0] S1x1024x512.size inb).emb y 0 : Fin _) : ℕ) := h0.1
  have hr : (((Rect.unit (s := S4x1024x512) ![e, 0, 0] S1x1024x512.size inb).emb y 0 : Fin _) : ℕ) < e' + 1 := h0.2
  omega

/-- A scratch written slab by slab holds at a slab what was written there. -/
theorem slabA_cons (e e' : ℕ) (h : e ≠ e') (inb : ∀ a, (![e, 0, 0] : Fin 3 → ℕ) a + S1x1024x512.size a ≤ S4x1024x512.size a) (inb' : ∀ a, (![e', 0, 0] : Fin 3 → ℕ) a + S1x1024x512.size a ≤ S4x1024x512.size a)
    (p : Vec F S1x1024x512 .bf16) (L : List (View.Piece (Elt F) S4x1024x512 .bf16)) (y : S1x1024x512.Idx) :
    View.canon (⟨Rect.unit (s := S4x1024x512) ![e', 0, 0] S1x1024x512.size inb', p⟩ :: L) ((Rect.unit (s := S4x1024x512) ![e, 0, 0] S1x1024x512.size inb).emb y) = View.canon L ((Rect.unit (s := S4x1024x512) ![e, 0, 0] S1x1024x512.size inb).emb y) :=
  View.canon_cons_of_not_mem _ _ (slabA_off e e' h inb inb' y)

theorem slabA_top (e : ℕ) (inb : ∀ a, (![e, 0, 0] : Fin 3 → ℕ) a + S1x1024x512.size a ≤ S4x1024x512.size a)
    (p : Vec F S1x1024x512 .bf16) (L : List (View.Piece (Elt F) S4x1024x512 .bf16)) (y : S1x1024x512.Idx) :
    View.canon (⟨Rect.unit (s := S4x1024x512) ![e, 0, 0] S1x1024x512.size inb, p⟩ :: L) ((Rect.unit (s := S4x1024x512) ![e, 0, 0] S1x1024x512.size inb).emb y) = p y :=
  View.canon_cons_emb (Val := Elt F) (Rect.unit (s := S4x1024x512) ![e, 0, 0] S1x1024x512.size inb) p L y

/-- Two experts' slabs of a scratch have no entry in common. -/
theorem slabD_off (e e' : ℕ) (h : e ≠ e') (inb : ∀ a, (![e, 0, 0] : Fin 3 → ℕ) a + S1x512x1024.size a ≤ S4x512x1024.size a) (inb' : ∀ a, (![e', 0, 0] : Fin 3 → ℕ) a + S1x512x1024.size a ≤ S4x512x1024.size a) (y : S1x512x1024.Idx) :
    (Rect.unit (s := S4x512x1024) ![e, 0, 0] S1x512x1024.size inb).emb y ∉ (Rect.unit (s := S4x512x1024) ![e', 0, 0] S1x512x1024.size inb').set := by
  intro hm
  have h0 := (Rect.mem_set_unit.mp hm) 0
  have hv : (((Rect.unit (s := S4x512x1024) ![e, 0, 0] S1x512x1024.size inb).emb y 0 : Fin _) : ℕ) = e + (y 0).val := Rect.idx_unit_val (s := S4x512x1024) ![e, 0, 0] S1x512x1024.size inb y 0
  have hy : (y 0).val < 1 := (y 0).isLt
  have hl : e' ≤ (((Rect.unit (s := S4x512x1024) ![e, 0, 0] S1x512x1024.size inb).emb y 0 : Fin _) : ℕ) := h0.1
  have hr : (((Rect.unit (s := S4x512x1024) ![e, 0, 0] S1x512x1024.size inb).emb y 0 : Fin _) : ℕ) < e' + 1 := h0.2
  omega

/-- A scratch written slab by slab holds at a slab what was written there. -/
theorem slabD_cons (e e' : ℕ) (h : e ≠ e') (inb : ∀ a, (![e, 0, 0] : Fin 3 → ℕ) a + S1x512x1024.size a ≤ S4x512x1024.size a) (inb' : ∀ a, (![e', 0, 0] : Fin 3 → ℕ) a + S1x512x1024.size a ≤ S4x512x1024.size a)
    (p : Vec F S1x512x1024 .bf16) (L : List (View.Piece (Elt F) S4x512x1024 .bf16)) (y : S1x512x1024.Idx) :
    View.canon (⟨Rect.unit (s := S4x512x1024) ![e', 0, 0] S1x512x1024.size inb', p⟩ :: L) ((Rect.unit (s := S4x512x1024) ![e, 0, 0] S1x512x1024.size inb).emb y) = View.canon L ((Rect.unit (s := S4x512x1024) ![e, 0, 0] S1x512x1024.size inb).emb y) :=
  View.canon_cons_of_not_mem _ _ (slabD_off e e' h inb inb' y)

theorem slabD_top (e : ℕ) (inb : ∀ a, (![e, 0, 0] : Fin 3 → ℕ) a + S1x512x1024.size a ≤ S4x512x1024.size a)
    (p : Vec F S1x512x1024 .bf16) (L : List (View.Piece (Elt F) S4x512x1024 .bf16)) (y : S1x512x1024.Idx) :
    View.canon (⟨Rect.unit (s := S4x512x1024) ![e, 0, 0] S1x512x1024.size inb, p⟩ :: L) ((Rect.unit (s := S4x512x1024) ![e, 0, 0] S1x512x1024.size inb).emb y) = p y :=
  View.canon_cons_emb (Val := Elt F) (Rect.unit (s := S4x512x1024) ![e, 0, 0] S1x512x1024.size inb) p L y

end

/-- The gate weights' scratch read back expert by expert: the block's weights, over the reals. -/
theorem wG_apply (x : S1x1x4x1024x512.Idx → Elt Ideal .f32) (i : Fin 1024) (f : Fin 512) :
    rowA 0 inb_S4x1024x512_S1x1024x512_0_0_0 (wG x) (ix3 0 i f) = x (ix5 0 0 0 i f)
    ∧ rowA 1 inb_S4x1024x512_S1x1024x512_1_0_0 (wG x) (ix3 0 i f) = x (ix5 0 0 1 i f)
    ∧ rowA 2 inb_S4x1024x512_S1x1024x512_2_0_0 (wG x) (ix3 0 i f) = x (ix5 0 0 2 i f)
    ∧ rowA 3 inb_S4x1024x512_S1x1024x512_3_0_0 (wG x) (ix3 0 i f) = x (ix5 0 0 3 i f) := by
  refine ⟨?_, ?_, ?_, ?_⟩
  · show View.canon _ ((Rect.unit (s := S4x1024x512) ![0, 0, 0] S1x1024x512.size inb_S4x1024x512_S1x1024x512_0_0_0).emb (ix3 0 i f)) = _
    refine (slabA_cons 0 3 (by decide) _ _ _ _ _).trans ?_; refine (slabA_cons 0 2 (by decide) _ _ _ _ _).trans ?_; refine (slabA_cons 0 1 (by decide) _ _ _ _ _).trans ?_; refine (slabA_top 0 _ _ _ _).trans ?_
    pointwise [k0_pay3]
  · show View.canon _ ((Rect.unit (s := S4x1024x512) ![1, 0, 0] S1x1024x512.size inb_S4x1024x512_S1x1024x512_1_0_0).emb (ix3 0 i f)) = _
    refine (slabA_cons 1 3 (by decide) _ _ _ _ _).trans ?_; refine (slabA_cons 1 2 (by decide) _ _ _ _ _).trans ?_; refine (slabA_top 1 _ _ _ _).trans ?_
    pointwise [k0_pay6]
  · show View.canon _ ((Rect.unit (s := S4x1024x512) ![2, 0, 0] S1x1024x512.size inb_S4x1024x512_S1x1024x512_2_0_0).emb (ix3 0 i f)) = _
    refine (slabA_cons 2 3 (by decide) _ _ _ _ _).trans ?_; refine (slabA_top 2 _ _ _ _).trans ?_
    pointwise [k0_pay9]
  · show View.canon _ ((Rect.unit (s := S4x1024x512) ![3, 0, 0] S1x1024x512.size inb_S4x1024x512_S1x1024x512_3_0_0).emb (ix3 0 i f)) = _
    refine (slabA_top 3 _ _ _ _).trans ?_
    pointwise [k0_pay12]

/-- The up weights' scratch read back expert by expert: the block's weights, over the reals. -/
theorem wU_apply (x : S1x1x4x1024x512.Idx → Elt Ideal .f32) (i : Fin 1024) (f : Fin 512) :
    rowA 0 inb_S4x1024x512_S1x1024x512_0_0_0 (wU x) (ix3 0 i f) = x (ix5 0 0 0 i f)
    ∧ rowA 1 inb_S4x1024x512_S1x1024x512_1_0_0 (wU x) (ix3 0 i f) = x (ix5 0 0 1 i f)
    ∧ rowA 2 inb_S4x1024x512_S1x1024x512_2_0_0 (wU x) (ix3 0 i f) = x (ix5 0 0 2 i f)
    ∧ rowA 3 inb_S4x1024x512_S1x1024x512_3_0_0 (wU x) (ix3 0 i f) = x (ix5 0 0 3 i f) := by
  refine ⟨?_, ?_, ?_, ?_⟩
  · show View.canon _ ((Rect.unit (s := S4x1024x512) ![0, 0, 0] S1x1024x512.size inb_S4x1024x512_S1x1024x512_0_0_0).emb (ix3 0 i f)) = _
    refine (slabA_cons 0 3 (by decide) _ _ _ _ _).trans ?_; refine (slabA_cons 0 2 (by decide) _ _ _ _ _).trans ?_; refine (slabA_cons 0 1 (by decide) _ _ _ _ _).trans ?_; refine (slabA_top 0 _ _ _ _).trans ?_
    pointwise [k0_pay4]
  · show View.canon _ ((Rect.unit (s := S4x1024x512) ![1, 0, 0] S1x1024x512.size inb_S4x1024x512_S1x1024x512_1_0_0).emb (ix3 0 i f)) = _
    refine (slabA_cons 1 3 (by decide) _ _ _ _ _).trans ?_; refine (slabA_cons 1 2 (by decide) _ _ _ _ _).trans ?_; refine (slabA_top 1 _ _ _ _).trans ?_
    pointwise [k0_pay7]
  · show View.canon _ ((Rect.unit (s := S4x1024x512) ![2, 0, 0] S1x1024x512.size inb_S4x1024x512_S1x1024x512_2_0_0).emb (ix3 0 i f)) = _
    refine (slabA_cons 2 3 (by decide) _ _ _ _ _).trans ?_; refine (slabA_top 2 _ _ _ _).trans ?_
    pointwise [k0_pay10]
  · show View.canon _ ((Rect.unit (s := S4x1024x512) ![3, 0, 0] S1x1024x512.size inb_S4x1024x512_S1x1024x512_3_0_0).emb (ix3 0 i f)) = _
    refine (slabA_top 3 _ _ _ _).trans ?_
    pointwise [k0_pay13]

/-- The down weights' scratch read back expert by expert: the block's weights, over the reals. -/
theorem wD_apply (x : S1x1x4x512x1024.Idx → Elt Ideal .f32) (i : Fin 512) (f : Fin 1024) :
    rowD 0 inb_S4x512x1024_S1x512x1024_0_0_0 (wD x) (ix3 0 i f) = x (ix5 0 0 0 i f)
    ∧ rowD 1 inb_S4x512x1024_S1x512x1024_1_0_0 (wD x) (ix3 0 i f) = x (ix5 0 0 1 i f)
    ∧ rowD 2 inb_S4x512x1024_S1x512x1024_2_0_0 (wD x) (ix3 0 i f) = x (ix5 0 0 2 i f)
    ∧ rowD 3 inb_S4x512x1024_S1x512x1024_3_0_0 (wD x) (ix3 0 i f) = x (ix5 0 0 3 i f) := by
  refine ⟨?_, ?_, ?_, ?_⟩
  · show View.canon _ ((Rect.unit (s := S4x512x1024) ![0, 0, 0] S1x512x1024.size inb_S4x512x1024_S1x512x1024_0_0_0).emb (ix3 0 i f)) = _
    refine (slabD_cons 0 3 (by decide) _ _ _ _ _).trans ?_; refine (slabD_cons 0 2 (by decide) _ _ _ _ _).trans ?_; refine (slabD_cons 0 1 (by decide) _ _ _ _ _).trans ?_; refine (slabD_top 0 _ _ _ _).trans ?_
    pointwise [k0_pay5]
  · show View.canon _ ((Rect.unit (s := S4x512x1024) ![1, 0, 0] S1x512x1024.size inb_S4x512x1024_S1x512x1024_1_0_0).emb (ix3 0 i f)) = _
    refine (slabD_cons 1 3 (by decide) _ _ _ _ _).trans ?_; refine (slabD_cons 1 2 (by decide) _ _ _ _ _).trans ?_; refine (slabD_top 1 _ _ _ _).trans ?_
    pointwise [k0_pay8]
  · show View.canon _ ((Rect.unit (s := S4x512x1024) ![2, 0, 0] S1x512x1024.size inb_S4x512x1024_S1x512x1024_2_0_0).emb (ix3 0 i f)) = _
    refine (slabD_cons 2 3 (by decide) _ _ _ _ _).trans ?_; refine (slabD_top 2 _ _ _ _).trans ?_
    pointwise [k0_pay11]
  · show View.canon _ ((Rect.unit (s := S4x512x1024) ![3, 0, 0] S1x512x1024.size inb_S4x512x1024_S1x512x1024_3_0_0).emb (ix3 0 i f)) = _
    refine (slabD_top 3 _ _ _ _).trans ?_
    pointwise [k0_pay14]

/-- The row of a tile in use: the experts' shares of it, added in order. -/
def mix (x : Fin 1024 → EReal) (h : Fin 4 → EReal) (g u : Fin 4 → Fin 1024 → Fin 512 → EReal) (d : Fin 4 → Fin 512 → Fin 1024 → EReal) (k : Fin 1024) : EReal :=
  0 + part x (h 0) (g 0) (u 0) (d 0) k + part x (h 1) (g 1) (u 1) (d 1) k + part x (h 2) (g 2) (u 2) (d 2) k + part x (h 3) (g 3) (u 3) (d 3) k

theorem outUse_apply (x0 : S512x1152.Idx → Elt Ideal .f32) (x1 x2 : S1x1x4x1024x512.Idx → Elt Ideal .f32) (x3 : S1x1x4x512x1024.Idx → Elt Ideal .f32) (x4 x5 : S1024.Idx → Elt Ideal .f32) (r : Fin 512) (k : Fin 1024) :
    outUse x0 (wG x1) (wU x2) (wD x3) x4 x5 (ix2 r k)
      = normed (blend (fun i => x0 (ix2 r (i.castLE (by decide)))) (mix (fun i => x0 (ix2 r (i.castLE (by decide)))) (fun e => x0 (ix2 r ⟨1024 + e.val, by omega⟩))
          (fun e i f => x1 (ix5 0 0 e i f)) (fun e i f => x2 (ix5 0 0 e i f)) (fun e f i => x3 (ix5 0 0 e f i)))) (fun i => x4 (ix1 i)) (fun i => x5 (ix1 i)) k := by
  have hX : ∀ i : Fin 1024, colsX x0 (ix2 r i) = x0 (ix2 r (i.castLE (by decide))) := fun i => by pointwise [colsX]; rfl
  have hH : ∀ e : Fin 4, colsH x0 (ix2 r (e.castLE (by decide))) = x0 (ix2 r ⟨1024 + e.val, by omega⟩) := fun i => by pointwise [colsH]; rfl
  have h4 : ∀ i : Fin 1024, View.ld (Val := Elt Ideal) x4 (Rect.unit ![0] S1024.size inb_S1024_S1024_0) (ix1 i) = x4 (ix1 i) := fun i => by pointwise
  have h5 : ∀ i : Fin 1024, View.ld (Val := Elt Ideal) x5 (Rect.unit ![0] S1024.size inb_S1024_S1024_0) (ix1 i) = x5 (ix1 i) := fun i => by pointwise
  unfold outUse
  rw [pay1_apply, pay23_apply]
  simp only [pay22_apply]
  unfold twoUse
  simp only [pay19_apply, pay16_apply, h4, h5, hX, fun i f => (wG_apply x1 i f).1, fun i f => (wG_apply x1 i f).2.1, fun i f => (wG_apply x1 i f).2.2.1, fun i f => (wG_apply x1 i f).2.2.2, fun i f => (wU_apply x2 i f).1, fun i f => (wU_apply x2 i f).2.1, fun i f => (wU_apply x2 i f).2.2.1, fun i f => (wU_apply x2 i f).2.2.2, fun i f => (wD_apply x3 i f).1, fun i f => (wD_apply x3 i f).2.1, fun i f => (wD_apply x3 i f).2.2.1, fun i f => (wD_apply x3 i f).2.2.2]
  rw [show colsH x0 (ix2 r 0) = _ from hH 0, show colsH x0 (ix2 r 1) = _ from hH 1, show colsH x0 (ix2 r 2) = _ from hH 2, show colsH x0 (ix2 r 3) = _ from hH 3]
  rfl

end Cert.Proof.Experts
-- ==== Proof.HierPure.lean ====
/-
  The reference of the experts call over the reals: what it computes at a row and a column.
-/
module

public import proofs.«01_k».proof.Proof.ExpPure
public import proofs.«01_k».proof.Proof.Gen.HierIdeal.Run
public import Idealize.ShloMosaic.Lib.Routing.OpsPair

@[expose] public section

set_option maxRecDepth 16384

noncomputable section

namespace Cert.Proof.Hier

open Cert.HierIdeal Cert.HierIdeal.Gen Cert.HierIdeal.Value
open Idealize.ShloMosaic Idealize.ShloMosaic.TcCoe

/-- The dimension numbers of the gather of whole row blocks. -/
abbrev D : GatherDims S68x512x1152 S68x1 S68x512x1152 := gather_S68x512x1152_S68x1_S68x512x1152_12_0_n_n_0_1_15121152

theorem block_zero (w : IVec S68x1 32) (t : Fin 68) (r : Fin 512) (d : Fin 1152) :
    (D.operandIdx (ix3 t r d) w 0).val = min (w (ix2 t 0)).toInt.toNat 67 := by
  show D.start (ix3 t r d) w 0 + D.batchCoord (ix3 t r d) 0 + D.offCoord (ix3 t r d) 0 = _
  rw [D.batchCoord_eq_zero _ _ List.not_mem_nil, D.offCoord_eq_zero _ _ (by decide)]
  show min (w _).toInt.toNat _ = _
  have h : D.siIdx (ix3 t r d) ⟨D.startIndexMap.idxOf 0, List.idxOf_lt_length_iff.2 (by decide)⟩ = ix2 t (0 : Fin 1) := by
    funext b
    match b with
    | ⟨0, _⟩ => rfl
    | ⟨1, _⟩ => rfl
  rw [h]
  rfl

theorem block_one (w : IVec S68x1 32) (t : Fin 68) (r : Fin 512) (d : Fin 1152) :
    (D.operandIdx (ix3 t r d) w 1).val = r.val := by
  show D.start (ix3 t r d) w 1 + D.batchCoord (ix3 t r d) 1 + D.offCoord (ix3 t r d) 1 = _
  rw [D.batchCoord_eq_zero _ _ List.not_mem_nil]
  have h : D.start (ix3 t r d) w 1 = 0 := rfl
  rw [h]
  simp only [Nat.zero_add, Nat.add_zero]
  rfl

theorem block_two (w : IVec S68x1 32) (t : Fin 68) (r : Fin 512) (d : Fin 1152) :
    (D.operandIdx (ix3 t r d) w 2).val = d.val := by
  show D.start (ix3 t r d) w 2 + D.batchCoord (ix3 t r d) 2 + D.offCoord (ix3 t r d) 2 = _
  rw [D.batchCoord_eq_zero _ _ List.not_mem_nil]
  have h : D.start (ix3 t r d) w 2 = 0 := rfl
  rw [h]
  simp only [Nat.zero_add, Nat.add_zero]
  rfl

theorem gather_block {α : Type} (x : S68x512x1152.Idx → α) (w : IVec S68x1 32) (t : Fin 68) (r : Fin 512) (d : Fin 1152)
    (j : Fin 68) (h : min (w (ix2 t 0)).toInt.toNat 67 = j.val) : Host.gather D x w (ix3 t r d) = x (ix3 j r d) := by
  unfold Host.gather
  refine congrArg x (funext fun a => Fin.ext ?_)
  match a with
  | ⟨0, _⟩ => exact (block_zero w t r d).trans h
  | ⟨1, _⟩ => exact block_one w t r d
  | ⟨2, _⟩ => exact block_two w t r d

/-- A block number below `68` is read as it is: it is not wrapped and not clamped. -/
theorem word_read (w : BitVec 32) (h : w.toNat < 68) :
    min (Scalar.select (IntOp.cmpi .slt w 0#32) (IntOp.addi w 68#32) w).toInt.toNat 67 = w.toNat := by
  rw [Routing.wrap_of_lt _ _ (by omega), BitVec.toInt_eq_toNat_of_lt (by omega)]
  omega

variable (V : Valuation τ sig (Elt Ideal))

/-- The row of the call's first argument that its row `n` is computed from: row `n % 512` of the block its table names. -/
def src (n : Fin 34816) (h : (V main_arg2 (ix1 ⟨n.val / 512, by omega⟩) : BitVec 32).toNat < 68) : Fin 34816 :=
  ⟨(V main_arg2 (ix1 ⟨n.val / 512, by omega⟩) : BitVec 32).toNat * 512 + n.val % 512, by omega⟩

/-- The column of block numbers the gather is given, at a position. -/
theorem wrap_col (w : IVec S68 32) (t : Fin 68) (z : Fin 1) :
    broadcastInDim S68x1 ![0] bcast_S68_S68x1_0 (select (cmpi .slt w (broadcastInDim S68 ![] bcast_S_S68 (constantI S_ 32 0#32)))
      (addi w (broadcastInDim S68 ![] bcast_S_S68 (constantI S_ 32 68#32))) w) (ix2 t z)
      = Scalar.select (IntOp.cmpi .slt (w (ix1 t)) 0#32) (IntOp.addi (w (ix1 t)) 68#32) (w (ix1 t)) := by
  pointwise

/-- The gathered rows. -/
theorem v8_apply (n : Fin 34816) (h : (V main_arg2 (ix1 ⟨n.val / 512, by omega⟩) : BitVec 32).toNat < 68) (d : Fin 1152) :
    res_main_v8 V (ix2 n d) = V main_arg0 (ix2 (src V n h) d) := by
  pointwise [res_main_v8]
  refine (gather_block _ _ _ _ d ⟨_, h⟩ ?_).trans ?_
  · rw [wrap_col]
    exact word_read _ h
  · pointwise
    rfl

/-- Whether a row's group word is `g`, as a number. -/
def hot (w : BitVec 32) (g : ℕ) : EReal := FloatOps.uitofp (F := Ideal) .f32 (IntOp.cmpi .eq w (BitVec.ofNat 32 g))

theorem hot_self (g : ℕ) : hot (BitVec.ofNat 32 g) g = 1 := by
  unfold hot
  rw [WordCmp.cmpi_eq_eq, decide_eq_true rfl]
  show (((1 : ℕ) : ℝ) : EReal) = 1
  norm_num

theorem hot_other (w : BitVec 32) (g : ℕ) (h : w ≠ BitVec.ofNat 32 g) : hot w g = 0 := by
  unfold hot
  rw [WordCmp.cmpi_eq_eq, decide_eq_false h]
  show (((0 : ℕ) : ℝ) : EReal) = 0
  norm_num

/-- One group's share of a row's entry, its experts' weights multiplied by `p`. -/
def group (x : Fin 1024 → EReal) (p : EReal) (h : Fin 4 → EReal) (g u : Fin 4 → Fin 1024 → Fin 512 → EReal) (d : Fin 4 → Fin 512 → Fin 1024 → EReal) (k : Fin 1024) : EReal :=
  ∑ e, Experts.part x (p * h e) (g e) (u e) (d e) k

theorem group_one (x : Fin 1024 → EReal) (h : Fin 4 → EReal) (g u : Fin 4 → Fin 1024 → Fin 512 → EReal) (d : Fin 4 → Fin 512 → Fin 1024 → EReal) (k : Fin 1024) :
    group x 1 h g u d k = Experts.mix x h g u d k := by
  unfold group Experts.mix
  simp only [one_mul, Fin.sum_univ_four, zero_add]

theorem group_zero (x : Fin 1024 → EReal) (h : Fin 4 → EReal) (g u : Fin 4 → Fin 1024 → Fin 512 → EReal) (d : Fin 4 → Fin 512 → Fin 1024 → EReal) (k : Fin 1024) :
    group x 0 h g u d k = 0 := by
  unfold group Experts.part Experts.hidden
  simp only [zero_mul, mul_zero, Finset.sum_const_zero]

/-- Only the row's own group counts. -/
theorem group_sum (w : BitVec 32) (hw : w.toNat < 4) (x : Fin 1024 → EReal) (h : Fin 4 → EReal) (g u : Fin 4 → Fin 4 → Fin 1024 → Fin 512 → EReal) (d : Fin 4 → Fin 4 → Fin 512 → Fin 1024 → EReal) (k : Fin 1024) :
    ∑ q : Fin 4, group x (hot w q.val) h (g q) (u q) (d q) k = Experts.mix x h (g ⟨w.toNat, hw⟩) (u ⟨w.toNat, hw⟩) (d ⟨w.toNat, hw⟩) k := by
  rw [Finset.sum_eq_single (⟨w.toNat, hw⟩ : Fin 4)]
  · have e : hot w w.toNat = 1 := by
      have := hot_self w.toNat
      rwa [BitVec.ofNat_toNat, BitVec.setWidth_eq] at this
    show group x (hot w w.toNat) h _ _ _ k = _
    rw [e]
    exact group_one _ _ _ _ _ _
  · intro q _ hq
    rw [hot_other w q.val (fun e => hq (Fin.ext (by
      show q.val = w.toNat
      rw [e, BitVec.toNat_ofNat]
      exact (Nat.mod_eq_of_lt (by omega)).symm))), group_zero]
  · intro hq
    exact absurd (Finset.mem_univ _) hq

/-- One entry of a product of a row with a matrix. -/
def dot (x a : Fin 1024 → EReal) : EReal := ∑ d, x d * a d

/-- The reference's term for a row's entry, before the scaled row is added: the four groups' shares. -/
theorem v87_apply (n : Fin 34816) (k : Fin 1024) :
    res_main_v87 V (ix2 n k) = ∑ q : Fin 4, group (fun i => res_main_v8 V (ix2 n (i.castLE (by decide)))) (hot (V main_arg1 (ix1 ⟨n.val / 512, by omega⟩)) q.val)
      (fun e => res_main_v8 V (ix2 n ⟨1024 + e.val, by omega⟩)) (fun e i f => V main_arg4 (ix5 0 q e i f)) (fun e i f => V main_arg5 (ix5 0 q e i f)) (fun e f i => V main_arg6 (ix5 0 q e f i)) k := by
  have h9 : ∀ i : Fin 1024, res_main_v9 V (ix2 n i) = res_main_v8 V (ix2 n (i.castLE (by decide))) := fun i => by
    pointwise [res_main_v9]
    rfl
  have h18 : ∀ g e : Fin 4, res_main_v18 V (ix3 n g e) = hot (V main_arg1 (ix1 ⟨n.val / 512, by omega⟩)) g.val * res_main_v8 V (ix2 n ⟨1024 + e.val, by omega⟩) := fun g e => by
    pointwise [res_main_v18]
    rfl
  have hh : ∀ (e : Fin 4) (f : Fin 512), res_main_v22 V (ix3 n e f) = dot (fun x => res_main_v9 V (ix2 n x)) (fun x => V main_arg4 (ix5 0 0 e x f)) := fun e f => by
    pointwise [res_main_v22]
    rfl
  have h39 : ∀ (e : Fin 4) (f : Fin 512), res_main_v39 V (ix3 n e f) = dot (fun x => res_main_v9 V (ix2 n x)) (fun x => V main_arg4 (ix5 0 1 e x f)) := fun e f => by
    pointwise [res_main_v39]
    rfl
  have h56 : ∀ (e : Fin 4) (f : Fin 512), res_main_v56 V (ix3 n e f) = dot (fun x => res_main_v9 V (ix2 n x)) (fun x => V main_arg4 (ix5 0 2 e x f)) := fun e f => by
    pointwise [res_main_v56]
    rfl
  have h73 : ∀ (e : Fin 4) (f : Fin 512), res_main_v73 V (ix3 n e f) = dot (fun x => res_main_v9 V (ix2 n x)) (fun x => V main_arg4 (ix5 0 3 e x f)) := fun e f => by
    pointwise [res_main_v73]
    rfl
  rw [Fin.sum_univ_four]
  pointwise [res_main_v87]
  simp only [hh, h39, h56, h73, h18, h9]
  rfl

/-- The reference's result, as a term of its arguments. -/
def result : FVec Ideal S34816x1024 .f32 := select (broadcastInDim S34816x1024 ![0, 1] bcast_S34816x1_S34816x1024_0_1 (broadcastInDim S34816x1 ![0] bcast_S34816_S34816x1_0 (shapeCast _ (broadcastInDim S68x512 ![0] bcast_S68_S68x512_0 (cmpi .slt (iotaInDim S68 32 0) (broadcastInDim S68 ![] bcast_S_S68 (shapeCast _ (V (Proc.devRef .tc main_arg3)) shapeCasts_S1_S_)))) shapeCasts_S68x512_S34816))) (addf (mulf (mulf (subf (res_main_v90 V) (broadcastInDim S34816x1024 ![0, 1] bcast_S34816x1_S34816x1024_0_1 (res_main_v94 V))) (broadcastInDim S34816x1024 ![0, 1] bcast_S34816x1_S34816x1024_0_1 (Host.rsqrt (addf (Host.divf (broadcastInDim S34816x1 ![0] bcast_S34816_S34816x1_0 (Host.reduceAdd (mulf (res_main_v96 V) (res_main_v96 V)) (constant S_ .f32 0x00000000#32) reducesTo_S34816x1024_S34816_d1 h_S_)) (broadcastInDim S34816x1 ![] bcast_S_S34816x1 (constant S_ .f32 0x44800000#32))) (broadcastInDim S34816x1 ![] bcast_S_S34816x1 (constant S_ .f32 0x3727C5AC#32)))))) (broadcastInDim S34816x1024 ![0, 1] bcast_S1x1024_S34816x1024_0_1 (broadcastInDim S1x1024 ![1] bcast_S1024_S1x1024_1 (V (Proc.devRef .tc main_arg7))))) (broadcastInDim S34816x1024 ![0, 1] bcast_S1x1024_S34816x1024_0_1 (broadcastInDim S1x1024 ![1] bcast_S1024_S1x1024_1 (V (Proc.devRef .tc main_arg8))))) (broadcastInDim S34816x1024 ![] bcast_S_S34816x1024 (id (constant S_ .f32 0x00000000#32)))

theorem v90_apply (n : Fin 34816) (k : Fin 1024) :
    res_main_v90 V (ix2 n k) = Experts.blend (fun i => res_main_v9 V (ix2 n i)) (fun i => res_main_v87 V (ix2 n i)) k := by
  pointwise [res_main_v90]
  rfl

theorem v96_apply (n : Fin 34816) (k : Fin 1024) :
    res_main_v96 V (ix2 n k) = Experts.centred (fun i => res_main_v90 V (ix2 n i)) k := by
  pointwise [res_main_v96, res_main_v94]
  rfl

theorem result_apply0 (n : Fin 34816) (k : Fin 1024) :
    result V (ix2 n k) = Scalar.select (IntOp.cmpi .slt (BitVec.ofNat 32 (n.val / 512)) (V main_arg3 (ix1 0)))
      (Experts.normed (fun i => res_main_v90 V (ix2 n i)) (fun i => V main_arg7 (ix1 i)) (fun i => V main_arg8 (ix1 i)) k) 0 := by
  have z : id (constant (F := Ideal) S_ .f32 0x00000000#32) ix0 = (0 : EReal) := by
    show constant (F := Ideal) S_ .f32 0x00000000#32 ix0 = (0 : EReal)
    pointwise
  pointwise [result, res_main_v94]
  simp only [v96_apply]
  rw [z]
  rfl

/-- A row of the call's first argument, its first 1024 columns. -/
def rowX (n : Fin 34816) (i : Fin 1024) : EReal := V main_arg0 (ix2 n (i.castLE (by decide)))

/-- A row's weights: the four columns after them. -/
def rowH (n : Fin 34816) (e : Fin 4) : EReal := V main_arg0 (ix2 n ⟨1024 + e.val, by omega⟩)

/-- An entry of the result before the rows past the count are cleared: the row `r` put through the experts of group `q`. -/
def entryAt (r : Fin 34816) (q : Fin 4) (k : Fin 1024) : EReal :=
  Experts.normed (Experts.blend (rowX V r) (Experts.mix (rowX V r) (rowH V r) (fun e i f => V main_arg4 (ix5 0 q e i f)) (fun e i f => V main_arg5 (ix5 0 q e i f)) (fun e f i => V main_arg6 (ix5 0 q e f i))))
    (fun i => V main_arg7 (ix1 i)) (fun i => V main_arg8 (ix1 i)) k

/-- The reference's result at an index. -/
theorem result_apply (n : Fin 34816) (k : Fin 1024) (hj : (V main_arg2 (ix1 ⟨n.val / 512, by omega⟩) : BitVec 32).toNat < 68) (hg : (V main_arg1 (ix1 ⟨n.val / 512, by omega⟩) : BitVec 32).toNat < 4) :
    result V (ix2 n k) = Scalar.select (IntOp.cmpi .slt (BitVec.ofNat 32 (n.val / 512)) (V main_arg3 (ix1 0))) (entryAt V (src V n hj) ⟨_, hg⟩ k) 0 := by
  have h9 : (fun i => res_main_v9 V (ix2 n i)) = rowX V (src V n hj) := funext fun i => by
    have e : res_main_v9 V (ix2 n i) = res_main_v8 V (ix2 n (i.castLE (by decide))) := by
      pointwise [res_main_v9]
      rfl
    exact e.trans (v8_apply V n hj _)
  have h8 : (fun i : Fin 1024 => res_main_v8 V (ix2 n (i.castLE (by decide)))) = rowX V (src V n hj) := funext fun i => v8_apply V n hj _
  have hH : (fun e : Fin 4 => res_main_v8 V (ix2 n ⟨1024 + e.val, by omega⟩)) = rowH V (src V n hj) := funext fun e => v8_apply V n hj _
  have h87 : (fun i => res_main_v87 V (ix2 n i)) = Experts.mix (rowX V (src V n hj)) (rowH V (src V n hj)) (fun e i f => V main_arg4 (ix5 0 ⟨_, hg⟩ e i f)) (fun e i f => V main_arg5 (ix5 0 ⟨_, hg⟩ e i f)) (fun e f i => V main_arg6 (ix5 0 ⟨_, hg⟩ e f i)) := funext fun i => by
    rw [v87_apply, h8, hH]
    exact group_sum _ hg _ _ (fun q e i f => V main_arg4 (ix5 0 q e i f)) (fun q e i f => V main_arg5 (ix5 0 q e i f)) (fun q e f i => V main_arg6 (ix5 0 q e f i)) i
  have h90 : (fun i => res_main_v90 V (ix2 n i)) = Experts.blend (rowX V (src V n hj)) (Experts.mix (rowX V (src V n hj)) (rowH V (src V n hj)) (fun e i f => V main_arg4 (ix5 0 ⟨_, hg⟩ e i f)) (fun e i f => V main_arg5 (ix5 0 ⟨_, hg⟩ e i f)) (fun e f i => V main_arg6 (ix5 0 ⟨_, hg⟩ e f i))) := funext fun i => by
    rw [v90_apply, h9, h87]
  rw [result_apply0, h90]
  rfl

end Cert.Proof.Hier

end
-- ==== Proof.Algebra.lean ====
/-
  The experts call and its reference compute the same array over the reals.
-/
module

public import proofs.«01_k».proof.Proof.ExpArr
public import proofs.«01_k».proof.Proof.ExpClaim
public import proofs.«01_k».proof.Proof.HierPure

@[expose] public section

set_option maxRecDepth 16384

noncomputable section

namespace Cert.Proof.Algebra

open Idealize.ShloMosaic Idealize.ShloMosaic.TcCoe
open Cert.Experts Cert.Experts.Gen Cert.Proof.Experts

/-- The condition a point's body branches on is the comparison of the point with the count. -/
theorem inUse_iff (i : grid0.Coords) (T2 : S1.Idx → BitVec 32) : InUse (F := Ideal) i T2 ↔ IntOp.cmpi .slt (BitVec.ofNat 32 (i 0).val) (T2 (ix1 0)) = 1#1 := by
  have e : countW (F := Ideal) T2 = T2 (ix1 0) := congrArg T2 (funext fun a => by match a with | ⟨0, _⟩ => rfl)
  unfold InUse
  rw [e]
  unfold k0_cond2
  show IntOp.cmpi .ne ((IntOp.cmpi .slt (BitVec.ofNat 32 (i 0).val) (T2 (ix1 0))).setWidth 32) 0#32 = 1#1 ↔ _
  generalize IntOp.cmpi .slt (BitVec.ofNat 32 (i 0).val) (T2 (ix1 0)) = w
  revert w
  decide

theorem pay2_apply (r : Fin 512) (k : Fin 1024) : k0_pay2 (F := Ideal) (ix2 r k) = (0 : EReal) := by
  pointwise [k0_pay2]

variable (a : (pcfg0 (F := Ideal)).Adm) (m : (ℓ : Loc nD τ sig) → Buf (Elt Ideal) ℓ) (c : Dev nD)
variable (V : Valuation Cert.HierIdeal.τ Cert.HierIdeal.sig (Elt Ideal))

/-- The reference's arguments are the call's. -/
structure Same : Prop where
  x : V Cert.HierIdeal.main_arg0 = m ((c : Thread nD τ).loc main_arg0)
  g : V Cert.HierIdeal.main_arg1 = m ((c : Thread nD τ).loc main_arg1)
  j : V Cert.HierIdeal.main_arg2 = m ((c : Thread nD τ).loc main_arg2)
  n : V Cert.HierIdeal.main_arg3 = m ((c : Thread nD τ).loc main_arg3)
  wg : V Cert.HierIdeal.main_arg4 = m ((c : Thread nD τ).loc main_arg4)
  wu : V Cert.HierIdeal.main_arg5 = m ((c : Thread nD τ).loc main_arg5)
  wd : V Cert.HierIdeal.main_arg6 = m ((c : Thread nD τ).loc main_arg6)
  lg : V Cert.HierIdeal.main_arg7 = m ((c : Thread nD τ).loc main_arg7)
  lb : V Cert.HierIdeal.main_arg8 = m ((c : Thread nD τ).loc main_arg8)

theorem entry_eq (n : ℕ) (h : n < 68) : entry n h = ix1 ⟨n, h⟩ := funext fun x => by match x with | ⟨0, _⟩ => rfl

/-- What a point leaves at an index, of the row it reads and its group. -/
theorem oblk_apply (s : Same m c V) (ht : ∀ j, m ((c : Thread nD τ).loc (pre0.ref j)) = a.1 j) (t : Fin (cfgA a).N) (r : Fin 512) (k : Fin 1024) (src : Fin 34816) (q : Fin 4)
    (hs : src.val = (tJ a (entry t.val (lt_of_lt_of_eq t.isLt N_0))).toNat * 512 + r.val) (hq : q.val = (tG a (entry t.val (lt_of_lt_of_eq t.isLt N_0))).toNat) :
    oblk a m c t (ix2 r k) = Scalar.select (IntOp.cmpi .slt (BitVec.ofNat 32 t.val) (V Cert.HierIdeal.main_arg3 (ix1 0))) (Hier.entryAt V src q k) 0 := by
  have hn : tN a = V Cert.HierIdeal.main_arg3 := (ht 2).symm.trans s.n.symm
  unfold oblk outAt
  by_cases h : InUse (crd a t) (tN a)
  · rw [if_pos h]
    have hc := (inUse_iff _ _).mp h
    rw [crd_val, hn] at hc
    rw [hc, WordCmp.select_one, outUse_apply]
    unfold Hier.entryAt Hier.rowX Hier.rowH
    rw [s.x, s.wg, s.wu, s.wd, s.lg, s.lb]
    simp only [in_0_apply a m c t r _ src hs, in_1_apply a m c t _ _ _ q hq, in_2_apply a m c t _ _ _ q hq, in_3_apply a m c t _ _ _ q hq, in_4_apply, in_5_apply]
  · rw [if_neg h]
    have hc := mt (inUse_iff _ _).mpr h
    rw [crd_val, hn] at hc
    rw [WordCmp.select_of_eq_zero ((BitVec.eq_zero_or_eq_one _).resolve_right hc)]
    exact pay2_apply r k

/-- The array after the run is the reference's. -/
theorem arr_eq (s : Same m c V) (h : MemInRange m) :
    (dats (adm m h) m 0 c).arrAt (6 : Fin 7) (cfgA (adm m h)).N = Hier.result V := by
  refine funext fun (i : S34816x1024.Idx) => ?_
  obtain ⟨n, k, rfl⟩ : ∃ (n : Fin 34816) (k : Fin 1024), i = ix2 n k := ⟨i 0, i 1, funext fun x => by match x with | ⟨0, _⟩ => rfl | ⟨1, _⟩ => rfl⟩
  have ht := adm_tables m h c
  have hlt : n.val / 512 < 68 := by omega
  have hJ : tJ (adm m h) (entry (n.val / 512) hlt) = V Cert.HierIdeal.main_arg2 (ix1 ⟨n.val / 512, hlt⟩) := by
    rw [s.j, entry_eq]; exact (congrFun (ht 1) _).symm
  have hG : tG (adm m h) (entry (n.val / 512) hlt) = V Cert.HierIdeal.main_arg1 (ix1 ⟨n.val / 512, hlt⟩) := by
    rw [s.g, entry_eq]; exact (congrFun (ht 0) _).symm
  have bJ : (V Cert.HierIdeal.main_arg2 (ix1 ⟨n.val / 512, hlt⟩) : BitVec 32).toNat < 68 := by
    rw [← hJ]; exact (h _).2
  have bG : (V Cert.HierIdeal.main_arg1 (ix1 ⟨n.val / 512, hlt⟩) : BitVec 32).toNat < 4 := by
    rw [← hG]; exact (h _).1
  have e := arr_out (adm m h) m c ⟨n.val / 512, lt_of_lt_of_eq hlt N_0.symm⟩ ⟨n.val % 512, Nat.mod_lt _ (by decide)⟩ k n (by show n.val = n.val / 512 * 512 + n.val % 512; omega)
  refine e.trans ((oblk_apply (adm m h) m c V s ht _ _ k (Hier.src V n bJ) ⟨_, bG⟩ ?_ ?_).trans (Hier.result_apply V n k bJ bG).symm)
  · show _ = BitVec.toNat (tJ (adm m h) (entry (n.val / 512) hlt)) * 512 + n.val % 512
    rw [hJ]; rfl
  · show _ = BitVec.toNat (tG (adm m h) (entry (n.val / 512) hlt))
    rw [hG]

theorem algebraic : Cert.algebraic_ExpertsIdeal_HierIdeal := fun m g m' g' hp hsame => by
  have h := inRange_of_PreIdeal m hp
  have s : ∀ c : Dev nD, Same m c (StableHlo.launchContents m' c) := fun c =>
    ⟨(hsame c).1, (hsame c).2.1, (hsame c).2.2.1, (hsame c).2.2.2.1, (hsame c).2.2.2.2.1, (hsame c).2.2.2.2.2.1, (hsame c).2.2.2.2.2.2.1, (hsame c).2.2.2.2.2.2.2.1, (hsame c).2.2.2.2.2.2.2.2⟩
  refine ⟨fun c => Hier.result (StableHlo.launchContents m' c), (run_ideal m g _).mp ?_, ?_⟩
  · exact (θ_run _ _ _).mono (fun r hr c => ⟨((hr.1 c).1 (6 : Fin 7)).trans (arr_eq m c _ (s c) h), unchanged_of_post (adm m h) m (adm_tables m h) r hr.1 c⟩) (run m g h)
  · exact (θ_run _ _ _).mono (fun r hr c => hr c) (Cert.HierIdeal.Value.run m' g')

end Cert.Proof.Algebra

end
-- ==== Proof.Rows.lean ====
/-
  Reading blocks of rows and whole stores: what the calls on row blocks of 512 share.
-/
module

public import Idealize.ShloMosaic.Lib.Pointwise
public import Idealize.ShloMosaic.Lib.Pipeline.ValueKit.Tiles
public import Idealize.ShloMosaic.Lib.Pipeline.ValueKit.Geometry
public import Idealize.ShloMosaic.Lib.Pipeline.Value

@[expose] public section

noncomputable section

namespace Cert.Proof.Rows

open Idealize.ShloMosaic

/-- One entry of a product of a row with a matrix. -/
def dot {n : ℕ} (x a : Fin n → EReal) : EReal := ∑ d, x d * a d

theorem zeros : (![0, 0] : Fin 2 → ℕ) = fun _ => 0 := funext fun a => by match a with | ⟨0, _⟩ => rfl | ⟨1, _⟩ => rfl

theorem lt_points (n : Fin 32768) : n.val / 512 < 64 := by omega
theorem row_split (n : Fin 32768) : n.val = n.val / 512 * 512 + n.val % 512 := by omega
/-- A row's place in its block. -/
def inBlock (n : Fin 32768) : Fin 512 := ⟨n.val % 512, Nat.mod_lt _ (by decide)⟩

end Cert.Proof.Rows

end
-- ==== Proof.GluVal.lean ====
/-
  The gated output of the state layer and its reference compute the same array over the reals.
-/
module

public import proofs.«01_k».proof.Proof.Gen.GluIdeal.Value
public import proofs.«01_k».proof.Proof.Gen.GluRefIdeal.Run
public import proofs.«01_k».proof.Proof.Rows
public import proofs.«01_k».proof.Proof.ExpPure
public import proofs.«01_k».proof.Defs

@[expose] public section

set_option maxRecDepth 16384

noncomputable section

namespace Cert.Proof.Glu

open Idealize.ShloMosaic Idealize.ShloMosaic.TcCoe
open Cert.Proof.Rows Cert.GluIdeal Cert.GluIdeal.Gen
open Cert.Proof.Experts (blend centred normed)
open Idealize.ShloMosaic.Pipeline (Dat)

/-- One hidden unit of a row: its first projection times the logistic function of its second. -/
def unit (y : Fin 1024 → EReal) (u v : Fin 1024 → Fin 1024 → EReal) (f : Fin 1024) : EReal :=
  dot y (fun d => u d f) * Ideal.div 1 (1 + Ideal.exp (-(dot y fun d => v d f)))

/-- A row's entry: the projection of its hidden units added to the scaled row, normalized. -/
def entry (y x : Fin 1024 → EReal) (u v w : Fin 1024 → Fin 1024 → EReal) (g s : Fin 1024 → EReal) (k : Fin 1024) : EReal :=
  normed (blend x fun j => dot (unit y u v) fun f => w f j) g s k

variable (m : (ℓ : Loc nD τ sig) → Buf (Elt Ideal) ℓ) (c : Dev nD)

theorem index_y : ∀ t : Fin cfg0.N, win0_0.index t = ![t.val, 0] := (by decide +kernel : ∀ t : Fin grid0.N, win0_0.index t = ![t.val, 0])
theorem index_x : ∀ t : Fin cfg0.N, win0_1.index t = ![t.val, 0] := (by decide +kernel : ∀ t : Fin grid0.N, win0_1.index t = ![t.val, 0])
theorem index_out : ∀ t : Fin cfg0.N, win0_7.index t = ![t.val, 0] := (by decide +kernel : ∀ t : Fin grid0.N, win0_7.index t = ![t.val, 0])
theorem flush_out : ∀ t : Fin cfg0.N, win0_7.flush t = true := (by decide +kernel : ∀ t : Fin grid0.N, win0_7.flush t = true)

theorem V_u : V m c main_v0 = (truncf .bf16 (m ((c : Thread nD τ).loc main_arg2) : FVec Ideal S1024x1024 .f32) bitsLt_bf16_f32 : FVec Ideal S1024x1024 .bf16) := rfl
theorem V_v : V m c main_v1 = (truncf .bf16 (m ((c : Thread nD τ).loc main_arg3) : FVec Ideal S1024x1024 .f32) bitsLt_bf16_f32 : FVec Ideal S1024x1024 .bf16) := rfl
theorem V_w : V m c main_v2 = (truncf .bf16 (m ((c : Thread nD τ).loc main_arg4) : FVec Ideal S1024x1024 .f32) bitsLt_bf16_f32 : FVec Ideal S1024x1024 .bf16) := rfl
theorem V_g : V m c main_v3 = (broadcastInDim S1x1024 ![1] bcast_S1024_S1x1024_1 (m ((c : Thread nD τ).loc main_arg5) : FVec Ideal S1024 .f32) : FVec Ideal S1x1024 .f32) := rfl
theorem V_s : V m c main_v4 = (broadcastInDim S1x1024 ![1] bcast_S1024_S1x1024_1 (m ((c : Thread nD τ).loc main_arg6) : FVec Ideal S1024 .f32) : FVec Ideal S1x1024 .f32) := rfl

/-- Row `r` of a block of rows at point `t` is row `512 t + r`. -/
theorem blk_y (t : Fin cfg0.N) (r : Fin 512) (d : Fin 1024) (n : Fin 32768) (hn : n.val = t.val * 512 + r.val) :
    (iblk m c 0 t : Vec Ideal S512x1024 .bf16) (ix2 r d) = m ((c : Thread nD τ).loc main_arg0) (ix2 n d) := by
  have e : ((cfg0.win 0).blk t).view.emb (ix2 r d) = ix2 n d := by
    refine funext fun x => Fin.ext ?_
    have hv := Pipeline.Window.rect_emb_val (cfg0.win 0) t (ix2 r d) x
    rw [show (cfg0.win 0).index t = ![t.val, 0] from index_y t] at hv
    match x with
    | ⟨0, _⟩ => exact hv.trans hn.symm
    | ⟨1, _⟩ => exact hv.trans (by show 0 * 1024 + d.val = d.val; omega)
  exact (congrArg (V m c main_arg0) e).trans (congrFun (V_main_arg0 m c) _)

theorem blk_x (t : Fin cfg0.N) (r : Fin 512) (d : Fin 1024) (n : Fin 32768) (hn : n.val = t.val * 512 + r.val) :
    (iblk m c 1 t : Vec Ideal S512x1024 .f32) (ix2 r d) = m ((c : Thread nD τ).loc main_arg1) (ix2 n d) := by
  have e : ((cfg0.win 1).blk t).view.emb (ix2 r d) = ix2 n d := by
    refine funext fun x => Fin.ext ?_
    have hv := Pipeline.Window.rect_emb_val (cfg0.win 1) t (ix2 r d) x
    rw [show (cfg0.win 1).index t = ![t.val, 0] from index_x t] at hv
    match x with
    | ⟨0, _⟩ => exact hv.trans hn.symm
    | ⟨1, _⟩ => exact hv.trans (by show 0 * 1024 + d.val = d.val; omega)
  exact (congrArg (V m c main_arg1) e).trans (congrFun (V_main_arg1 m c) _)

/-- The weights, the scale and the shift are whole: changing their format is no change over the reals. -/
theorem blk_u (t : Fin cfg0.N) (d k : Fin 1024) :
    (iblk m c 2 t : Vec Ideal S1024x1024 .bf16) (ix2 d k) = m ((c : Thread nD τ).loc main_arg2) (ix2 d k) := by
  have e : ((cfg0.win 2).blk t).view.emb (ix2 d k) = ix2 d k :=
    funext fun x => Fin.ext (Pipeline.Window.rect_emb_val_of_index_zero (cfg0.win 2) t x (by match x with | ⟨0, _⟩ => rfl | ⟨1, _⟩ => rfl) (ix2 d k))
  exact (congrArg (V m c main_v0) e).trans (congrFun (V_u m c) _)

theorem blk_v (t : Fin cfg0.N) (d k : Fin 1024) :
    (iblk m c 3 t : Vec Ideal S1024x1024 .bf16) (ix2 d k) = m ((c : Thread nD τ).loc main_arg3) (ix2 d k) := by
  have e : ((cfg0.win 3).blk t).view.emb (ix2 d k) = ix2 d k :=
    funext fun x => Fin.ext (Pipeline.Window.rect_emb_val_of_index_zero (cfg0.win 3) t x (by match x with | ⟨0, _⟩ => rfl | ⟨1, _⟩ => rfl) (ix2 d k))
  exact (congrArg (V m c main_v1) e).trans (congrFun (V_v m c) _)

theorem blk_w (t : Fin cfg0.N) (d k : Fin 1024) :
    (iblk m c 4 t : Vec Ideal S1024x1024 .bf16) (ix2 d k) = m ((c : Thread nD τ).loc main_arg4) (ix2 d k) := by
  have e : ((cfg0.win 4).blk t).view.emb (ix2 d k) = ix2 d k :=
    funext fun x => Fin.ext (Pipeline.Window.rect_emb_val_of_index_zero (cfg0.win 4) t x (by match x with | ⟨0, _⟩ => rfl | ⟨1, _⟩ => rfl) (ix2 d k))
  exact (congrArg (V m c main_v2) e).trans (congrFun (V_w m c) _)

/-- A vector given as a row of one is read at its column. -/
theorem row_apply (v : FVec Ideal S1024 .f32) (k : Fin 1024) : broadcastInDim S1x1024 ![1] bcast_S1024_S1x1024_1 v (ix2 0 k) = v (ix1 k) := by
  pointwise

theorem blk_g (t : Fin cfg0.N) (k : Fin 1024) : (iblk m c 5 t : Vec Ideal S1x1024 .f32) (ix2 0 k) = m ((c : Thread nD τ).loc main_arg5) (ix1 k) := by
  have e : ((cfg0.win 5).blk t).view.emb (ix2 0 k) = ix2 0 k :=
    funext fun x => Fin.ext (Pipeline.Window.rect_emb_val_of_index_zero (cfg0.win 5) t x (by match x with | ⟨0, _⟩ => rfl | ⟨1, _⟩ => rfl) (ix2 0 k))
  exact (congrArg (V m c main_v3) e).trans ((congrFun (V_g m c) _).trans (row_apply _ k))

theorem blk_s (t : Fin cfg0.N) (k : Fin 1024) : (iblk m c 6 t : Vec Ideal S1x1024 .f32) (ix2 0 k) = m ((c : Thread nD τ).loc main_arg6) (ix1 k) := by
  have e : ((cfg0.win 6).blk t).view.emb (ix2 0 k) = ix2 0 k :=
    funext fun x => Fin.ext (Pipeline.Window.rect_emb_val_of_index_zero (cfg0.win 6) t x (by match x with | ⟨0, _⟩ => rfl | ⟨1, _⟩ => rfl) (ix2 0 k))
  exact (congrArg (V m c main_v4) e).trans ((congrFun (V_s m c) _).trans (row_apply _ k))

theorem pay4_apply (y : Vec Ideal S512x1024 .bf16) (u v w : Vec Ideal S1024x1024 .bf16) (x : Vec Ideal S512x1024 .f32) (r : Fin 512) (k : Fin 1024) :
    k0_pay4 y u v w x (ix2 r k) = centred (blend (fun d => x (ix2 r d)) fun j => dot (unit (fun d => y (ix2 r d)) (fun d f => u (ix2 d f)) fun d f => v (ix2 d f)) fun f => w (ix2 f j)) k := by
  pointwise [k0_pay4, dot, unit, blend, centred]
  simp only [zero_sub]

theorem pay1_apply (g s : Vec Ideal S1x1024 .f32) (z : FVec Ideal S512x1024 .f32) (q : FVec Ideal S512 .f32) (r : Fin 512) (k : Fin 1024) :
    k0_pay1 (k0_pay2 g) (k0_pay3 s) z q (ix2 r k) = z (ix2 r k) * Ideal.rsqrt (Ideal.div (q (ix1 r)) (Ideal.ofBits .f32 0x44800000#32) + Ideal.ofBits .f32 0x3727C5AC#32) * g (ix2 0 k) + s (ix2 0 k) := by
  pointwise [k0_pay1, k0_pay2, k0_pay3]

theorem pay5_apply (y : Vec Ideal S512x1024 .bf16) (u v w : Vec Ideal S1024x1024 .bf16) (x : Vec Ideal S512x1024 .f32) (r : Fin 512) :
    k0_pay5 y u v w x (ix1 r) = ∑ k, k0_pay4 y u v w x (ix2 r k) * k0_pay4 y u v w x (ix2 r k) := by
  pointwise [k0_pay5]

/-- What a point's body leaves at a row and a column. -/
theorem out_apply (y : Vec Ideal S512x1024 .bf16) (x : Vec Ideal S512x1024 .f32) (u v w : Vec Ideal S1024x1024 .bf16) (g s : Vec Ideal S1x1024 .f32) (r : Fin 512) (k : Fin 1024) :
    out0_7 y x u v w g s (ix2 r k) = entry (fun d => y (ix2 r d)) (fun d => x (ix2 r d)) (fun d f => u (ix2 d f)) (fun d f => v (ix2 d f)) (fun f j => w (ix2 f j)) (fun d => g (ix2 0 d)) (fun d => s (ix2 0 d)) k := by
  unfold out0_7
  rw [View.canon_unit_zero zeros, View.ld_unit_zero zeros, View.ld_unit_zero zeros, View.ld_unit_zero zeros, View.ld_unit_zero zeros, View.ld_unit_zero zeros, View.ld_unit_zero zeros, View.ld_unit_zero zeros,
    pay1_apply, pay5_apply]
  simp only [pay4_apply]
  rfl

theorem cut_out (t : Fin cfg0.N) (f : Vec Ideal S512x1024 .f32) (r : Fin 512) (k : Fin 1024) : (cfg0.win 7).cut (grid0.coords t) f (ix2 r k) = f (ix2 r k) := rfl

/-- The point that computes row `n`. -/
def pt (n : Fin 32768) : Fin cfg0.N := ⟨n.val / 512, lt_of_lt_of_eq (lt_points n) (by decide +kernel : 64 = grid0.N)⟩

theorem emb_out (n : Fin 32768) (k : Fin 1024) : ((cfg0.win 7).blk (pt n)).view.emb (ix2 (inBlock n) k) = ix2 n k := by
  refine funext fun x => Fin.ext ?_
  have hv := Pipeline.Window.rect_emb_val (cfg0.win 7) (pt n) (ix2 (inBlock n) k) x
  rw [show (cfg0.win 7).index (pt n) = ![n.val / 512, 0] from index_out _] at hv
  match x with
  | ⟨0, _⟩ => exact hv.trans (row_split n).symm
  | ⟨1, _⟩ => exact hv.trans (by show 0 * 1024 + k.val = k.val; omega)

theorem flushed_apply (t : Fin cfg0.N) (r : Fin 512) (k : Fin 1024) :
    (dats m 0 c).flushed 7 t (ix2 r k) = out0_7 (iblk m c 0 t) (iblk m c 1 t) (iblk m c 2 t) (iblk m c 3 t) (iblk m c 4 t) (iblk m c 5 t) (iblk m c 6 t) (ix2 r k) := by
  rw [Value.flushed7]
  exact cut_out t _ r k

/-- The array after the run, at an index. -/
theorem arr_apply (n : Fin 32768) (k : Fin 1024) :
    (dats m 0 c).arrAt (7 : Fin 8) cfg0.N (ix2 n k) = entry (fun d => m ((c : Thread nD τ).loc main_arg0) (ix2 n d)) (fun d => m ((c : Thread nD τ).loc main_arg1) (ix2 n d)) (fun d f => m ((c : Thread nD τ).loc main_arg2) (ix2 d f)) (fun d f => m ((c : Thread nD τ).loc main_arg3) (ix2 d f)) (fun f j => m ((c : Thread nD τ).loc main_arg4) (ix2 f j))
      (fun d => m ((c : Thread nD τ).loc main_arg5) (ix1 d)) (fun d => m ((c : Thread nD τ).loc main_arg6) (ix1 d)) k := by
  have h := (dats m 0 c).arrAt_emb_eq_flushed (7 : Fin 8) Value.disjoint7 (pt n) (flush_out _) (ix2 (inBlock n) k)
  rw [emb_out, flushed_apply, out_apply] at h
  refine h.trans ?_
  rw [funext fun d => blk_y m c (pt n) (inBlock n) d n (row_split n), funext fun d => blk_x m c (pt n) (inBlock n) d n (row_split n),
    funext fun d => funext fun j => blk_u m c (pt n) d j, funext fun d => funext fun j => blk_v m c (pt n) d j, funext fun d => funext fun j => blk_w m c (pt n) d j,
    funext fun d => blk_g m c (pt n) d, funext fun d => blk_s m c (pt n) d]
  rfl

open Cert.GluRefIdeal Cert.GluRefIdeal.Value in
/-- The reference's result at an index. -/
theorem ref_apply (m : (ℓ : Loc Cert.GluRefIdeal.nD Cert.GluRefIdeal.τ Cert.GluRefIdeal.sig) → Buf (Elt Ideal) ℓ) (c : Dev Cert.GluRefIdeal.nD) (n : Fin 32768) (k : Fin 1024) :
    res_out0 m c (ix2 n k) = entry (fun d => m ((c.tc : Thread Cert.GluRefIdeal.nD Cert.GluRefIdeal.τ).loc Cert.GluRefIdeal.main_arg0) (ix2 n d)) (fun d => m ((c.tc : Thread Cert.GluRefIdeal.nD Cert.GluRefIdeal.τ).loc Cert.GluRefIdeal.main_arg1) (ix2 n d)) (fun d f => m ((c.tc : Thread Cert.GluRefIdeal.nD Cert.GluRefIdeal.τ).loc Cert.GluRefIdeal.main_arg2) (ix2 d f)) (fun d f => m ((c.tc : Thread Cert.GluRefIdeal.nD Cert.GluRefIdeal.τ).loc Cert.GluRefIdeal.main_arg3) (ix2 d f)) (fun f j => m ((c.tc : Thread Cert.GluRefIdeal.nD Cert.GluRefIdeal.τ).loc Cert.GluRefIdeal.main_arg4) (ix2 f j))
      (fun d => m ((c.tc : Thread Cert.GluRefIdeal.nD Cert.GluRefIdeal.τ).loc Cert.GluRefIdeal.main_arg5) (ix1 d)) (fun d => m ((c.tc : Thread Cert.GluRefIdeal.nD Cert.GluRefIdeal.τ).loc Cert.GluRefIdeal.main_arg6) (ix1 d)) k := by
  pointwise [res_main_v37, entry, unit, normed, blend, centred]
  rfl

theorem algebraic : Cert.algebraic_GluIdeal_GluRefIdeal := fun m g m' g' _ hsame => by
  refine ⟨fun c => (dats m 0 c).arrAt (7 : Fin 8) cfg0.N, Value.run_blocks m g, ?_⟩
  refine (θ_run _ _ _).mono (fun r hr c => ⟨(hr c).1.trans (funext fun (i : S32768x1024.Idx) => ?_), (hr c).2⟩) (Cert.GluRefIdeal.Value.run m' g')
  obtain ⟨h0, h1, h2, h3, h4, h5, h6⟩ := hsame c
  rw [← ix2_eta i]
  refine (ref_apply m' c (i 0) (i 1)).trans ?_
  rw [h0, h1, h2, h3, h4, h5, h6]
  exact (arr_apply m c (i 0) (i 1)).symm

/-- The reference's frame. -/
theorem ref_frame : Cert.quiescent_GluRefIdeal := fun m ρ _ =>
  (θ_run _ _ _).mono (fun r h => ⟨fun c => (h c).2, sem_eq_zero_of_no_sems (by decide) r.2⟩) (Cert.GluRefIdeal.Value.run m ρ)

end Cert.Proof.Glu

end
-- ==== Proof.OutVal.lean ====
/-
  The attention's output projection and its reference compute the same array over the reals.
-/
module

public import proofs.«01_k».proof.Proof.Gen.OutProjIdeal.Value
public import proofs.«01_k».proof.Proof.Gen.OutProjRefIdeal.Run
public import proofs.«01_k».proof.Proof.Rows
public import proofs.«01_k».proof.Proof.ExpPure
public import proofs.«01_k».proof.Defs

@[expose] public section

set_option maxRecDepth 16384

noncomputable section

namespace Cert.Proof.OutProj

open Idealize.ShloMosaic Idealize.ShloMosaic.TcCoe
open Cert.Proof.Rows Cert.OutProjIdeal Cert.OutProjIdeal.Gen
open Cert.Proof.Experts (blend centred normed)
open Idealize.ShloMosaic.Pipeline (Dat)

/-- A row's entry: the projection of its two halves added to the scaled row, normalized. -/
def entry (a b : Fin 512 → EReal) (x : Fin 1024 → EReal) (w : Fin 1024 → Fin 1024 → EReal) (g s : Fin 1024 → EReal) (k : Fin 1024) : EReal :=
  normed (blend x fun j => dot a (fun d => w (d.castLE (by decide)) j) + dot b fun d => w ⟨512 + d.val, by omega⟩ j) g s k

variable (m : (ℓ : Loc nD τ sig) → Buf (Elt Ideal) ℓ) (c : Dev nD)

theorem index_a : ∀ t : Fin cfg0.N, win0_0.index t = ![t.val, 0] := (by decide +kernel : ∀ t : Fin grid0.N, win0_0.index t = ![t.val, 0])
theorem index_b : ∀ t : Fin cfg0.N, win0_1.index t = ![t.val, 0] := (by decide +kernel : ∀ t : Fin grid0.N, win0_1.index t = ![t.val, 0])
theorem index_x : ∀ t : Fin cfg0.N, win0_2.index t = ![t.val, 0] := (by decide +kernel : ∀ t : Fin grid0.N, win0_2.index t = ![t.val, 0])
theorem index_out : ∀ t : Fin cfg0.N, win0_6.index t = ![t.val, 0] := (by decide +kernel : ∀ t : Fin grid0.N, win0_6.index t = ![t.val, 0])
theorem flush_out : ∀ t : Fin cfg0.N, win0_6.flush t = true := (by decide +kernel : ∀ t : Fin grid0.N, win0_6.flush t = true)

theorem V_w : V m c main_v0 = (truncf .bf16 (m ((c : Thread nD τ).loc main_arg3) : FVec Ideal S1024x1024 .f32) bitsLt_bf16_f32 : FVec Ideal S1024x1024 .bf16) := rfl
theorem V_g : V m c main_v1 = (broadcastInDim S1x1024 ![1] bcast_S1024_S1x1024_1 (m ((c : Thread nD τ).loc main_arg4) : FVec Ideal S1024 .f32) : FVec Ideal S1x1024 .f32) := rfl
theorem V_s : V m c main_v2 = (broadcastInDim S1x1024 ![1] bcast_S1024_S1x1024_1 (m ((c : Thread nD τ).loc main_arg5) : FVec Ideal S1024 .f32) : FVec Ideal S1x1024 .f32) := rfl

/-- Row `r` of a block of rows at point `t` is row `512 t + r`. -/
theorem blk_a (t : Fin cfg0.N) (r : Fin 512) (d : Fin 512) (n : Fin 32768) (hn : n.val = t.val * 512 + r.val) :
    (iblk m c 0 t : Vec Ideal S512x512 .bf16) (ix2 r d) = m ((c : Thread nD τ).loc main_arg0) (ix2 n d) := by
  have e : ((cfg0.win 0).blk t).view.emb (ix2 r d) = ix2 n d := by
    refine funext fun x => Fin.ext ?_
    have hv := Pipeline.Window.rect_emb_val (cfg0.win 0) t (ix2 r d) x
    rw [show (cfg0.win 0).index t = ![t.val, 0] from index_a t] at hv
    match x with
    | ⟨0, _⟩ => exact hv.trans hn.symm
    | ⟨1, _⟩ => exact hv.trans (by show 0 * 512 + d.val = d.val; omega)
  exact (congrArg (V m c main_arg0) e).trans (congrFun (V_main_arg0 m c) _)

theorem blk_b (t : Fin cfg0.N) (r : Fin 512) (d : Fin 512) (n : Fin 32768) (hn : n.val = t.val * 512 + r.val) :
    (iblk m c 1 t : Vec Ideal S512x512 .bf16) (ix2 r d) = m ((c : Thread nD τ).loc main_arg1) (ix2 n d) := by
  have e : ((cfg0.win 1).blk t).view.emb (ix2 r d) = ix2 n d := by
    refine funext fun x => Fin.ext ?_
    have hv := Pipeline.Window.rect_emb_val (cfg0.win 1) t (ix2 r d) x
    rw [show (cfg0.win 1).index t = ![t.val, 0] from index_b t] at hv
    match x with
    | ⟨0, _⟩ => exact hv.trans hn.symm
    | ⟨1, _⟩ => exact hv.trans (by show 0 * 512 + d.val = d.val; omega)
  exact (congrArg (V m c main_arg1) e).trans (congrFun (V_main_arg1 m c) _)

theorem blk_x (t : Fin cfg0.N) (r : Fin 512) (d : Fin 1024) (n : Fin 32768) (hn : n.val = t.val * 512 + r.val) :
    (iblk m c 2 t : Vec Ideal S512x1024 .f32) (ix2 r d) = m ((c : Thread nD τ).loc main_arg2) (ix2 n d) := by
  have e : ((cfg0.win 2).blk t).view.emb (ix2 r d) = ix2 n d := by
    refine funext fun x => Fin.ext ?_
    have hv := Pipeline.Window.rect_emb_val (cfg0.win 2) t (ix2 r d) x
    rw [show (cfg0.win 2).index t = ![t.val, 0] from index_x t] at hv
    match x with
    | ⟨0, _⟩ => exact hv.trans hn.symm
    | ⟨1, _⟩ => exact hv.trans (by show 0 * 1024 + d.val = d.val; omega)
  exact (congrArg (V m c main_arg2) e).trans (congrFun (V_main_arg2 m c) _)

/-- The weights, the scale and the shift are whole: changing their format is no change over the reals. -/
theorem blk_w (t : Fin cfg0.N) (d k : Fin 1024) :
    (iblk m c 3 t : Vec Ideal S1024x1024 .bf16) (ix2 d k) = m ((c : Thread nD τ).loc main_arg3) (ix2 d k) := by
  have e : ((cfg0.win 3).blk t).view.emb (ix2 d k) = ix2 d k :=
    funext fun x => Fin.ext (Pipeline.Window.rect_emb_val_of_index_zero (cfg0.win 3) t x (by match x with | ⟨0, _⟩ => rfl | ⟨1, _⟩ => rfl) (ix2 d k))
  exact (congrArg (V m c main_v0) e).trans (congrFun (V_w m c) _)

/-- A vector given as a row of one is read at its column. -/
theorem row_apply (v : FVec Ideal S1024 .f32) (k : Fin 1024) : broadcastInDim S1x1024 ![1] bcast_S1024_S1x1024_1 v (ix2 0 k) = v (ix1 k) := by
  pointwise

theorem blk_g (t : Fin cfg0.N) (k : Fin 1024) : (iblk m c 4 t : Vec Ideal S1x1024 .f32) (ix2 0 k) = m ((c : Thread nD τ).loc main_arg4) (ix1 k) := by
  have e : ((cfg0.win 4).blk t).view.emb (ix2 0 k) = ix2 0 k :=
    funext fun x => Fin.ext (Pipeline.Window.rect_emb_val_of_index_zero (cfg0.win 4) t x (by match x with | ⟨0, _⟩ => rfl | ⟨1, _⟩ => rfl) (ix2 0 k))
  exact (congrArg (V m c main_v1) e).trans ((congrFun (V_g m c) _).trans (row_apply _ k))

theorem blk_s (t : Fin cfg0.N) (k : Fin 1024) : (iblk m c 5 t : Vec Ideal S1x1024 .f32) (ix2 0 k) = m ((c : Thread nD τ).loc main_arg5) (ix1 k) := by
  have e : ((cfg0.win 5).blk t).view.emb (ix2 0 k) = ix2 0 k :=
    funext fun x => Fin.ext (Pipeline.Window.rect_emb_val_of_index_zero (cfg0.win 5) t x (by match x with | ⟨0, _⟩ => rfl | ⟨1, _⟩ => rfl) (ix2 0 k))
  exact (congrArg (V m c main_v2) e).trans ((congrFun (V_s m c) _).trans (row_apply _ k))

theorem pay_apply (a : Vec Ideal S512x512 .bf16) (wa : Vec Ideal S512x1024 .bf16) (b : Vec Ideal S512x512 .bf16) (wb : Vec Ideal S512x1024 .bf16) (x : Vec Ideal S512x1024 .f32) (g s : Vec Ideal S1x1024 .f32) (r : Fin 512) (k : Fin 1024) :
    k0_pay1 a wa b wb x g s (ix2 r k) = normed (blend (fun d => x (ix2 r d)) fun j => dot (fun d => a (ix2 r d)) (fun d => wa (ix2 d j)) + dot (fun d => b (ix2 r d)) fun d => wb (ix2 d j)) (fun d => g (ix2 0 d)) (fun d => s (ix2 0 d)) k := by
  pointwise [k0_pay1, dot, normed, blend, centred]

/-- What a point's body leaves at a row and a column. -/
theorem out_apply (a b : Vec Ideal S512x512 .bf16) (x : Vec Ideal S512x1024 .f32) (w : Vec Ideal S1024x1024 .bf16) (g s : Vec Ideal S1x1024 .f32) (r : Fin 512) (k : Fin 1024) :
    out0_6 a b x w g s (ix2 r k) = entry (fun d => a (ix2 r d)) (fun d => b (ix2 r d)) (fun d => x (ix2 r d)) (fun d j => w (ix2 d j)) (fun d => g (ix2 0 d)) (fun d => s (ix2 0 d)) k := by
  unfold out0_6
  rw [View.canon_unit_zero zeros, View.ld_unit_zero zeros, View.ld_unit_zero zeros, View.ld_unit_zero zeros, View.ld_unit_zero zeros, View.ld_unit_zero zeros, pay_apply]
  have h1 : ∀ (d : Fin 512) (j : Fin 1024), View.ld w r0_1 (ix2 d j) = w (ix2 (d.castLE (by decide)) j) := fun d j =>
    View.ld_unit_apply_of w _ _ _ _ _ fun x => by match x with | ⟨0, _⟩ => exact (Nat.zero_add _).symm | ⟨1, _⟩ => exact (Nat.zero_add _).symm
  have h2 : ∀ (d : Fin 512) (j : Fin 1024), View.ld w r0_2 (ix2 d j) = w (ix2 ⟨512 + d.val, by omega⟩ j) := fun d j =>
    View.ld_unit_apply_of w _ _ _ _ _ fun x => by match x with | ⟨0, _⟩ => rfl | ⟨1, _⟩ => exact (Nat.zero_add _).symm
  simp only [h1, h2]
  rfl

theorem cut_out (t : Fin cfg0.N) (f : Vec Ideal S512x1024 .f32) (r : Fin 512) (k : Fin 1024) : (cfg0.win 6).cut (grid0.coords t) f (ix2 r k) = f (ix2 r k) := rfl

/-- The point that computes row `n`. -/
def pt (n : Fin 32768) : Fin cfg0.N := ⟨n.val / 512, lt_of_lt_of_eq (lt_points n) (by decide +kernel : 64 = grid0.N)⟩

theorem emb_out (n : Fin 32768) (k : Fin 1024) : ((cfg0.win 6).blk (pt n)).view.emb (ix2 (inBlock n) k) = ix2 n k := by
  refine funext fun x => Fin.ext ?_
  have hv := Pipeline.Window.rect_emb_val (cfg0.win 6) (pt n) (ix2 (inBlock n) k) x
  rw [show (cfg0.win 6).index (pt n) = ![n.val / 512, 0] from index_out _] at hv
  match x with
  | ⟨0, _⟩ => exact hv.trans (row_split n).symm
  | ⟨1, _⟩ => exact hv.trans (by show 0 * 1024 + k.val = k.val; omega)

theorem flushed_apply (t : Fin cfg0.N) (r : Fin 512) (k : Fin 1024) :
    (dats m 0 c).flushed 6 t (ix2 r k) = out0_6 (iblk m c 0 t) (iblk m c 1 t) (iblk m c 2 t) (iblk m c 3 t) (iblk m c 4 t) (iblk m c 5 t) (ix2 r k) := by
  rw [Value.flushed6]
  exact cut_out t _ r k

/-- The array after the run, at an index. -/
theorem arr_apply (n : Fin 32768) (k : Fin 1024) :
    (dats m 0 c).arrAt (6 : Fin 7) cfg0.N (ix2 n k) = entry (fun d => m ((c : Thread nD τ).loc main_arg0) (ix2 n d)) (fun d => m ((c : Thread nD τ).loc main_arg1) (ix2 n d)) (fun d => m ((c : Thread nD τ).loc main_arg2) (ix2 n d))
      (fun d j => m ((c : Thread nD τ).loc main_arg3) (ix2 d j)) (fun d => m ((c : Thread nD τ).loc main_arg4) (ix1 d)) (fun d => m ((c : Thread nD τ).loc main_arg5) (ix1 d)) k := by
  have h := (dats m 0 c).arrAt_emb_eq_flushed (6 : Fin 7) Value.disjoint6 (pt n) (flush_out _) (ix2 (inBlock n) k)
  rw [emb_out, flushed_apply, out_apply] at h
  refine h.trans ?_
  rw [funext fun d => blk_a m c (pt n) (inBlock n) d n (row_split n), funext fun d => blk_b m c (pt n) (inBlock n) d n (row_split n), funext fun d => blk_x m c (pt n) (inBlock n) d n (row_split n),
    funext fun d => funext fun j => blk_w m c (pt n) d j, funext fun d => blk_g m c (pt n) d, funext fun d => blk_s m c (pt n) d]
  rfl

open Cert.OutProjRefIdeal Cert.OutProjRefIdeal.Value in
/-- The reference's result at an index. -/
theorem ref_apply (m : (ℓ : Loc Cert.OutProjRefIdeal.nD Cert.OutProjRefIdeal.τ Cert.OutProjRefIdeal.sig) → Buf (Elt Ideal) ℓ) (c : Dev Cert.OutProjRefIdeal.nD) (n : Fin 32768) (k : Fin 1024) :
    res_out0 m c (ix2 n k) = entry (fun d => m ((c.tc : Thread Cert.OutProjRefIdeal.nD Cert.OutProjRefIdeal.τ).loc Cert.OutProjRefIdeal.main_arg0) (ix2 n d)) (fun d => m ((c.tc : Thread Cert.OutProjRefIdeal.nD Cert.OutProjRefIdeal.τ).loc Cert.OutProjRefIdeal.main_arg1) (ix2 n d)) (fun d => m ((c.tc : Thread Cert.OutProjRefIdeal.nD Cert.OutProjRefIdeal.τ).loc Cert.OutProjRefIdeal.main_arg2) (ix2 n d))
      (fun d j => m ((c.tc : Thread Cert.OutProjRefIdeal.nD Cert.OutProjRefIdeal.τ).loc Cert.OutProjRefIdeal.main_arg3) (ix2 d j)) (fun d => m ((c.tc : Thread Cert.OutProjRefIdeal.nD Cert.OutProjRefIdeal.τ).loc Cert.OutProjRefIdeal.main_arg4) (ix1 d)) (fun d => m ((c.tc : Thread Cert.OutProjRefIdeal.nD Cert.OutProjRefIdeal.τ).loc Cert.OutProjRefIdeal.main_arg5) (ix1 d)) k := by
  pointwise [res_main_v30, entry, normed, blend, centred]
  rfl

theorem algebraic : Cert.algebraic_OutProjIdeal_OutProjRefIdeal := fun m g m' g' _ hsame => by
  refine ⟨fun c => (dats m 0 c).arrAt (6 : Fin 7) cfg0.N, Value.run_blocks m g, ?_⟩
  refine (θ_run _ _ _).mono (fun r hr c => ⟨(hr c).1.trans (funext fun (i : S32768x1024.Idx) => ?_), (hr c).2⟩) (Cert.OutProjRefIdeal.Value.run m' g')
  obtain ⟨h0, h1, h2, h3, h4, h5⟩ := hsame c
  rw [← ix2_eta i]
  refine (ref_apply m' c (i 0) (i 1)).trans ?_
  rw [h0, h1, h2, h3, h4, h5]
  exact (arr_apply m c (i 0) (i 1)).symm

/-- The reference's frame. -/
theorem ref_frame : Cert.quiescent_OutProjRefIdeal := fun m ρ _ =>
  (θ_run _ _ _).mono (fun r h => ⟨fun c => (h c).2, sem_eq_zero_of_no_sems (by decide) r.2⟩) (Cert.OutProjRefIdeal.Value.run m ρ)

end Cert.Proof.OutProj

end
-- ==== Proof.StateVal.lean ====
/-
  The state's input projection and its reference compute the same array over the reals.
-/
module

public import proofs.«01_k».proof.Proof.Gen.StateInIdeal.Value
public import proofs.«01_k».proof.Proof.Gen.StateInRefIdeal.Run
public import proofs.«01_k».proof.Proof.Rows
public import proofs.«01_k».proof.Defs

@[expose] public section

set_option maxRecDepth 16384

noncomputable section

namespace Cert.Proof.StateIn

open Idealize.ShloMosaic Idealize.ShloMosaic.TcCoe
open Cert.Proof.Rows Cert.StateInIdeal Cert.StateInIdeal.Gen
open Idealize.ShloMosaic.Pipeline (Dat)

variable (m : (ℓ : Loc nD τ sig) → Buf (Elt Ideal) ℓ) (c : Dev nD)

theorem index_in : ∀ t : Fin cfg0.N, win0_0.index t = ![t.val, 0] := (by decide +kernel : ∀ t : Fin grid0.N, win0_0.index t = ![t.val, 0])
theorem index_out : ∀ t : Fin cfg0.N, win0_2.index t = ![t.val, 0] := (by decide +kernel : ∀ t : Fin grid0.N, win0_2.index t = ![t.val, 0])
theorem flush_out : ∀ t : Fin cfg0.N, win0_2.flush t = true := (by decide +kernel : ∀ t : Fin grid0.N, win0_2.flush t = true)

/-- The weights the call is given are the argument's: changing the format is no change over the reals. -/
theorem V_w : V m c main_v0 = (truncf .bf16 (m ((c : Thread nD τ).loc main_arg1) : FVec Ideal S1024x1024 .f32) bitsLt_bf16_f32 : FVec Ideal S1024x1024 .bf16) :=
  rfl

/-- Row `r` of the rows' block at point `t` is row `512 t + r`. -/
theorem blk_x (t : Fin cfg0.N) (r : Fin 512) (d : Fin 1024) (n : Fin 32768) (hn : n.val = t.val * 512 + r.val) :
    (iblk m c 0 t : Vec Ideal S512x1024 .f32) (ix2 r d) = m ((c : Thread nD τ).loc main_arg0) (ix2 n d) := by
  have e : ((cfg0.win 0).blk t).view.emb (ix2 r d) = ix2 n d := by
    refine funext fun x => Fin.ext ?_
    have hv := Pipeline.Window.rect_emb_val (cfg0.win 0) t (ix2 r d) x
    rw [show (cfg0.win 0).index t = ![t.val, 0] from index_in t] at hv
    match x with
    | ⟨0, _⟩ => exact hv.trans hn.symm
    | ⟨1, _⟩ => exact hv.trans (by show 0 * 1024 + d.val = d.val; omega)
  exact (congrArg (V m c main_arg0) e).trans (congrFun (V_main_arg0 m c) _)

theorem blk_w (t : Fin cfg0.N) (d k : Fin 1024) :
    (iblk m c 1 t : Vec Ideal S1024x1024 .bf16) (ix2 d k) = m ((c : Thread nD τ).loc main_arg1) (ix2 d k) := by
  have e : ((cfg0.win 1).blk t).view.emb (ix2 d k) = ix2 d k := by
    refine funext fun x => Fin.ext ?_
    exact Pipeline.Window.rect_emb_val_of_index_zero (cfg0.win 1) t x (by match x with | ⟨0, _⟩ => rfl | ⟨1, _⟩ => rfl) (ix2 d k)
  exact (congrArg (V m c main_v0) e).trans (congrFun (V_w m c) _)

/-- What a point's body leaves at a row and a column. -/
theorem out_apply (x : Vec Ideal S512x1024 .f32) (w : Vec Ideal S1024x1024 .bf16) (r : Fin 512) (k : Fin 1024) :
    out0_2 x w (ix2 r k) = dot (fun d => x (ix2 r d)) fun d => w (ix2 d k) := by
  unfold out0_2
  rw [View.canon_unit_zero zeros, View.ld_unit_zero zeros, View.ld_unit_zero zeros]
  pointwise [k0_pay1, dot]

theorem cut_out (t : Fin cfg0.N) (f : Vec Ideal S512x1024 .f32) (r : Fin 512) (k : Fin 1024) : (cfg0.win 2).cut (grid0.coords t) f (ix2 r k) = f (ix2 r k) := rfl

/-- The point that computes row `n`. -/
def pt (n : Fin 32768) : Fin cfg0.N := ⟨n.val / 512, lt_of_lt_of_eq (lt_points n) (by decide +kernel : 64 = grid0.N)⟩

theorem emb_out (n : Fin 32768) (k : Fin 1024) : ((cfg0.win 2).blk (pt n)).view.emb (ix2 (inBlock n) k) = ix2 n k := by
  refine funext fun x => Fin.ext ?_
  have hv := Pipeline.Window.rect_emb_val (cfg0.win 2) (pt n) (ix2 (inBlock n) k) x
  rw [show (cfg0.win 2).index (pt n) = ![n.val / 512, 0] from index_out _] at hv
  match x with
  | ⟨0, _⟩ => exact hv.trans (row_split n).symm
  | ⟨1, _⟩ => exact hv.trans (by show 0 * 1024 + k.val = k.val; omega)

theorem flushed_apply (t : Fin cfg0.N) (r : Fin 512) (k : Fin 1024) :
    (dats m 0 c).flushed 2 t (ix2 r k) = out0_2 (iblk m c 0 t) (iblk m c 1 t) (ix2 r k) := by
  rw [Value.flushed2]
  exact cut_out t _ r k

/-- The array after the run, at an index. -/
theorem arr_apply (n : Fin 32768) (k : Fin 1024) :
    (dats m 0 c).arrAt (2 : Fin 3) cfg0.N (ix2 n k) = dot (fun d => m ((c : Thread nD τ).loc main_arg0) (ix2 n d)) fun d => m ((c : Thread nD τ).loc main_arg1) (ix2 d k) := by
  have h := (dats m 0 c).arrAt_emb_eq_flushed (2 : Fin 3) Value.disjoint2 (pt n) (flush_out _) (ix2 (inBlock n) k)
  rw [emb_out, flushed_apply, out_apply] at h
  refine h.trans ?_
  exact congrArg₂ dot (funext fun d => blk_x m c _ _ d n (row_split n)) (funext fun d => blk_w m c _ d k)

/-- The reference's result at an index. -/
theorem ref_apply (x : FVec Ideal Cert.StateInRefIdeal.S32768x1024 .f32) (w : FVec Ideal Cert.StateInRefIdeal.S1024x1024 .f32) (n : Fin 32768) (k : Fin 1024) :
    Host.dotGeneral Cert.StateInRefIdeal.dot_S32768x1024_S1024x1024_S32768x1024_1_0_0_1_n_n none x w (ix2 n k) = dot (fun d => x (ix2 n d)) fun d => w (ix2 d k) := by
  pointwise [dot]

theorem algebraic : Cert.algebraic_StateInIdeal_StateInRefIdeal := fun m g m' g' _ hsame => by
  refine ⟨fun c => (dats m 0 c).arrAt (2 : Fin 3) cfg0.N, Value.run_blocks m g, ?_⟩
  refine (θ_run _ _ _).mono (fun r hr c => ⟨(hr c).1.trans (funext fun (i : S32768x1024.Idx) => ?_), (hr c).2⟩) (Cert.StateInRefIdeal.Value.run m' g')
  rw [(hsame c).1, (hsame c).2, ← ix2_eta i]
  exact (ref_apply _ _ (i 0) (i 1)).trans (arr_apply m c (i 0) (i 1)).symm

/-- The reference's frame. -/
theorem ref_frame : Cert.quiescent_StateInRefIdeal := fun m ρ _ =>
  (θ_run _ _ _).mono (fun r h => ⟨fun c => (h c).2, sem_eq_zero_of_no_sems (by decide) r.2⟩) (Cert.StateInRefIdeal.Value.run m ρ)

end Cert.Proof.StateIn

end
-- ==== Proof.EvenVal.lean ====
/-
  The attention layer's input projection and its reference compute the same arrays over the reals.
-/
module

public import proofs.«01_k».proof.Proof.Gen.EvenInIdeal.Value
public import proofs.«01_k».proof.Proof.Gen.EvenInRefIdeal.Run
public import proofs.«01_k».proof.Proof.Rows
public import Idealize.ShloMosaic.Lib.WholeRead
public import proofs.«01_k».proof.Defs

@[expose] public section

set_option maxRecDepth 16384

noncomputable section

namespace Cert.Proof.EvenIn

open Idealize.ShloMosaic Idealize.ShloMosaic.TcCoe
open Cert.Proof.Rows Cert.EvenInIdeal Cert.EvenInIdeal.Gen
open Idealize.ShloMosaic.Pipeline (Dat)

variable (m : (ℓ : Loc nD τ sig) → Buf (Elt Ideal) ℓ) (c : Dev nD)

/-- A load at an offset, of a buffer that holds `X`. -/
theorem load_apply {S : Shape} {e : EltTy} {a : Memref sig .tc .vmem S e} (h : a.IsWhole) (X : Vec Ideal S e) (off size : Fin S.rank → ℕ) (inb : ∀ b, off b + size b ≤ S.size b)
    (j : (Rect.unit off size inb).shape.Idx) (i : S.Idx) (hi : ∀ b, (i b : ℕ) = off b + (j b : ℕ)) :
    View.readAt (Elt Ideal) a.view (Rect.unit off size inb).toLoadRect (h.unread X) j = X i :=
  (Memref.IsWhole.readAt_unread h X _ j).trans (View.ld_unit_apply_of X off size inb j i hi)

/-- What a point's body leaves of the first result: every chunk of columns is the row's product with the chunk of the weights. -/
theorem out_apply2 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S512x1408 .bf16) (harg3 : arg3.IsWhole) (arg4 : Memref sig .tc .vmem S512x2688 .f32) (harg4 : arg4.IsWhole)
    (x : Vec Ideal S512x1024 .f32) (w : Vec Ideal S1024x4096 .bf16) (r : Fin 512) (k : Fin 1408) :
    out0_A_2 c i arg1 harg1 arg2 harg2 arg3 harg3 arg4 harg4 x w (ix2 r k) = dot (fun d => x (ix2 r d)) fun d => w (ix2 d ⟨k.val, by omega⟩) := by
  unfold out0_A_2
  rw [View.read_writes_junk_eq_canon]
  refine View.canon_eq_of_allAt _ _ _ (cover0_A_2 c i arg1 harg1 arg2 harg2 arg3 harg3 arg4 harg4 x w _) ?_
  unfold kernelRun0_A
  dsimp only
  repeat' refine View.allAt_cons_unit _ _ _ _ _ ?_ ?_
  all_goals first
    | exact View.allAt_nil _ _
    | intro p hp
      pointwise [k0_pay1, k0_pay2, k0_pay3, k0_pay4, k0_pay5, k0_pay6, k0_pay7, kernelRun0_A.sl.r, kernelRun0_A.sl.r_1, kernelRun0_A.sl.r_2, dot]
      refine Finset.sum_congr rfl fun d _ => congrArg₂ (· * ·) (load_apply harg1 x _ _ _ _ _ fun b => ?_) (load_apply harg2 w _ _ _ _ _ fun b => ?_)
      · match b with
        | ⟨0, _⟩ => exact hp 0
        | ⟨1, _⟩ => exact (Nat.zero_add d.val).symm
      · match b with
        | ⟨0, _⟩ => exact (Nat.zero_add d.val).symm
        | ⟨1, _⟩ => exact hp 1

/-- What a point's body leaves of the second result. -/
theorem out_apply3 (c : Dev nD) (i : grid0.Coords) (arg1 : Memref sig .tc .vmem S512x1024 .f32) (harg1 : arg1.IsWhole) (arg2 : Memref sig .tc .vmem S1024x4096 .bf16) (harg2 : arg2.IsWhole) (arg3 : Memref sig .tc .vmem S512x1408 .bf16) (harg3 : arg3.IsWhole) (arg4 : Memref sig .tc .vmem S512x2688 .f32) (harg4 : arg4.IsWhole)
    (x : Vec Ideal S512x1024 .f32) (w : Vec Ideal S1024x4096 .bf16) (r : Fin 512) (k : Fin 2688) :
    out0_A_3 c i arg1 harg1 arg2 harg2 arg3 harg3 arg4 harg4 x w (ix2 r k) = dot (fun d => x (ix2 r d)) fun d => w (ix2 d ⟨1408 + k.val, by omega⟩) := by
  unfold out0_A_3
  rw [View.read_writes_junk_eq_canon]
  refine View.canon_eq_of_allAt _ _ _ (cover0_A_3 c i arg1 harg1 arg2 harg2 arg3 harg3 arg4 harg4 x w _) ?_
  unfold kernelRun0_A
  dsimp only
  repeat' refine View.allAt_cons_unit _ _ _ _ _ ?_ ?_
  all_goals first
    | exact View.allAt_nil _ _
    | intro p hp
      pointwise [k0_pay1, k0_pay8, k0_pay9, k0_pay10, k0_pay11, k0_pay12, k0_pay13, k0_pay14, k0_pay15, k0_pay16, k0_pay17, k0_pay18, kernelRun0_A.sl.r, kernelRun0_A.sl.r_1, kernelRun0_A.sl.r_2, dot]
      refine Finset.sum_congr rfl fun d _ => congrArg₂ (· * ·) (load_apply harg1 x _ _ _ _ _ fun b => ?_) (load_apply harg2 w _ _ _ _ _ fun b => ?_)
      · match b with
        | ⟨0, _⟩ => exact hp 0
        | ⟨1, _⟩ => exact (Nat.zero_add d.val).symm
      · match b with
        | ⟨0, _⟩ => exact (Nat.zero_add d.val).symm
        | ⟨1, _⟩ => exact (congrArg (1408 + ·) (hp 1)).trans (Nat.add_assoc 1408 _ _).symm

/-- The columns of the weights in the order of the first result: heads of 64 columns in lanes of 128. -/
def packA (h : FVec Ideal S1024x2644 .f32) : FVec Ideal S1024x1408 .f32 :=
  ((concatenate S1024x1408 1 [⟨S1024x1024, ((shapeCast _ (pad S1024x8x128 ![0, 0, 0] ![0, 0, 64] ![0, 0, 0] (shapeCast _ (extractStridedSlice S1024x512 ![0, 0] h slices_S1024x2644_S1024x512_0_0) shapeCasts_S1024x512_S1024x8x64) (sitofp .f32 (constantI S_ 32 0#32) : FVec Ideal S_ .f32) pads_S1024x8x64_S1024x8x128_000_000_0640 h_S_) shapeCasts_S1024x8x128_S1024x1024) : FVec Ideal S1024x1024 .f32)⟩,
    ⟨S1024x256, ((shapeCast _ (pad S1024x2x128 ![0, 0, 0] ![0, 0, 64] ![0, 0, 0] (shapeCast _ (extractStridedSlice S1024x128 ![0, 512] h slices_S1024x2644_S1024x128_0_512) shapeCasts_S1024x128_S1024x2x64) (sitofp .f32 (constantI S_ 32 0#32) : FVec Ideal S_ .f32) pads_S1024x2x64_S1024x2x128_000_000_0640 h_S_) shapeCasts_S1024x2x128_S1024x256) : FVec Ideal S1024x256 .f32)⟩,
    ⟨S1024x128, ((extractStridedSlice S1024x128 ![0, 640] h slices_S1024x2644_S1024x128_0_640) : FVec Ideal S1024x128 .f32)⟩] concatenates_S1024x1024_S1024x256_S1024x128_S1024x1408_d1 : FVec Ideal S1024x1408 .f32))

/-- The columns of the weights in the order of the second result. -/
def packF (h : FVec Ideal S1024x2644 .f32) : FVec Ideal S1024x2688 .f32 :=
  (concatenate S1024x2688 1 [⟨S1024x512, ((shapeCast _ (pad S1024x4x128 ![0, 0, 0] ![0, 0, 64] ![0, 0, 0] (shapeCast _ (extractStridedSlice S1024x256 ![0, 768] h slices_S1024x2644_S1024x256_0_768) shapeCasts_S1024x256_S1024x4x64) (sitofp .f32 (constantI S_ 32 0#32) : FVec Ideal S_ .f32) pads_S1024x4x64_S1024x4x128_000_000_0640 h_S_) shapeCasts_S1024x4x128_S1024x512) : FVec Ideal S1024x512 .f32)⟩,
    ⟨S1024x512, ((shapeCast _ (pad S1024x4x128 ![0, 0, 0] ![0, 0, 64] ![0, 0, 0] (shapeCast _ (extractStridedSlice S1024x256 ![0, 1092] h slices_S1024x2644_S1024x256_0_1092) shapeCasts_S1024x256_S1024x4x64) (sitofp .f32 (constantI S_ 32 0#32) : FVec Ideal S_ .f32) pads_S1024x4x64_S1024x4x128_000_000_0640 h_S_) shapeCasts_S1024x4x128_S1024x512) : FVec Ideal S1024x512 .f32)⟩,
    ⟨S1024x512, ((shapeCast _ (pad S1024x4x128 ![0, 0, 0] ![0, 0, 64] ![0, 0, 0] (shapeCast _ (extractStridedSlice S1024x256 ![0, 1348] h slices_S1024x2644_S1024x256_0_1348) shapeCasts_S1024x256_S1024x4x64) (sitofp .f32 (constantI S_ 32 0#32) : FVec Ideal S_ .f32) pads_S1024x4x64_S1024x4x128_000_000_0640 h_S_) shapeCasts_S1024x4x128_S1024x512) : FVec Ideal S1024x512 .f32)⟩,
    ⟨S1024x512, ((extractStridedSlice S1024x512 ![0, 1604] h slices_S1024x2644_S1024x512_0_1604) : FVec Ideal S1024x512 .f32)⟩,
    ⟨S1024x512, ((extractStridedSlice S1024x512 ![0, 2132] h slices_S1024x2644_S1024x512_0_2132) : FVec Ideal S1024x512 .f32)⟩,
    ⟨S1024x128, (concatenate S1024x128 1 [⟨S1024x64, ((extractStridedSlice S1024x64 ![0, 1024] h slices_S1024x2644_S1024x64_0_1024) : FVec Ideal S1024x64 .f32)⟩,
    ⟨S1024x4, ((extractStridedSlice S1024x4 ![0, 1088] h slices_S1024x2644_S1024x4_0_1088) : FVec Ideal S1024x4 .f32)⟩,
    ⟨S1024x16, ((extractStridedSlice S1024x16 ![0, 2116] h slices_S1024x2644_S1024x16_0_2116) : FVec Ideal S1024x16 .f32)⟩,
    ⟨S1024x44, ((broadcastInDim S1024x44 ![] bcast_S_S1024x44 (constant S_ .f32 0x00000000#32 : FVec Ideal S_ .f32)) : FVec Ideal S1024x44 .f32)⟩] concatenates_S1024x64_S1024x4_S1024x16_S1024x44_S1024x128_d1 : FVec Ideal S1024x128 .f32)⟩] concatenates_S1024x512_S1024x512_S1024x512_S1024x512_S1024x512_S1024x128_S1024x2688_d1 : FVec Ideal S1024x2688 .f32)

theorem V_w : V m c main_v31 = (truncf .bf16 (concatenate S1024x4096 1 [⟨S1024x1408, packA (m ((c : Thread nD τ).loc main_arg1))⟩,
    ⟨S1024x2688, packF (m ((c : Thread nD τ).loc main_arg1))⟩] concatenates_S1024x1408_S1024x2688_S1024x4096_d1 : FVec Ideal S1024x4096 .f32) bitsLt_bf16_f32 : FVec Ideal S1024x4096 .bf16) := by
  simp only [V, List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, StableHlo.TRef.binary, StableHlo.TRef.unary, StableHlo.TRef.toBuf, StableHlo.TRef.ofBuf, cast_eq]
  after_results_simp <;> (try dsimp only [Matrix.cons_val]) <;> (try after_results_simp) <;> rfl

end Cert.Proof.EvenIn

namespace Cert.Proof.EvenInRef

open Idealize.ShloMosaic Cert.Proof.Rows Cert.EvenInRefIdeal Cert.EvenInRefIdeal.Gen

/-- The reference's products in the order of the first result. -/
def layA (h : FVec Ideal S32768x2644 .f32) : FVec Ideal S32768x1408 .f32 :=
  ((concatenate S32768x1408 1 [⟨S32768x1024, ((shapeCast _ (pad S32768x8x128 ![0, 0, 0] ![0, 0, 64] ![0, 0, 0] (shapeCast _ (extractStridedSlice S32768x512 ![0, 0] h slices_S32768x2644_S32768x512_0_0) shapeCasts_S32768x512_S32768x8x64) (sitofp .f32 (constantI S_ 32 0#32) : FVec Ideal S_ .f32) pads_S32768x8x64_S32768x8x128_000_000_0640 h_S_) shapeCasts_S32768x8x128_S32768x1024) : FVec Ideal S32768x1024 .f32)⟩,
    ⟨S32768x256, ((shapeCast _ (pad S32768x2x128 ![0, 0, 0] ![0, 0, 64] ![0, 0, 0] (shapeCast _ (extractStridedSlice S32768x128 ![0, 512] h slices_S32768x2644_S32768x128_0_512) shapeCasts_S32768x128_S32768x2x64) (sitofp .f32 (constantI S_ 32 0#32) : FVec Ideal S_ .f32) pads_S32768x2x64_S32768x2x128_000_000_0640 h_S_) shapeCasts_S32768x2x128_S32768x256) : FVec Ideal S32768x256 .f32)⟩,
    ⟨S32768x128, ((extractStridedSlice S32768x128 ![0, 640] h slices_S32768x2644_S32768x128_0_640) : FVec Ideal S32768x128 .f32)⟩] concatenates_S32768x1024_S32768x256_S32768x128_S32768x1408_d1 : FVec Ideal S32768x1408 .f32))

/-- The reference's products in the order of the second result. -/
def layF (h : FVec Ideal S32768x2644 .f32) : FVec Ideal S32768x2688 .f32 :=
  (concatenate S32768x2688 1 [⟨S32768x512, ((shapeCast _ (pad S32768x4x128 ![0, 0, 0] ![0, 0, 64] ![0, 0, 0] (shapeCast _ (extractStridedSlice S32768x256 ![0, 768] h slices_S32768x2644_S32768x256_0_768) shapeCasts_S32768x256_S32768x4x64) (sitofp .f32 (constantI S_ 32 0#32) : FVec Ideal S_ .f32) pads_S32768x4x64_S32768x4x128_000_000_0640 h_S_) shapeCasts_S32768x4x128_S32768x512) : FVec Ideal S32768x512 .f32)⟩,
    ⟨S32768x512, ((shapeCast _ (pad S32768x4x128 ![0, 0, 0] ![0, 0, 64] ![0, 0, 0] (shapeCast _ (extractStridedSlice S32768x256 ![0, 1092] h slices_S32768x2644_S32768x256_0_1092) shapeCasts_S32768x256_S32768x4x64) (sitofp .f32 (constantI S_ 32 0#32) : FVec Ideal S_ .f32) pads_S32768x4x64_S32768x4x128_000_000_0640 h_S_) shapeCasts_S32768x4x128_S32768x512) : FVec Ideal S32768x512 .f32)⟩,
    ⟨S32768x512, ((shapeCast _ (pad S32768x4x128 ![0, 0, 0] ![0, 0, 64] ![0, 0, 0] (shapeCast _ (extractStridedSlice S32768x256 ![0, 1348] h slices_S32768x2644_S32768x256_0_1348) shapeCasts_S32768x256_S32768x4x64) (sitofp .f32 (constantI S_ 32 0#32) : FVec Ideal S_ .f32) pads_S32768x4x64_S32768x4x128_000_000_0640 h_S_) shapeCasts_S32768x4x128_S32768x512) : FVec Ideal S32768x512 .f32)⟩,
    ⟨S32768x512, ((extractStridedSlice S32768x512 ![0, 1604] h slices_S32768x2644_S32768x512_0_1604) : FVec Ideal S32768x512 .f32)⟩,
    ⟨S32768x512, ((extractStridedSlice S32768x512 ![0, 2132] h slices_S32768x2644_S32768x512_0_2132) : FVec Ideal S32768x512 .f32)⟩,
    ⟨S32768x64, ((extractStridedSlice S32768x64 ![0, 1024] h slices_S32768x2644_S32768x64_0_1024) : FVec Ideal S32768x64 .f32)⟩,
    ⟨S32768x4, ((extractStridedSlice S32768x4 ![0, 1088] h slices_S32768x2644_S32768x4_0_1088) : FVec Ideal S32768x4 .f32)⟩,
    ⟨S32768x16, ((extractStridedSlice S32768x16 ![0, 2116] h slices_S32768x2644_S32768x16_0_2116) : FVec Ideal S32768x16 .f32)⟩,
    ⟨S32768x44, ((broadcastInDim S32768x44 ![] bcast_S_S32768x44 (constant S_ .f32 0x00000000#32 : FVec Ideal S_ .f32)) : FVec Ideal S32768x44 .f32)⟩] concatenates_S32768x512_S32768x512_S32768x512_S32768x512_S32768x512_S32768x64_S32768x4_S32768x16_S32768x44_S32768x2688_d1 : FVec Ideal S32768x2688 .f32)

/-- A choice that does not depend on the summed index is made outside the product. -/
theorem dot_dite {n : ℕ} (x : Fin n → EReal) (p : Prop) [Decidable p] (a : p → Fin n → EReal) (b : ¬p → Fin n → EReal) :
    (dot x fun d => if h : p then a h d else b h d) = if h : p then dot x (a h) else dot x (b h) := by
  by_cases h : p <;> simp only [h, dite_true, dite_false]

theorem dot_zero {n : ℕ} (x : Fin n → EReal) : (dot x fun _ => 0) = 0 := by
  simp only [dot, mul_zero, Finset.sum_const_zero]

theorem pad_zero : (FloatOps.sitofp FTy.f32 0#32 : Ideal .f32) = 0 := by
  show (((0#32 : BitVec 32).toInt : ℝ) : EReal) = 0
  simp

/-- Ordering the products' columns is ordering the weights'. -/
theorem layA_apply (x : Fin 1024 → EReal) (w : FVec Ideal Cert.EvenInIdeal.S1024x2644 .f32) (h : FVec Ideal S32768x2644 .f32) (n : Fin 32768) (k : Fin 1408)
    (hh : ∀ j : Fin 2644, h (ix2 n j) = dot x fun d => w (ix2 d j)) :
    layA h (ix2 n k) = dot x fun d => Cert.Proof.EvenIn.packA w (ix2 d k) := by
  pointwise [layA, Cert.Proof.EvenIn.packA]
  simp only [pad_zero, dot_dite, dot_zero, hh]

theorem layF_apply (x : Fin 1024 → EReal) (w : FVec Ideal Cert.EvenInIdeal.S1024x2644 .f32) (h : FVec Ideal S32768x2644 .f32) (n : Fin 32768) (k : Fin 2688)
    (hh : ∀ j : Fin 2644, h (ix2 n j) = dot x fun d => w (ix2 d j)) :
    layF h (ix2 n k) = dot x fun d => Cert.Proof.EvenIn.packF w (ix2 d k) := by
  pointwise [layF, Cert.Proof.EvenIn.packF]
  simp only [pad_zero, dot_dite, dot_zero, hh]

/-- The reference's frame. -/
theorem ref_frame : Cert.quiescent_EvenInRefIdeal := fun m ρ _ =>
  (θ_run _ _ _).mono (fun r h => ⟨fun c => (h c).2.2, sem_eq_zero_of_no_sems (by decide) r.2⟩) (Cert.EvenInRefIdeal.Value.run m ρ)

/-- The reference's product at an index. -/
theorem dot_apply (x : FVec Ideal S32768x1024 .f32) (w : FVec Ideal S1024x2644 .f32) (n : Fin 32768) (j : Fin 2644) :
    Host.dotGeneral dot_S32768x1024_S1024x2644_S32768x2644_1_0_0_1_n_n none x w (ix2 n j) = dot (fun d => x (ix2 n d)) fun d => w (ix2 d j) := by
  pointwise [dot]

end Cert.Proof.EvenInRef

namespace Cert.Proof.EvenIn

open Idealize.ShloMosaic Idealize.ShloMosaic.TcCoe
open Cert.Proof.Rows Cert.EvenInIdeal Cert.EvenInIdeal.Gen
open Idealize.ShloMosaic.Pipeline (Dat)

variable (m : (ℓ : Loc nD τ sig) → Buf (Elt Ideal) ℓ) (c : Dev nD)

theorem index_in : ∀ t : Fin cfg0.N, win0_0.index t = ![t.val, 0] := (by decide +kernel : ∀ t : Fin grid0.N, win0_0.index t = ![t.val, 0])
theorem index_out2 : ∀ t : Fin cfg0.N, win0_2.index t = ![t.val, 0] := (by decide +kernel : ∀ t : Fin grid0.N, win0_2.index t = ![t.val, 0])
theorem index_out3 : ∀ t : Fin cfg0.N, win0_3.index t = ![t.val, 0] := (by decide +kernel : ∀ t : Fin grid0.N, win0_3.index t = ![t.val, 0])
theorem flush_out2 : ∀ t : Fin cfg0.N, win0_2.flush t = true := (by decide +kernel : ∀ t : Fin grid0.N, win0_2.flush t = true)
theorem flush_out3 : ∀ t : Fin cfg0.N, win0_3.flush t = true := (by decide +kernel : ∀ t : Fin grid0.N, win0_3.flush t = true)

/-- Row `r` of the rows' block at point `t` is row `512 t + r`. -/
theorem blk_x (t : Fin cfg0.N) (r : Fin 512) (d : Fin 1024) (n : Fin 32768) (hn : n.val = t.val * 512 + r.val) :
    (iblk m c 0 t : Vec Ideal S512x1024 .f32) (ix2 r d) = m ((c : Thread nD τ).loc main_arg0) (ix2 n d) := by
  have e : ((cfg0.win 0).blk t).view.emb (ix2 r d) = ix2 n d := by
    refine funext fun x => Fin.ext ?_
    have hv := Pipeline.Window.rect_emb_val (cfg0.win 0) t (ix2 r d) x
    rw [show (cfg0.win 0).index t = ![t.val, 0] from index_in t] at hv
    match x with
    | ⟨0, _⟩ => exact hv.trans hn.symm
    | ⟨1, _⟩ => exact hv.trans (by show 0 * 1024 + d.val = d.val; omega)
  exact (congrArg (V m c main_arg0) e).trans (congrFun (V_main_arg0 m c) _)

/-- The weights' block is the whole of them at every point. -/
theorem blk_w (t : Fin cfg0.N) (d : Fin 1024) (k : Fin 4096) :
    (iblk m c 1 t : Vec Ideal S1024x4096 .bf16) (ix2 d k) = (V m c main_v31 : Vec Ideal S1024x4096 .bf16) (ix2 d k) := by
  have e : ((cfg0.win 1).blk t).view.emb (ix2 d k) = ix2 d k := by
    refine funext fun x => Fin.ext ?_
    exact Pipeline.Window.rect_emb_val_of_index_zero (cfg0.win 1) t x (by match x with | ⟨0, _⟩ => rfl | ⟨1, _⟩ => rfl) (ix2 d k)
  exact congrArg (V m c main_v31) e

/-- A column of the first result's weights. -/
theorem blk_a (t : Fin cfg0.N) (d : Fin 1024) (k : Fin 1408) :
    (iblk m c 1 t : Vec Ideal S1024x4096 .bf16) (ix2 d ⟨k.val, by omega⟩) = packA (m ((c : Thread nD τ).loc main_arg1)) (ix2 d k) := by
  rw [blk_w, V_w]
  generalize packA (m ((c : Thread nD τ).loc main_arg1)) = a
  generalize packF (m ((c : Thread nD τ).loc main_arg1)) = b
  pointwise

/-- A column of the second result's weights. -/
theorem blk_f (t : Fin cfg0.N) (d : Fin 1024) (k : Fin 2688) :
    (iblk m c 1 t : Vec Ideal S1024x4096 .bf16) (ix2 d ⟨1408 + k.val, by omega⟩) = packF (m ((c : Thread nD τ).loc main_arg1)) (ix2 d k) := by
  rw [blk_w, V_w]
  generalize packA (m ((c : Thread nD τ).loc main_arg1)) = a
  generalize packF (m ((c : Thread nD τ).loc main_arg1)) = b
  pointwise

theorem cut_out2 (t : Fin cfg0.N) (f : Vec Ideal S512x1408 .bf16) (r : Fin 512) (k : Fin 1408) : (cfg0.win 2).cut (grid0.coords t) f (ix2 r k) = f (ix2 r k) := rfl
theorem cut_out3 (t : Fin cfg0.N) (f : Vec Ideal S512x2688 .f32) (r : Fin 512) (k : Fin 2688) : (cfg0.win 3).cut (grid0.coords t) f (ix2 r k) = f (ix2 r k) := rfl

/-- The point that computes row `n`. -/
def pt (n : Fin 32768) : Fin cfg0.N := ⟨n.val / 512, lt_of_lt_of_eq (lt_points n) (by decide +kernel : 64 = grid0.N)⟩

theorem emb_out2 (n : Fin 32768) (k : Fin 1408) : ((cfg0.win 2).blk (pt n)).view.emb (ix2 (inBlock n) k) = ix2 n k := by
  refine funext fun x => Fin.ext ?_
  have hv := Pipeline.Window.rect_emb_val (cfg0.win 2) (pt n) (ix2 (inBlock n) k) x
  rw [show (cfg0.win 2).index (pt n) = ![n.val / 512, 0] from index_out2 _] at hv
  match x with
  | ⟨0, _⟩ => exact hv.trans (row_split n).symm
  | ⟨1, _⟩ => exact hv.trans (by show 0 * 1408 + k.val = k.val; omega)

theorem emb_out3 (n : Fin 32768) (k : Fin 2688) : ((cfg0.win 3).blk (pt n)).view.emb (ix2 (inBlock n) k) = ix2 n k := by
  refine funext fun x => Fin.ext ?_
  have hv := Pipeline.Window.rect_emb_val (cfg0.win 3) (pt n) (ix2 (inBlock n) k) x
  rw [show (cfg0.win 3).index (pt n) = ![n.val / 512, 0] from index_out3 _] at hv
  match x with
  | ⟨0, _⟩ => exact hv.trans (row_split n).symm
  | ⟨1, _⟩ => exact hv.trans (by show 0 * 2688 + k.val = k.val; omega)

/-- The first result after the run, at an index. -/
theorem arr_apply2 (n : Fin 32768) (k : Fin 1408) :
    (dats m 0 c).arrAt (2 : Fin 4) cfg0.N (ix2 n k) = dot (fun d => m ((c : Thread nD τ).loc main_arg0) (ix2 n d)) fun d => packA (m ((c : Thread nD τ).loc main_arg1)) (ix2 d k) := by
  have h := (dats m 0 c).arrAt_emb_eq_flushed (2 : Fin 4) Value.disjoint2 (pt n) (flush_out2 _) (ix2 (inBlock n) k)
  rw [emb_out2, Value.flushed2_A] at h
  refine h.trans ((cut_out2 _ _ _ _).trans ((out_apply2 ..).trans ?_))
  exact congrArg₂ dot (funext fun d => blk_x m c _ _ d n (row_split n)) (funext fun d => blk_a m c _ d k)

/-- The second result after the run, at an index. -/
theorem arr_apply3 (n : Fin 32768) (k : Fin 2688) :
    (dats m 0 c).arrAt (3 : Fin 4) cfg0.N (ix2 n k) = dot (fun d => m ((c : Thread nD τ).loc main_arg0) (ix2 n d)) fun d => packF (m ((c : Thread nD τ).loc main_arg1)) (ix2 d k) := by
  have h := (dats m 0 c).arrAt_emb_eq_flushed (3 : Fin 4) Value.disjoint3 (pt n) (flush_out3 _) (ix2 (inBlock n) k)
  rw [emb_out3, Value.flushed3_A] at h
  refine h.trans ((cut_out3 _ _ _ _).trans ((out_apply3 ..).trans ?_))
  exact congrArg₂ dot (funext fun d => blk_x m c _ _ d n (row_split n)) (funext fun d => blk_f m c _ d k)

theorem algebraic : Cert.algebraic_EvenInIdeal_EvenInRefIdeal := fun m g m' g' _ hsame => by
  refine ⟨fun c => (dats m 0 c).arrAt (2 : Fin 4) cfg0.N, fun c => (dats m 0 c).arrAt (3 : Fin 4) cfg0.N, Value.run_blocks m g, ?_⟩
  refine (θ_run _ _ _).mono (fun r hr c => ⟨(hr c).1.trans (funext fun (i : S32768x1408.Idx) => ?_), (hr c).2.1.trans (funext fun (i : S32768x2688.Idx) => ?_), (hr c).2.2⟩) (Cert.EvenInRefIdeal.Value.run m' g')
  · rw [(hsame c).1, (hsame c).2, ← ix2_eta i]
    exact (EvenInRef.layA_apply _ _ _ (i 0) (i 1) (EvenInRef.dot_apply _ _ (i 0))).trans (arr_apply2 m c (i 0) (i 1)).symm
  · rw [(hsame c).1, (hsame c).2, ← ix2_eta i]
    exact (EvenInRef.layF_apply _ _ _ (i 0) (i 1) (EvenInRef.dot_apply _ _ (i 0))).trans (arr_apply3 m c (i 0) (i 1)).symm

end Cert.Proof.EvenIn

end
-- ==== Proof.PrepVal.lean ====
/-
  The discretised parameters of the state layer: the call and its reference compute the same arrays over the reals.
-/
module

public import proofs.«01_k».proof.Proof.Gen.PrepIdeal.Value
public import proofs.«01_k».proof.Proof.Gen.PrepRefIdeal.Run
public import proofs.«01_k».proof.Proof.Rows
public import proofs.«01_k».proof.Defs

@[expose] public section

set_option maxRecDepth 16384

noncomputable section

namespace Cert.Proof.Prep

open Idealize.ShloMosaic Cert.PrepRefIdeal Cert.PrepRefIdeal.Gen

/-- The reference's frame. -/
theorem ref_frame : Cert.quiescent_PrepRefIdeal := fun m ρ _ =>
  (θ_run _ _ _).mono (fun r h => ⟨fun c => (h c).2.2.2.2, sem_eq_zero_of_no_sems (by decide) r.2⟩) (Cert.PrepRefIdeal.Value.run m ρ)

section Reference

variable (a b : FVec Ideal S64x64 .f32) (d : FVec Ideal S64 .f32) (u v : FVec Ideal S64x64x16 .f32)

/-- The reference's decay rates, cut off below zero. -/
def refRate : FVec Ideal S64x64 .f32 := minimumf a (broadcastInDim S64x64 ![] bcast_S_S64x64 (constant S_ .f32 0xB8D1B717#32))
/-- The reference's time steps, one for each group. -/
def refStep : FVec Ideal S64x64 .f32 := broadcastInDim S64x64 ![0, 1] bcast_S64x1_S64x64_0_1 (broadcastInDim S64x1 ![0] bcast_S64_S64x1_0 (Host.exp d))
/-- The real and imaginary parts of the reference's discretised state matrix. -/
def refRe : FVec Ideal S64x64 .f32 := mulf (Host.exp (mulf (refRate a) (refStep d))) (Host.cos (mulf b (refStep d)))
def refIm : FVec Ideal S64x64 .f32 := mulf (Host.exp (mulf (refRate a) (refStep d))) (Host.sin (mulf b (refStep d)))
def refDen : FVec Ideal S64x64 .f32 := addf (mulf (refRate a) (refRate a)) (mulf b b)
def refLess : FVec Ideal S64x64 .f32 := subf (refRe a b d) (broadcastInDim S64x64 ![] bcast_S_S64x64 (constant S_ .f32 0x3F800000#32))
/-- The real and imaginary parts of the reference's coefficient of the inputs. -/
def refCoefRe : FVec Ideal S64x64 .f32 := Host.divf (addf (mulf (refLess a b d) (refRate a)) (mulf (refIm a b d) b)) (refDen a b)
def refCoefIm : FVec Ideal S64x64 .f32 := Host.divf (subf (mulf (refIm a b d) (refRate a)) (mulf (refLess a b d) b)) (refDen a b)
/-- A coefficient repeated along the inputs of its group. -/
def spread (z : FVec Ideal S64x64 .f32) : FVec Ideal S64x64x16 .f32 :=
  broadcastInDim S64x64x16 ![0, 1, 2] bcast_S64x64x1_S64x64x16_0_1_2 (broadcastInDim S64x64x1 ![0, 1] bcast_S64x64_S64x64x1_0_1 z)
def refInRe : FVec Ideal S64x64x16 .f32 := subf (mulf (spread (refCoefRe a b d)) u) (mulf (spread (refCoefIm a b d)) v)
def refInIm : FVec Ideal S64x64x16 .f32 := addf (mulf (spread (refCoefRe a b d)) v) (mulf (spread (refCoefIm a b d)) u)

end Reference

end Cert.Proof.Prep

namespace Cert.Proof.Prep

open Idealize.ShloMosaic Idealize.ShloMosaic.TcCoe
open Cert.Proof.Rows Cert.PrepIdeal Cert.PrepIdeal.Gen
open Idealize.ShloMosaic.Pipeline (Dat)

/-- A square laid out as a column. -/
def col (z : FVec Ideal S64x64 .f32) : FVec Ideal S4096x1 .f32 := shapeCast _ z shapeCasts_S64x64_S4096x1
def wide (z : FVec Ideal S64x64x16 .f32) : FVec Ideal S4096x16 .f32 := shapeCast _ z shapeCasts_S64x64x16_S4096x16
def steps (d : FVec Ideal S64 .f32) : FVec Ideal S64x64 .f32 := broadcastInDim S64x64 ![0, 1] bcast_S64x1_S64x64_0_1 (broadcastInDim S64x1 ![0] bcast_S64_S64x1_0 d)

variable (a b : FVec Ideal S64x64 .f32) (d : FVec Ideal S64 .f32) (u v : FVec Ideal S64x64x16 .f32)

theorem pay6_apply (n : Fin 4096) (k : Fin 1) : k0_pay6 (col a) (col b) (col (steps d)) (ix2 n k) = col (refRe a b d) (ix2 n k) := by
  pointwise [k0_pay6, k0_pay2, k0_pay3, k0_pay4, k0_pay5, col, steps, refRe, refRate, refStep]

theorem pay7_apply (n : Fin 4096) (k : Fin 1) : k0_pay7 (col a) (col b) (col (steps d)) (ix2 n k) = col (refIm a b d) (ix2 n k) := by
  pointwise [k0_pay7, k0_pay2, k0_pay3, k0_pay4, k0_pay5, col, steps, refIm, refRate, refStep]

theorem coef_re_apply (n : Fin 4096) (k : Fin 1) : k0_pay10 (col a) (col b) (col (steps d)) (ix2 n k) = col (refCoefRe a b d) (ix2 n k) := by
  pointwise [k0_pay10, k0_pay9, k0_pay8, k0_pay7, k0_pay6, k0_pay2, k0_pay3, k0_pay4, k0_pay5, col, steps, refCoefRe, refLess, refDen, refRe, refIm, refRate, refStep]

theorem coef_im_apply (n : Fin 4096) (k : Fin 1) : k0_pay11 (col a) (col b) (col (steps d)) (ix2 n k) = col (refCoefIm a b d) (ix2 n k) := by
  pointwise [k0_pay11, k0_pay9, k0_pay8, k0_pay7, k0_pay6, k0_pay2, k0_pay3, k0_pay4, k0_pay5, col, steps, refCoefIm, refLess, refDen, refRe, refIm, refRate, refStep]

theorem coef_re : k0_pay10 (col a) (col b) (col (steps d)) = col (refCoefRe a b d) :=
  funext fun (i : S4096x1.Idx) => by rw [← ix2_eta i]; exact coef_re_apply a b d (i 0) (i 1)

theorem coef_im : k0_pay11 (col a) (col b) (col (steps d)) = col (refCoefIm a b d) :=
  funext fun (i : S4096x1.Idx) => by rw [← ix2_eta i]; exact coef_im_apply a b d (i 0) (i 1)

/-- The inputs' matrices, once the coefficients are known. -/
theorem pay12_apply (n : Fin 4096) (k : Fin 16) : k0_pay12 (col a) (col b) (col (steps d)) (wide u) (wide v) (ix2 n k) = wide (refInRe a b d u v) (ix2 n k) := by
  unfold k0_pay12
  rw [coef_re, coef_im]
  unfold refInRe
  generalize refCoefRe a b d = p
  generalize refCoefIm a b d = q
  pointwise [col, wide, spread]

theorem pay1_apply (n : Fin 4096) (k : Fin 16) : k0_pay1 (col (refCoefRe a b d)) (col (refCoefIm a b d)) (wide v) (wide u) (ix2 n k) = wide (refInIm a b d u v) (ix2 n k) := by
  unfold refInIm
  generalize refCoefRe a b d = p
  generalize refCoefIm a b d = q
  pointwise [k0_pay1, col, wide, spread]

theorem out5 (n : Fin 4096) (k : Fin 1) : out0_5 (F := Ideal) (col a) (col b) (col (steps d)) (wide u) (wide v) (ix2 n k) = col (refRe a b d) (ix2 n k) := by
  unfold out0_5
  rw [View.canon_unit_zero zeros, View.ld_unit_zero zeros, View.ld_unit_zero zeros, View.ld_unit_zero zeros]
  exact pay6_apply a b d n k

theorem out6 (n : Fin 4096) (k : Fin 1) : out0_6 (F := Ideal) (col a) (col b) (col (steps d)) (wide u) (wide v) (ix2 n k) = col (refIm a b d) (ix2 n k) := by
  unfold out0_6
  rw [View.canon_unit_zero zeros, View.ld_unit_zero zeros, View.ld_unit_zero zeros, View.ld_unit_zero zeros]
  exact pay7_apply a b d n k

theorem out7 (n : Fin 4096) (k : Fin 16) : out0_7 (F := Ideal) (col a) (col b) (col (steps d)) (wide u) (wide v) (ix2 n k) = wide (refInRe a b d u v) (ix2 n k) := by
  unfold out0_7
  rw [View.canon_unit_zero zeros, View.ld_unit_zero zeros, View.ld_unit_zero zeros, View.ld_unit_zero zeros, View.ld_unit_zero zeros, View.ld_unit_zero zeros]
  exact pay12_apply a b d u v n k

theorem out8 (n : Fin 4096) (k : Fin 16) : out0_8 (F := Ideal) (col a) (col b) (col (steps d)) (wide u) (wide v) (ix2 n k) = wide (refInIm a b d u v) (ix2 n k) := by
  unfold out0_8
  rw [View.canon_unit_zero zeros, View.ld_unit_zero zeros, View.ld_unit_zero zeros, View.ld_unit_zero zeros, View.ld_unit_zero zeros, View.ld_unit_zero zeros]
  rw [coef_re, coef_im]
  exact pay1_apply a b d u v n k

section Arrays

variable (m : (ℓ : Loc nD τ sig) → Buf (Elt Ideal) ℓ) (c : Dev nD)

theorem V_a : V m c main_v2 = col (m ((c : Thread nD τ).loc main_arg0)) := rfl
theorem V_b : V m c main_v3 = col (m ((c : Thread nD τ).loc main_arg1)) := rfl
theorem V_d : V m c main_v4 = col (steps (m ((c : Thread nD τ).loc main_arg2))) := rfl
theorem V_u : V m c main_v5 = wide (m ((c : Thread nD τ).loc main_arg3)) := rfl
theorem V_v : V m c main_v6 = wide (m ((c : Thread nD τ).loc main_arg4)) := rfl

/-- Every window holds the whole of its array: its block starts at zero. -/
theorem index_zero : ∀ (w : Fin 9) (t : Fin cfg0.N) (x : Fin (cfg0.win w).shape.rank), (cfg0.win w).index t x = 0 :=
  (by decide +kernel : ∀ (w : Fin 9) (t : Fin grid0.N) (x : Fin (win0 w).shape.rank), (win0 w).index t x = 0)

theorem blk_a (t : Fin cfg0.N) : (iblk m c 0 t : Vec Ideal S4096x1 .f32) = col (m ((c : Thread nD τ).loc main_arg0)) :=
  funext fun (i : S4096x1.Idx) => (congrArg (V m c main_v2) (funext fun x => Fin.ext (Pipeline.Window.rect_emb_val_of_index_zero (cfg0.win 0) t x (index_zero 0 t x) i) : ((cfg0.win 0).blk t).view.emb i = i)).trans (congrFun (V_a m c) i)

theorem blk_b (t : Fin cfg0.N) : (iblk m c 1 t : Vec Ideal S4096x1 .f32) = col (m ((c : Thread nD τ).loc main_arg1)) :=
  funext fun (i : S4096x1.Idx) => (congrArg (V m c main_v3) (funext fun x => Fin.ext (Pipeline.Window.rect_emb_val_of_index_zero (cfg0.win 1) t x (index_zero 1 t x) i) : ((cfg0.win 1).blk t).view.emb i = i)).trans (congrFun (V_b m c) i)

theorem blk_d (t : Fin cfg0.N) : (iblk m c 2 t : Vec Ideal S4096x1 .f32) = col (steps (m ((c : Thread nD τ).loc main_arg2))) :=
  funext fun (i : S4096x1.Idx) => (congrArg (V m c main_v4) (funext fun x => Fin.ext (Pipeline.Window.rect_emb_val_of_index_zero (cfg0.win 2) t x (index_zero 2 t x) i) : ((cfg0.win 2).blk t).view.emb i = i)).trans (congrFun (V_d m c) i)

theorem blk_u (t : Fin cfg0.N) : (iblk m c 3 t : Vec Ideal S4096x16 .f32) = wide (m ((c : Thread nD τ).loc main_arg3)) :=
  funext fun (i : S4096x16.Idx) => (congrArg (V m c main_v5) (funext fun x => Fin.ext (Pipeline.Window.rect_emb_val_of_index_zero (cfg0.win 3) t x (index_zero 3 t x) i) : ((cfg0.win 3).blk t).view.emb i = i)).trans (congrFun (V_u m c) i)

theorem blk_v (t : Fin cfg0.N) : (iblk m c 4 t : Vec Ideal S4096x16 .f32) = wide (m ((c : Thread nD τ).loc main_arg4)) :=
  funext fun (i : S4096x16.Idx) => (congrArg (V m c main_v6) (funext fun x => Fin.ext (Pipeline.Window.rect_emb_val_of_index_zero (cfg0.win 4) t x (index_zero 4 t x) i) : ((cfg0.win 4).blk t).view.emb i = i)).trans (congrFun (V_v m c) i)

/-- The call's one point. -/
def pt : Fin cfg0.N := ⟨0, (by decide +kernel : 0 < grid0.N)⟩

theorem flush_out : ∀ (w : Fin 9), 5 ≤ w.val → (cfg0.win w).flush pt = true :=
  fun w h => (by decide +kernel : ∀ (w : Fin 9), 5 ≤ w.val → ∀ t : Fin grid0.N, (win0 w).flush t = true) w h pt

theorem cut_col5 (t : Fin cfg0.N) (f : Vec Ideal S4096x1 .f32) (n : Fin 4096) (k : Fin 1) : (cfg0.win 5).cut (grid0.coords t) f (ix2 n k) = f (ix2 n k) := rfl
theorem cut_col6 (t : Fin cfg0.N) (f : Vec Ideal S4096x1 .f32) (n : Fin 4096) (k : Fin 1) : (cfg0.win 6).cut (grid0.coords t) f (ix2 n k) = f (ix2 n k) := rfl
theorem cut_wide7 (t : Fin cfg0.N) (f : Vec Ideal S4096x16 .f32) (n : Fin 4096) (k : Fin 16) : (cfg0.win 7).cut (grid0.coords t) f (ix2 n k) = f (ix2 n k) := rfl
theorem cut_wide8 (t : Fin cfg0.N) (f : Vec Ideal S4096x16 .f32) (n : Fin 4096) (k : Fin 16) : (cfg0.win 8).cut (grid0.coords t) f (ix2 n k) = f (ix2 n k) := rfl

/-! What the point writes back, and the results after the run, at an index. -/

theorem flushed5_apply (t : Fin cfg0.N) (n : Fin 4096) (k : Fin 1) : (dats m 0 c).flushed 5 t (ix2 n k) = col (refRe (m ((c : Thread nD τ).loc main_arg0)) (m ((c : Thread nD τ).loc main_arg1)) (m ((c : Thread nD τ).loc main_arg2))) (ix2 n k) := by
  rw [Value.flushed5, blk_a, blk_b, blk_d, blk_u, blk_v]
  exact (cut_col5 t _ n k).trans (out5 ..)

theorem arr5 (n : Fin 4096) (k : Fin 1) : (dats m 0 c).arrAt (5 : Fin 9) cfg0.N (ix2 n k) = col (refRe (m ((c : Thread nD τ).loc main_arg0)) (m ((c : Thread nD τ).loc main_arg1)) (m ((c : Thread nD τ).loc main_arg2))) (ix2 n k) := by
  have h := (dats m 0 c).arrAt_emb_eq_flushed (5 : Fin 9) Value.disjoint5 pt (flush_out 5 (by decide)) (ix2 n k)
  rw [show ((cfg0.win 5).blk pt).view.emb (ix2 n k) = ix2 n k from funext fun x => Fin.ext (Pipeline.Window.rect_emb_val_of_index_zero (cfg0.win 5) pt x (index_zero 5 pt x) (ix2 n k)), flushed5_apply] at h
  exact h

theorem flushed6_apply (t : Fin cfg0.N) (n : Fin 4096) (k : Fin 1) : (dats m 0 c).flushed 6 t (ix2 n k) = col (refIm (m ((c : Thread nD τ).loc main_arg0)) (m ((c : Thread nD τ).loc main_arg1)) (m ((c : Thread nD τ).loc main_arg2))) (ix2 n k) := by
  rw [Value.flushed6, blk_a, blk_b, blk_d, blk_u, blk_v]
  exact (cut_col6 t _ n k).trans (out6 ..)

theorem arr6 (n : Fin 4096) (k : Fin 1) : (dats m 0 c).arrAt (6 : Fin 9) cfg0.N (ix2 n k) = col (refIm (m ((c : Thread nD τ).loc main_arg0)) (m ((c : Thread nD τ).loc main_arg1)) (m ((c : Thread nD τ).loc main_arg2))) (ix2 n k) := by
  have h := (dats m 0 c).arrAt_emb_eq_flushed (6 : Fin 9) Value.disjoint6 pt (flush_out 6 (by decide)) (ix2 n k)
  rw [show ((cfg0.win 6).blk pt).view.emb (ix2 n k) = ix2 n k from funext fun x => Fin.ext (Pipeline.Window.rect_emb_val_of_index_zero (cfg0.win 6) pt x (index_zero 6 pt x) (ix2 n k)), flushed6_apply] at h
  exact h

theorem flushed7_apply (t : Fin cfg0.N) (n : Fin 4096) (k : Fin 16) : (dats m 0 c).flushed 7 t (ix2 n k) = wide (refInRe (m ((c : Thread nD τ).loc main_arg0)) (m ((c : Thread nD τ).loc main_arg1)) (m ((c : Thread nD τ).loc main_arg2)) (m ((c : Thread nD τ).loc main_arg3)) (m ((c : Thread nD τ).loc main_arg4))) (ix2 n k) := by
  rw [Value.flushed7, blk_a, blk_b, blk_d, blk_u, blk_v]
  exact (cut_wide7 t _ n k).trans (out7 ..)

theorem arr7 (n : Fin 4096) (k : Fin 16) : (dats m 0 c).arrAt (7 : Fin 9) cfg0.N (ix2 n k) = wide (refInRe (m ((c : Thread nD τ).loc main_arg0)) (m ((c : Thread nD τ).loc main_arg1)) (m ((c : Thread nD τ).loc main_arg2)) (m ((c : Thread nD τ).loc main_arg3)) (m ((c : Thread nD τ).loc main_arg4))) (ix2 n k) := by
  have h := (dats m 0 c).arrAt_emb_eq_flushed (7 : Fin 9) Value.disjoint7 pt (flush_out 7 (by decide)) (ix2 n k)
  rw [show ((cfg0.win 7).blk pt).view.emb (ix2 n k) = ix2 n k from funext fun x => Fin.ext (Pipeline.Window.rect_emb_val_of_index_zero (cfg0.win 7) pt x (index_zero 7 pt x) (ix2 n k)), flushed7_apply] at h
  exact h

theorem flushed8_apply (t : Fin cfg0.N) (n : Fin 4096) (k : Fin 16) : (dats m 0 c).flushed 8 t (ix2 n k) = wide (refInIm (m ((c : Thread nD τ).loc main_arg0)) (m ((c : Thread nD τ).loc main_arg1)) (m ((c : Thread nD τ).loc main_arg2)) (m ((c : Thread nD τ).loc main_arg3)) (m ((c : Thread nD τ).loc main_arg4))) (ix2 n k) := by
  rw [Value.flushed8, blk_a, blk_b, blk_d, blk_u, blk_v]
  exact (cut_wide8 t _ n k).trans (out8 ..)

theorem arr8 (n : Fin 4096) (k : Fin 16) : (dats m 0 c).arrAt (8 : Fin 9) cfg0.N (ix2 n k) = wide (refInIm (m ((c : Thread nD τ).loc main_arg0)) (m ((c : Thread nD τ).loc main_arg1)) (m ((c : Thread nD τ).loc main_arg2)) (m ((c : Thread nD τ).loc main_arg3)) (m ((c : Thread nD τ).loc main_arg4))) (ix2 n k) := by
  have h := (dats m 0 c).arrAt_emb_eq_flushed (8 : Fin 9) Value.disjoint8 pt (flush_out 8 (by decide)) (ix2 n k)
  rw [show ((cfg0.win 8).blk pt).view.emb (ix2 n k) = ix2 n k from funext fun x => Fin.ext (Pipeline.Window.rect_emb_val_of_index_zero (cfg0.win 8) pt x (index_zero 8 pt x) (ix2 n k)), flushed8_apply] at h
  exact h

end Arrays

theorem algebraic : Cert.algebraic_PrepIdeal_PrepRefIdeal := fun m g m' g' _ hsame => by
  refine ⟨fun c => (dats m 0 c).arrAt (5 : Fin 9) cfg0.N, fun c => (dats m 0 c).arrAt (6 : Fin 9) cfg0.N, fun c => (dats m 0 c).arrAt (7 : Fin 9) cfg0.N, fun c => (dats m 0 c).arrAt (8 : Fin 9) cfg0.N, Value.run_blocks m g, ?_⟩
  refine (θ_run _ _ _).mono (fun r hr c => ⟨(hr c).1.trans (funext fun (i : S4096x1.Idx) => ?_), (hr c).2.1.trans (funext fun (i : S4096x1.Idx) => ?_),
    (hr c).2.2.1.trans (funext fun (i : S4096x16.Idx) => ?_), (hr c).2.2.2.1.trans (funext fun (i : S4096x16.Idx) => ?_), (hr c).2.2.2.2⟩) (Cert.PrepRefIdeal.Value.run m' g')
  all_goals rw [(hsame c).1, (hsame c).2.1, (hsame c).2.2.1, ← ix2_eta i]
  · exact (arr5 m c (i 0) (i 1)).symm
  · exact (arr6 m c (i 0) (i 1)).symm
  · rw [(hsame c).2.2.2.1, (hsame c).2.2.2.2]
    exact (arr7 m c (i 0) (i 1)).symm
  · rw [(hsame c).2.2.2.1, (hsame c).2.2.2.2]
    exact (arr8 m c (i 0) (i 1)).symm

end Cert.Proof.Prep

end
-- ==== Proof.lean ====
/-
  The proof of the claims.
-/
module

public import proofs.«01_k».proof.Defs
public import proofs.«01_k».proof.Proof.Gen.Kernel
public import proofs.«01_k».proof.Proof.Gen.Kernel.Launch
public import proofs.«01_k».proof.Proof.Gen.Kernel.Frame
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.HierIdeal
public import proofs.«01_k».proof.Proof.Gen.HierIdeal.Run
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluIdeal.Value
public import proofs.«01_k».proof.Proof.Gen.GluRefIdeal
public import proofs.«01_k».proof.Proof.Gen.GluRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.StateIn
public import proofs.«01_k».proof.Proof.Gen.StateIn.Frame
public import proofs.«01_k».proof.Proof.Gen.StateInIdeal
public import proofs.«01_k».proof.Proof.Gen.StateInIdeal.Frame
public import proofs.«01_k».proof.Proof.Gen.StateInIdeal.Value
public import proofs.«01_k».proof.Proof.Gen.StateInRefIdeal
public import proofs.«01_k».proof.Proof.Gen.StateInRefIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInIdeal.Value
public import proofs.«01_k».proof.Proof.Gen.EvenInRefIdeal
public import proofs.«01_k».proof.Proof.Gen.EvenInRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.Gen.Pre_tiles_in_range
public import proofs.«01_k».proof.Proof.DsaFrame
public import proofs.«01_k».proof.Proof.ExpClaim
public import proofs.«01_k».proof.Proof.HierFrame
public import proofs.«01_k».proof.Proof.Algebra
public import proofs.«01_k».proof.Proof.GluVal
public import proofs.«01_k».proof.Proof.OutVal
public import proofs.«01_k».proof.Proof.StateVal
public import proofs.«01_k».proof.Proof.EvenVal
public import proofs.«01_k».proof.Proof.PrepVal

@[expose] public section

theorem Cert.Proof.claim : Cert.Claim :=
  ⟨Cert.Kernel.Gen.facts, Cert.Experts.Gen.facts, Cert.ExpertsIdeal.Gen.facts, Cert.HierIdeal.Gen.facts,
    Cert.Glu.Gen.facts, Cert.GluIdeal.Gen.facts, Cert.GluRefIdeal.Gen.facts,
    Cert.OutProj.Gen.facts, Cert.OutProjIdeal.Gen.facts, Cert.OutProjRefIdeal.Gen.facts,
    Cert.StateIn.Gen.facts, Cert.StateInIdeal.Gen.facts, Cert.StateInRefIdeal.Gen.facts,
    Cert.EvenIn.Gen.facts, Cert.EvenInIdeal.Gen.facts, Cert.EvenInRefIdeal.Gen.facts,
    Cert.Prep.Gen.facts, Cert.PrepIdeal.Gen.facts, Cert.PrepRefIdeal.Gen.facts,
    Cert.Pre_tiles_in_range.Gen.facts,
    fun m ρ _ => Cert.Proof.Kernel.run0 m ρ, Cert.Proof.Experts.frame_bits, Cert.Proof.Experts.frame_ideal,
    Cert.Proof.Hier.frame, fun m g _ => Cert.Proof.Hier.frame m g trivial,
    fun m ρ _ => Cert.Glu.Gen.frame m ρ, fun m ρ _ => Cert.GluIdeal.Gen.frame m ρ, Cert.Proof.Glu.ref_frame,
    fun m ρ _ => Cert.OutProj.Gen.frame m ρ, fun m ρ _ => Cert.OutProjIdeal.Gen.frame m ρ, Cert.Proof.OutProj.ref_frame,
    fun m ρ _ => Cert.StateIn.Gen.frame m ρ, fun m ρ _ => Cert.StateInIdeal.Gen.frame m ρ, Cert.Proof.StateIn.ref_frame,
    fun m ρ _ => Cert.EvenIn.Gen.frame m ρ, fun m ρ _ => Cert.EvenInIdeal.Gen.frame m ρ, Cert.Proof.EvenInRef.ref_frame,
    fun m ρ _ => Cert.Prep.Gen.frame m ρ, fun m ρ _ => Cert.PrepIdeal.Gen.frame m ρ, Cert.Proof.Prep.ref_frame,
    trivial, Cert.Proof.Algebra.algebraic,
    trivial, Cert.Proof.Glu.algebraic,
    trivial, Cert.Proof.OutProj.algebraic,
    trivial, Cert.Proof.StateIn.algebraic,
    trivial, Cert.Proof.EvenIn.algebraic,
    trivial, Cert.Proof.Prep.algebraic⟩
